-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)) (v6 : (c : Dev Cert.KernelIdeal.nD) → Buf (Elt Ideal) ((c.tc : Thread Cert.KernelIdeal.nD Cert.KernelIdeal.τ).loc Cert.KernelIdeal.main_v5_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_v5_5) = v5 c
          ∧ r.2.mem ((c.tc : Thread Cert.KernelIdeal.nD Cert.KernelIdeal.τ).loc Cert.KernelIdeal.main_v5_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_v34) = v4 c
          ∧ r.2.mem ((c.tc : Thread Cert.ReferenceIdeal.nD Cert.ReferenceIdeal.τ).loc Cert.ReferenceIdeal.main_v50) = v5 c
          ∧ r.2.mem ((c.tc : Thread Cert.ReferenceIdeal.nD Cert.ReferenceIdeal.τ).loc Cert.ReferenceIdeal.main_v57) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S2048x12288 : Shape := ⟨2, ![2048, 12288]⟩
abbrev S2048 : Shape := ⟨1, ![2048]⟩
abbrev S12288x160 : Shape := ⟨2, ![12288, 160]⟩
abbrev S2048x6 : Shape := ⟨2, ![2048, 6]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S2048x12288 .fp8e4m3) (main_arg1 : FVec F S2048 .f32) (main_arg2 : FVec F S12288x160 .bf16) (main_arg3 : IVec S2048x6 32) (main_arg4 : IVec S2048 32) : IVec S2048 1 :=
  let main_c : IVec S_ 32 := constantI S_ 32 5#32
  let main_v0 : IVec S2048 32 := broadcastInDim S2048 ![] bcast_S_S2048 main_c
  let main_v1 : IVec S2048 1 := cmpi .slt main_arg4 main_v0
  main_v1
-- ==== Kernel.lean ====
abbrev S2048x12288 : Shape := ⟨2, ![2048, 12288]⟩
abbrev S2048 : Shape := ⟨1, ![2048]⟩
abbrev S12288x160 : Shape := ⟨2, ![12288, 160]⟩
abbrev S2048x6 : Shape := ⟨2, ![2048, 6]⟩
abbrev S1x2048 : Shape := ⟨2, ![1, 2048]⟩
abbrev S160x12288 : Shape := ⟨2, ![160, 12288]⟩
abbrev S6x2048 : Shape := ⟨2, ![6, 2048]⟩
abbrev S160x2048 : Shape := ⟨2, ![160, 2048]⟩
abbrev S5 : Shape := ⟨1, ![5]⟩
abbrev S5x160 : Shape := ⟨2, ![5, 160]⟩
abbrev S5x8 : Shape := ⟨2, ![5, 8]⟩
abbrev S256x12288 : Shape := ⟨2, ![256, 12288]⟩
abbrev S1x256 : Shape := ⟨2, ![1, 256]⟩
abbrev S160x256 : Shape := ⟨2, ![160, 256]⟩
abbrev S160x128 : Shape := ⟨2, ![160, 128]⟩
abbrev S1x128 : Shape := ⟨2, ![1, 128]⟩
abbrev S5x160x128 : Shape := ⟨3, ![5, 160, 128]⟩
abbrev S16x128 : Shape := ⟨2, ![16, 128]⟩
abbrev S160 : Shape := ⟨1, ![160]⟩
abbrev S160x1 : Shape := ⟨2, ![160, 1]⟩
abbrev S16 : Shape := ⟨1, ![16]⟩
abbrev S16x1 : Shape := ⟨2, ![16, 1]⟩
abbrev S128x160 : Shape := ⟨2, ![128, 160]⟩
abbrev S112x128 : Shape := ⟨2, ![112, 128]⟩
abbrev S128x128 : Shape := ⟨2, ![128, 128]⟩
abbrev S24x128 : Shape := ⟨2, ![24, 128]⟩
abbrev S128 : Shape := ⟨1, ![128]⟩
abbrev S8x128 : Shape := ⟨2, ![8, 128]⟩
abbrev S160x128x1 : Shape := ⟨3, ![160, 128, 1]⟩
abbrev S1x160x128 : Shape := ⟨3, ![1, 160, 128]⟩
abbrev S1x5 : Shape := ⟨2, ![1, 5]⟩

abbrev nBuf : Space → Nat
  | .hbm => 17
  | .vmem => 23
  | .smem => 0
  | _ => 0

abbrev bufTy : (tb : Table) → Fin (tcTables nBuf tb) → BufTy
  | .hbm, ⟨0, _⟩ => ⟨S2048x12288, .fp8e4m3⟩
  | .hbm, ⟨1, _⟩ => ⟨S2048, .f32⟩
  | .hbm, ⟨2, _⟩ => ⟨S12288x160, .bf16⟩
  | .hbm, ⟨3, _⟩ => ⟨S2048x6, .i32⟩
  | .hbm, ⟨4, _⟩ => ⟨S2048, .i32⟩
  | .hbm, ⟨5, _⟩ => ⟨S1x2048, .f32⟩
  | .hbm, ⟨6, _⟩ => ⟨S160x12288, .bf16⟩
  | .hbm, ⟨7, _⟩ => ⟨S6x2048, .i32⟩
  | .hbm, ⟨8, _⟩ => ⟨S1x2048, .i32⟩
  | .hbm, ⟨9, _⟩ => ⟨S1x2048, .i32⟩
  | .hbm, ⟨10, _⟩ => ⟨S160x2048, .f32⟩
  | .hbm, ⟨11, _⟩ => ⟨S5, .f32⟩
  | .hbm, ⟨12, _⟩ => ⟨S5, .f32⟩
  | .hbm, ⟨13, _⟩ => ⟨S5, .f32⟩
  | .hbm, ⟨14, _⟩ => ⟨S5x160, .f32⟩
  | .hbm, ⟨15, _⟩ => ⟨S5x160, .i32⟩
  | .hbm, ⟨16, _⟩ => ⟨S5x8, .i32⟩
  | .local _ .vmem, ⟨0, _⟩ => ⟨S256x12288, .fp8e4m3⟩
  | .local _ .vmem, ⟨1, _⟩ => ⟨S256x12288, .fp8e4m3⟩
  | .local _ .vmem, ⟨2, _⟩ => ⟨S1x256, .f32⟩
  | .local _ .vmem, ⟨3, _⟩ => ⟨S1x256, .f32⟩
  | .local _ .vmem, ⟨4, _⟩ => ⟨S160x12288, .bf16⟩
  | .local _ .vmem, ⟨5, _⟩ => ⟨S6x2048, .i32⟩
  | .local _ .vmem, ⟨6, _⟩ => ⟨S1x256, .i32⟩
  | .local _ .vmem, ⟨7, _⟩ => ⟨S1x256, .i32⟩
  | .local _ .vmem, ⟨8, _⟩ => ⟨S1x2048, .i32⟩
  | .local _ .vmem, ⟨9, _⟩ => ⟨S160x256, .f32⟩
  | .local _ .vmem, ⟨10, _⟩ => ⟨S160x256, .f32⟩
  | .local _ .vmem, ⟨11, _⟩ => ⟨S5, .f32⟩
  | .local _ .vmem, ⟨12, _⟩ => ⟨S5, .f32⟩
  | .local _ .vmem, ⟨13, _⟩ => ⟨S5, .f32⟩
  | .local _ .vmem, ⟨14, _⟩ => ⟨S5x160, .f32⟩
  | .local _ .vmem, ⟨15, _⟩ => ⟨S5x160, .i32⟩
  | .local _ .vmem, ⟨16, _⟩ => ⟨S5x8, .i32⟩
  | .local _ .vmem, ⟨17, _⟩ => ⟨S160x128, .f32⟩
  | .local _ .vmem, ⟨18, _⟩ => ⟨S160x128, .f32⟩
  | .local _ .vmem, ⟨19, _⟩ => ⟨S160x128, .f32⟩
  | .local _ .vmem, ⟨20, _⟩ => ⟨S160x128, .f32⟩
  | .local _ .vmem, ⟨21, _⟩ => ⟨S1x128, .f32⟩
  | .local _ .vmem, ⟨22, _⟩ => ⟨S5x160x128, .f32⟩
  | _, _ => ⟨S2048x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v5_5 : Ref sig .tc := ⟨.hbm, 15, rfl⟩
abbrev main_v5_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v215 : BitVec 1 := Scalar.cmpi .eq arg0 c7_i32
  let v216 : BitVec 32 := Scalar.extui v215
  let c0_i32_105 : BitVec 32 := 0#32
  let v217 : BitVec 1 := Scalar.cmpi .ne v216 c0_i32_105
  v217

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x12288 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S160x12288 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x2048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S160x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5x160 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S5x160 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S5x8 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S2048x12288 : Shape := ⟨2, ![2048, 12288]⟩
abbrev S2048 : Shape := ⟨1, ![2048]⟩
abbrev S12288x160 : Shape := ⟨2, ![12288, 160]⟩
abbrev S2048x6 : Shape := ⟨2, ![2048, 6]⟩
abbrev S2048x160 : Shape := ⟨2, ![2048, 160]⟩
abbrev S2048x1 : Shape := ⟨2, ![2048, 1]⟩
abbrev S_ : Shape := ⟨0, ![]⟩
abbrev S5 : Shape := ⟨1, ![5]⟩
abbrev S5x160 : Shape := ⟨2, ![5, 160]⟩
abbrev S5x1 : Shape := ⟨2, ![5, 1]⟩
abbrev S2048x6x1 : Shape := ⟨3, ![2048, 6, 1]⟩
abbrev S160 : Shape := ⟨1, ![160]⟩
abbrev S1x1x160 : Shape := ⟨3, ![1, 1, 160]⟩
abbrev S2048x6x160 : Shape := ⟨3, ![2048, 6, 160]⟩
abbrev S2048x8x20 : Shape := ⟨3, ![2048, 8, 20]⟩
abbrev S2048x8 : Shape := ⟨2, ![2048, 8]⟩
abbrev S5x8 : Shape := ⟨2, ![5, 8]⟩
abbrev S5x8x20 : Shape := ⟨3, ![5, 8, 20]⟩
abbrev S5x8x1 : Shape := ⟨3, ![5, 8, 1]⟩
abbrev S160x2048 : Shape := ⟨2, ![160, 2048]⟩

abbrev nBuf : Space → Nat
  | .hbm => 174
  | .vmem => 2
  | .smem => 0
  | _ => 0

abbrev hbmTy0_0 (i : Nat) : BufTy := match i % 128 with
  | 0 => ⟨S2048x12288, .fp8e4m3⟩
  | 1 => ⟨S2048, .f32⟩
  | 2 => ⟨S12288x160, .bf16⟩
  | 3 => ⟨S2048x6, .i32⟩
  | 4 => ⟨S2048, .i32⟩
  | 5 => ⟨S2048x12288, .bf16⟩
  | 6 => ⟨S2048x160, .f32⟩
  | 7 => ⟨S2048x1, .f32⟩
  | 8 => ⟨S2048x160, .f32⟩
  | 9 => ⟨S2048x160, .f32⟩
  | 10 => ⟨S_, .f32⟩
  | 11 => ⟨S2048, .f32⟩
  | 12 => ⟨S_, .f32⟩
  | 13 => ⟨S2048, .f32⟩
  | 14 => ⟨S2048, .f32⟩
  | 15 => ⟨S2048x1, .f32⟩
  | 16 => ⟨S2048x160, .f32⟩
  | 17 => ⟨S2048x160, .f32⟩
  | 18 => ⟨S2048x160, .f32⟩
  | 19 => ⟨S_, .f32⟩
  | 20 => ⟨S2048, .f32⟩
  | 21 => ⟨S2048x1, .f32⟩
  | 22 => ⟨S2048x160, .f32⟩
  | 23 => ⟨S2048x160, .f32⟩
  | 24 => ⟨S_, .i32⟩
  | 25 => ⟨S2048, .i32⟩
  | 26 => ⟨S2048, .i1⟩
  | 27 => ⟨S_, .i32⟩
  | 28 => ⟨S_, .i32⟩
  | 29 => ⟨S2048, .i32⟩
  | 30 => ⟨S2048, .i32⟩
  | 31 => ⟨S2048, .i32⟩
  | 32 => ⟨S_, .i32⟩
  | 33 => ⟨S5, .i32⟩
  | 34 => ⟨S2048x1, .i32⟩
  | 35 => ⟨S5, .i32⟩
  | 36 => ⟨S_, .i32⟩
  | 37 => ⟨S5, .i32⟩
  | 38 => ⟨S5, .i1⟩
  | 39 => ⟨S5, .f32⟩
  | 40 => ⟨S_, .f32⟩
  | 41 => ⟨S_, .f32⟩
  | 42 => ⟨S5, .f32⟩
  | 43 => ⟨S5, .f32⟩
  | 44 => ⟨S2048x1, .i1⟩
  | 45 => ⟨S_, .f32⟩
  | 46 => ⟨S_, .f32⟩
  | 47 => ⟨S2048x160, .i1⟩
  | 48 => ⟨S2048x160, .f32⟩
  | 49 => ⟨S2048x160, .f32⟩
  | 50 => ⟨S_, .f32⟩
  | 51 => ⟨S5x160, .f32⟩
  | 52 => ⟨S2048x1, .i32⟩
  | 53 => ⟨S5x160, .f32⟩
  | 54 => ⟨S5x1, .f32⟩
  | 55 => ⟨S5x160, .f32⟩
  | 56 => ⟨S5x160, .f32⟩
  | 57 => ⟨S2048x6x1, .i32⟩
  | 58 => ⟨S160, .i32⟩
  | 59 => ⟨S1x1x160, .i32⟩
  | 60 => ⟨S2048x6x160, .i32⟩
  | 61 => ⟨S2048x6x160, .i32⟩
  | 62 => ⟨S2048x6x160, .i1⟩
  | 63 => ⟨S_, .i1⟩
  | 64 => ⟨S2048x160, .i1⟩
  | 65 => ⟨S2048x8x20, .i1⟩
  | 66 => ⟨S_, .i1⟩
  | 67 => ⟨S2048x8, .i1⟩
  | 68 => ⟨S2048x1, .i1⟩
  | 69 => ⟨S2048x160, .i1⟩
  | 70 => ⟨S2048x160, .i1⟩
  | 71 => ⟨S2048x160, .i32⟩
  | 72 => ⟨S_, .i32⟩
  | 73 => ⟨S5x160, .i32⟩
  | 74 => ⟨S2048x1, .i32⟩
  | 75 => ⟨S5x160, .i32⟩
  | 76 => ⟨S2048x1, .i1⟩
  | 77 => ⟨S2048x8, .i1⟩
  | 78 => ⟨S2048x8, .i1⟩
  | 79 => ⟨S2048x8, .i32⟩
  | 80 => ⟨S_, .i32⟩
  | 81 => ⟨S5x8, .i32⟩
  | 82 => ⟨S2048x1, .i32⟩
  | 83 => ⟨S5x8, .i32⟩
  | 84 => ⟨S_, .f32⟩
  | 85 => ⟨S5, .f32⟩
  | 86 => ⟨S5, .f32⟩
  | 87 => ⟨S_, .f32⟩
  | 88 => ⟨S5, .f32⟩
  | 89 => ⟨S5, .f32⟩
  | 90 => ⟨S5x1, .f32⟩
  | 91 => ⟨S5x160, .f32⟩
  | 92 => ⟨S5x160, .f32⟩
  | 93 => ⟨S5x160, .f32⟩
  | 94 => ⟨S5x8x20, .f32⟩
  | 95 => ⟨S_, .f32⟩
  | 96 => ⟨S5x8, .f32⟩
  | 97 => ⟨S_, .f32⟩
  | 98 => ⟨S5x8, .f32⟩
  | 99 => ⟨S5x8, .f32⟩
  | 100 => ⟨S5x8x20, .f32⟩
  | 101 => ⟨S_, .f32⟩
  | 102 => ⟨S5x8, .f32⟩
  | 103 => ⟨S_, .f32⟩
  | 104 => ⟨S5, .f32⟩
  | 105 => ⟨S5, .f32⟩
  | 106 => ⟨S_, .f32⟩
  | 107 => ⟨S5, .f32⟩
  | 108 => ⟨S5, .f32⟩
  | 109 => ⟨S5x1, .f32⟩
  | 110 => ⟨S5x8, .f32⟩
  | 111 => ⟨S5x8, .f32⟩
  | 112 => ⟨S5x8, .f32⟩
  | 113 => ⟨S5x160, .f32⟩
  | 114 => ⟨S_, .f32⟩
  | 115 => ⟨S5, .f32⟩
  | 116 => ⟨S_, .f32⟩
  | 117 => ⟨S5, .f32⟩
  | 118 => ⟨S5, .f32⟩
  | 119 => ⟨S5x8, .f32⟩
  | 120 => ⟨S_, .f32⟩
  | 121 => ⟨S5, .f32⟩
  | 122 => ⟨S_, .f32⟩
  | 123 => ⟨S5, .f32⟩
  | 124 => ⟨S5, .f32⟩
  | 125 => ⟨S5x8, .f32⟩
  | 126 => ⟨S_, .f32⟩
  | 127 => ⟨S5, .f32⟩
  | _ => ⟨S2048x12288, .fp8e4m3⟩

abbrev hbmTy0_1 (i : Nat) : BufTy := match i % 128 with
  | 0 => ⟨S_, .f32⟩
  | 1 => ⟨S5, .f32⟩
  | 2 => ⟨S5, .f32⟩
  | 3 => ⟨S_, .f32⟩
  | 4 => ⟨S5x8x20, .f32⟩
  | 5 => ⟨S5x8x20, .f32⟩
  | 6 => ⟨S_, .f32⟩
  | 7 => ⟨S5x8, .f32⟩
  | 8 => ⟨S5x8, .f32⟩
  | 9 => ⟨S_, .f32⟩
  | 10 => ⟨S5x8, .f32⟩
  | 11 => ⟨S5x8, .f32⟩
  | 12 => ⟨S5x8, .f32⟩
  | 13 => ⟨S5x8x1, .f32⟩
  | 14 => ⟨S5x8x20, .f32⟩
  | 15 => ⟨S5x8x20, .f32⟩
  | 16 => ⟨S5x160, .f32⟩
  | 17 => ⟨S_, .f32⟩
  | 18 => ⟨S5, .f32⟩
  | 19 => ⟨S5, .f32⟩
  | 20 => ⟨S5x1, .f32⟩
  | 21 => ⟨S5x160, .f32⟩
  | 22 => ⟨S5x160, .f32⟩
  | 23 => ⟨S_, .i32⟩
  | 24 => ⟨S2048, .i32⟩
  | 25 => ⟨S2048, .i1⟩
  | 26 => ⟨S_, .i32⟩
  | 27 => ⟨S2048, .i32⟩
  | 28 => ⟨S2048, .i32⟩
  | 29 => ⟨S2048, .i32⟩
  | 30 => ⟨S2048x1, .i32⟩
  | 31 => ⟨S2048x160, .f32⟩
  | 32 => ⟨S2048x1, .i1⟩
  | 33 => ⟨S2048x160, .f32⟩
  | 34 => ⟨S_, .f32⟩
  | 35 => ⟨S2048, .f32⟩
  | 36 => ⟨S2048x1, .f32⟩
  | 37 => ⟨S2048x160, .f32⟩
  | 38 => ⟨S2048x160, .f32⟩
  | 39 => ⟨S2048x160, .f32⟩
  | 40 => ⟨S_, .f32⟩
  | 41 => ⟨S_, .f32⟩
  | 42 => ⟨S2048x160, .i1⟩
  | 43 => ⟨S2048x160, .f32⟩
  | 44 => ⟨S2048x160, .f32⟩
  | 45 => ⟨S160x2048, .f32⟩
  | _ => ⟨S2048x12288, .fp8e4m3⟩

abbrev hbmTy (i : Nat) : BufTy := match i / 128 with
  | 0 => hbmTy0_0 i
  | 1 => hbmTy0_1 i
  | _ => ⟨S2048x12288, .fp8e4m3⟩

abbrev bufTy : (tb : Table) → Fin (tcTables nBuf tb) → BufTy
  | .hbm, ⟨i, _⟩ => hbmTy i
  | .local _ .vmem, ⟨0, _⟩ => ⟨S2048x12288, .fp8e4m3⟩
  | .local _ .vmem, ⟨1, _⟩ => ⟨S2048x12288, .bf16⟩
  | _, _ => ⟨S2048x12288, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_call1_v0 : Ref sig .tc := ⟨.hbm, 41, rfl⟩
abbrev main_call1_v1 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_8 : Ref sig .tc := ⟨.hbm, 63, rfl⟩
abbrev main_v41 : Ref sig .tc := ⟨.hbm, 64, rfl⟩
abbrev main_v42 : Ref sig .tc := ⟨.hbm, 65, rfl⟩
abbrev main_c_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_14 : Ref sig .tc := ⟨.hbm, 95, rfl⟩
abbrev main_v67 : Ref sig .tc := ⟨.hbm, 96, rfl⟩
abbrev main_cst_15 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_16 : Ref sig .tc := ⟨.hbm, 101, rfl⟩
abbrev main_v71 : Ref sig .tc := ⟨.hbm, 102, rfl⟩
abbrev main_cst_17 : Ref sig .tc := ⟨.hbm, 103, rfl⟩
abbrev main_v72 : Ref sig .tc := ⟨.hbm, 104, rfl⟩
abbrev main_v73 : Ref sig .tc := ⟨.hbm, 105, rfl⟩
abbrev main_cst_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_19 : Ref sig .tc := ⟨.hbm, 114, rfl⟩
abbrev main_v81 : Ref sig .tc := ⟨.hbm, 115, rfl⟩
abbrev main_cst_20 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_21 : Ref sig .tc := ⟨.hbm, 120, rfl⟩
abbrev main_v85 : Ref sig .tc := ⟨.hbm, 121, rfl⟩
abbrev main_cst_22 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_23 : Ref sig .tc := ⟨.hbm, 126, rfl⟩
abbrev main_v89 : Ref sig .tc := ⟨.hbm, 127, rfl⟩
abbrev main_cst_24 : Ref sig .tc := ⟨.hbm, 128, rfl⟩
abbrev main_v90 : Ref sig .tc := ⟨.hbm, 129, rfl⟩
abbrev main_v91 : Ref sig .tc := ⟨.hbm, 130, rfl⟩
abbrev main_cst_25 : Ref sig .tc := ⟨.hbm, 131, rfl⟩
abbrev main_v92 : Ref sig .tc := ⟨.hbm, 132, rfl⟩
abbrev main_v93 : Ref sig .tc := ⟨.hbm, 133, rfl⟩
abbrev main_cst_26 : Ref sig .tc := ⟨.hbm, 134, rfl⟩
abbrev main_v94 : Ref sig .tc := ⟨.hbm, 135, rfl⟩
abbrev main_v95 : Ref sig .tc := ⟨.hbm, 136, rfl⟩
abbrev main_cst_27 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_28 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_c_29 : Ref sig .tc := ⟨.hbm, 151, rfl⟩
abbrev main_v108 : Ref sig .tc := ⟨.hbm, 152, rfl⟩
abbrev main_v109 : Ref sig .tc := ⟨.hbm, 153, rfl⟩
abbrev main_c_30 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_31 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_32 : Ref sig .tc := ⟨.hbm, 168, rfl⟩
abbrev main_call3_v0 : Ref sig .tc := ⟨.hbm, 169, rfl⟩
abbrev main_call3_v1 : Ref sig .tc := ⟨.hbm, 170, rfl⟩
abbrev main_call3_v2 : Ref sig .tc := ⟨.hbm, 171, rfl⟩
abbrev main_v122 : Ref sig .tc := ⟨.hbm, 172, rfl⟩
abbrev main_v123 : Ref sig .tc := ⟨.hbm, 173, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2048x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x12288 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KRun.Base.lean ====
/- The conditions of the kernel body in closed form, which outputs a grid point stores, and the names of the buffers
   the body runs on: what the three runs of the body (RunA, RunB, RunC) share. -/
module

public import proofs.«01_k».proof.Proof.Gen.KernelIdeal.Frame
public import proofs.«01_k».proof.Proof.Gen.KernelIdeal.Skeleton
public import Idealize.ShloMosaic.Lib.Pipeline.TableIdle

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_1, k0_cond2, e0]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- At the points of case A the printed configuration (`Cfg.idle`) calls output 7 idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → cond0_1 (grid0.coords t) → cfg0.idle 7 (grid0.coords t) = false := by decide +kernel
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel
/-- At the points of case A the printed configuration (`Cfg.idle`) calls output 9 idle: the case stores nothing into it. -/
theorem idleAt0_9_A : ∀ t : Fin cfg0.N, cond0_0 (grid0.coords t) → ¬cond0_1 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C the printed configuration (`Cfg.idle`) calls output 9 live: the case stores into it. -/
theorem liveAt0_9_C : ∀ t : Fin cfg0.N, ¬cond0_0 (grid0.coords t) → cond0_1 (grid0.coords t) → cfg0.idle 9 (grid0.coords t) = false := by decide +kernel
/-- At the points of case A the printed configuration (`Cfg.idle`) calls output 10 idle: the case stores nothing into it. -/
theorem idleAt0_10_A : ∀ t : Fin cfg0.N, cond0_0 (grid0.coords t) → ¬cond0_1 (grid0.coords t) → cfg0.idle 10 (grid0.coords t) = true := by decide +kernel
/-- At the points of case A the pipeline does not write output 10's block back. -/
theorem noFlush0_10_A : ∀ t : Fin cfg0.N, cond0_0 (grid0.coords t) → ¬cond0_1 (grid0.coords t) → (cfg0.win 10).flush t = false := by decide +kernel
/-- At the points of case B the printed configuration (`Cfg.idle`) calls output 10 idle: the case stores nothing into it. -/
theorem idleAt0_10_B : ∀ t : Fin cfg0.N, ¬cond0_0 (grid0.coords t) → ¬cond0_1 (grid0.coords t) → cfg0.idle 10 (grid0.coords t) = true := by decide +kernel
/-- At the points of case B the pipeline does not write output 10's block back. -/
theorem noFlush0_10_B : ∀ t : Fin cfg0.N, ¬cond0_0 (grid0.coords t) → ¬cond0_1 (grid0.coords t) → (cfg0.win 10).flush t = false := by decide +kernel
/-- At the points of case C the printed configuration (`Cfg.idle`) calls output 10 live: the case stores into it. -/
theorem liveAt0_10_C : ∀ t : Fin cfg0.N, ¬cond0_0 (grid0.coords t) → cond0_1 (grid0.coords t) → cfg0.idle 10 (grid0.coords t) = false := by decide +kernel
/-- At the points of case A the printed configuration (`Cfg.idle`) calls output 11 live: the case stores into it. -/
theorem liveAt0_11_A : ∀ t : Fin cfg0.N, cond0_0 (grid0.coords t) → ¬cond0_1 (grid0.coords t) → cfg0.idle 11 (grid0.coords t) = false := by decide +kernel
/-- At the points of case B the printed configuration (`Cfg.idle`) calls output 11 idle: the case stores nothing into it. -/
theorem idleAt0_11_B : ∀ t : Fin cfg0.N, ¬cond0_0 (grid0.coords t) → ¬cond0_1 (grid0.coords t) → cfg0.idle 11 (grid0.coords t) = true := by decide +kernel
/-- At the point of case C output 11 is idle as well: it is stored at the first point only. -/
theorem idleAt0_11_C : ∀ t : Fin cfg0.N, ¬cond0_0 (grid0.coords t) → cond0_1 (grid0.coords t) → cfg0.idle 11 (grid0.coords t) = true := by decide +kernel
/-- After the first point output 11's buffer holds what that point stored. -/
theorem notFresh0_11 : ∀ t : Fin cfg0.N, t.val ≠ 0 → cfg0.fresh 11 t.val = false := by decide +kernel
/-- At the points of case B the pipeline does not write output 11's block back. -/
theorem noFlush0_11_B : ∀ t : Fin cfg0.N, ¬cond0_0 (grid0.coords t) → ¬cond0_1 (grid0.coords t) → (cfg0.win 11).flush t = false := by decide +kernel
/-- At the points of case A the printed configuration (`Cfg.idle`) calls output 12 live: the case stores into it. -/
theorem liveAt0_12_A : ∀ t : Fin cfg0.N, cond0_0 (grid0.coords t) → ¬cond0_1 (grid0.coords t) → cfg0.idle 12 (grid0.coords t) = false := by decide +kernel
/-- At the points of case B the printed configuration (`Cfg.idle`) calls output 12 idle: the case stores nothing into it. -/
theorem idleAt0_12_B : ∀ t : Fin cfg0.N, ¬cond0_0 (grid0.coords t) → ¬cond0_1 (grid0.coords t) → cfg0.idle 12 (grid0.coords t) = true := by decide +kernel
/-- At the point of case C output 12 is idle as well: it is stored at the first point only. -/
theorem idleAt0_12_C : ∀ t : Fin cfg0.N, ¬cond0_0 (grid0.coords t) → cond0_1 (grid0.coords t) → cfg0.idle 12 (grid0.coords t) = true := by decide +kernel
/-- After the first point output 12's buffer holds what that point stored. -/
theorem notFresh0_12 : ∀ t : Fin cfg0.N, t.val ≠ 0 → cfg0.fresh 12 t.val = false := by decide +kernel
/-- At the points of case B the pipeline does not write output 12's block back. -/
theorem noFlush0_12_B : ∀ t : Fin cfg0.N, ¬cond0_0 (grid0.coords t) → ¬cond0_1 (grid0.coords t) → (cfg0.win 12).flush t = false := by decide +kernel
/-! ## The kernel body on any staging memrefs: a subtype the run finds -/

/-- One staging buffer of output window 6, through which its contents are stated (`View.read_writes_of_cover`: the
    choice does not matter). -/
abbrev VO0_6 : View sig .tc .vmem S160x256 .f32 := (Memref.whole cc0_stg6_0 : Memref sig .tc .vmem S160x256 .f32).view
/-- One staging buffer of output window 7, through which its contents are stated (`View.read_writes_of_cover`: the
    choice does not matter). -/
abbrev VO0_7 : View sig .tc .vmem S5 .f32 := (Memref.whole cc0_stg7_0 : Memref sig .tc .vmem S5 .f32).view
/-- One staging buffer of output window 8, through which its contents are stated (`View.read_writes_of_cover`: the
    choice does not matter). -/
abbrev VO0_8 : View sig .tc .vmem S5 .f32 := (Memref.whole cc0_stg8_0 : Memref sig .tc .vmem S5 .f32).view
/-- One staging buffer of output window 9, through which its contents are stated (`View.read_writes_of_cover`: the
    choice does not matter). -/
abbrev VO0_9 : View sig .tc .vmem S5 .f32 := (Memref.whole cc0_stg9_0 : Memref sig .tc .vmem S5 .f32).view
/-- One staging buffer of output window 10, through which its contents are stated (`View.read_writes_of_cover`: the
    choice does not matter). -/
abbrev VO0_10 : View sig .tc .vmem S5x160 .f32 := (Memref.whole cc0_stg10_0 : Memref sig .tc .vmem S5x160 .f32).view
/-- One staging buffer of output window 11, through which its contents are stated (`View.read_writes_of_cover`: the
    choice does not matter). -/
abbrev VO0_11 : View sig .tc .vmem S5x160 .i32 := (Memref.whole cc0_stg11_0 : Memref sig .tc .vmem S5x160 .i32).view
/-- One staging buffer of output window 12, through which its contents are stated (`View.read_writes_of_cover`: the
    choice does not matter). -/
abbrev VO0_12 : View sig .tc .vmem S5x8 .i32 := (Memref.whole cc0_stg12_0 : Memref sig .tc .vmem S5x8 .i32).view
/-- Each window's current staging memref at point `t`, spelled as the pipeline passes it (`bodyAt0`), and its wholeness. -/
abbrev ms0_0 (t : Fin cfg0.N) : Memref sig .tc .vmem S256x12288 .fp8e4m3 := win0_0.stage (cfg0.slots t 0)
/-- The staging buffer of window 0 at a point is a whole buffer. -/
abbrev hs0_0 (t : Fin cfg0.N) : (ms0_0 t).IsWhole := hstage0_0 ((cfg0.slots t 0).cast nbuf0_0)
/-- The staging buffer of window 1 at a point. -/
abbrev ms0_1 (t : Fin cfg0.N) : Memref sig .tc .vmem S1x256 .f32 := win0_1.stage (cfg0.slots t 1)
/-- The staging buffer of window 1 at a point is a whole buffer. -/
abbrev hs0_1 (t : Fin cfg0.N) : (ms0_1 t).IsWhole := hstage0_1 ((cfg0.slots t 1).cast nbuf0_1)
/-- The staging buffer of window 2 at a point. -/
abbrev ms0_2 (t : Fin cfg0.N) : Memref sig .tc .vmem S160x12288 .bf16 := win0_2.stage (cfg0.slots t 2)
/-- The staging buffer of window 2 at a point is a whole buffer. -/
abbrev hs0_2 (t : Fin cfg0.N) : (ms0_2 t).IsWhole := hstage0_2 ((cfg0.slots t 2).cast nbuf0_2)
/-- The staging buffer of window 3 at a point. -/
abbrev ms0_3 (t : Fin cfg0.N) : Memref sig .tc .vmem S6x2048 .i32 := win0_3.stage (cfg0.slots t 3)
/-- The staging buffer of window 3 at a point is a whole buffer. -/
abbrev hs0_3 (t : Fin cfg0.N) : (ms0_3 t).IsWhole := hstage0_3 ((cfg0.slots t 3).cast nbuf0_3)
/-- The staging buffer of window 4 at a point. -/
abbrev ms0_4 (t : Fin cfg0.N) : Memref sig .tc .vmem S1x256 .i32 := win0_4.stage (cfg0.slots t 4)
/-- The staging buffer of window 4 at a point is a whole buffer. -/
abbrev hs0_4 (t : Fin cfg0.N) : (ms0_4 t).IsWhole := hstage0_4 ((cfg0.slots t 4).cast nbuf0_4)
/-- The staging buffer of window 5 at a point. -/
abbrev ms0_5 (t : Fin cfg0.N) : Memref sig .tc .vmem S1x2048 .i32 := win0_5.stage (cfg0.slots t 5)
/-- The staging buffer of window 5 at a point is a whole buffer. -/
abbrev hs0_5 (t : Fin cfg0.N) : (ms0_5 t).IsWhole := hstage0_5 ((cfg0.slots t 5).cast nbuf0_5)
/-- The staging buffer of window 6 at a point. -/
abbrev ms0_6 (t : Fin cfg0.N) : Memref sig .tc .vmem S160x256 .f32 := win0_6.stage (cfg0.slots t 6)
/-- The staging buffer of window 6 at a point is a whole buffer. -/
abbrev hs0_6 (t : Fin cfg0.N) : (ms0_6 t).IsWhole := hstage0_6 ((cfg0.slots t 6).cast nbuf0_6)
/-- The staging buffer of window 7 at a point. -/
abbrev ms0_7 (t : Fin cfg0.N) : Memref sig .tc .vmem S5 .f32 := win0_7.stage (cfg0.slots t 7)
/-- The staging buffer of window 7 at a point is a whole buffer. -/
abbrev hs0_7 (t : Fin cfg0.N) : (ms0_7 t).IsWhole := hstage0_7 ((cfg0.slots t 7).cast nbuf0_7)
/-- The staging buffer of window 8 at a point. -/
abbrev ms0_8 (t : Fin cfg0.N) : Memref sig .tc .vmem S5 .f32 := win0_8.stage (cfg0.slots t 8)
/-- The staging buffer of window 8 at a point is a whole buffer. -/
abbrev hs0_8 (t : Fin cfg0.N) : (ms0_8 t).IsWhole := hstage0_8 ((cfg0.slots t 8).cast nbuf0_8)
/-- The staging buffer of window 9 at a point. -/
abbrev ms0_9 (t : Fin cfg0.N) : Memref sig .tc .vmem S5 .f32 := win0_9.stage (cfg0.slots t 9)
/-- The staging buffer of window 9 at a point is a whole buffer. -/
abbrev hs0_9 (t : Fin cfg0.N) : (ms0_9 t).IsWhole := hstage0_9 ((cfg0.slots t 9).cast nbuf0_9)
/-- The staging buffer of window 10 at a point. -/
abbrev ms0_10 (t : Fin cfg0.N) : Memref sig .tc .vmem S5x160 .f32 := win0_10.stage (cfg0.slots t 10)
/-- The staging buffer of window 10 at a point is a whole buffer. -/
abbrev hs0_10 (t : Fin cfg0.N) : (ms0_10 t).IsWhole := hstage0_10 ((cfg0.slots t 10).cast nbuf0_10)
/-- The staging buffer of window 11 at a point. -/
abbrev ms0_11 (t : Fin cfg0.N) : Memref sig .tc .vmem S5x160 .i32 := win0_11.stage (cfg0.slots t 11)
/-- The staging buffer of window 11 at a point is a whole buffer. -/
abbrev hs0_11 (t : Fin cfg0.N) : (ms0_11 t).IsWhole := hstage0_11 ((cfg0.slots t 11).cast nbuf0_11)
/-- The staging buffer of window 12 at a point. -/
abbrev ms0_12 (t : Fin cfg0.N) : Memref sig .tc .vmem S5x8 .i32 := win0_12.stage (cfg0.slots t 12)
/-- The staging buffer of window 12 at a point is a whole buffer. -/
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S160x128 .f32 := Memref.whole cc0_scratch0
/-- The kernel's own buffer number 1, as a memory reference. -/
abbrev scM0_1 : Memref sig .tc .vmem S160x128 .f32 := Memref.whole cc0_scratch1
/-- The kernel's own buffer number 2, as a memory reference. -/
abbrev scM0_2 : Memref sig .tc .vmem S160x128 .f32 := Memref.whole cc0_scratch2
/-- The kernel's own buffer number 3, as a memory reference. -/
abbrev scM0_3 : Memref sig .tc .vmem S160x128 .f32 := Memref.whole cc0_scratch3
/-- The kernel's own buffer number 4, as a memory reference. -/
abbrev scM0_4 : Memref sig .tc .vmem S1x128 .f32 := Memref.whole cc0_scratch4
/-- The kernel's own buffer number 5, as a memory reference. -/
abbrev scM0_5 : Memref sig .tc .vmem S5x160x128 .f32 := Memref.whole cc0_scratch5
/-- The scratch `arg14` the kernel carries between points, as a view: what it holds is stated through it. -/
abbrev VS0_0 : View sig .tc .vmem S160x128 .f32 := scM0_0.view
/-- The scratch `arg15` the kernel carries between points, as a view: what it holds is stated through it. -/
abbrev VS0_1 : View sig .tc .vmem S160x128 .f32 := scM0_1.view
/-- The scratch `arg16` the kernel carries between points, as a view: what it holds is stated through it. -/
abbrev VS0_2 : View sig .tc .vmem S160x128 .f32 := scM0_2.view
/-- The scratch `arg17` the kernel carries between points, as a view: what it holds is stated through it. -/
abbrev VS0_3 : View sig .tc .vmem S160x128 .f32 := scM0_3.view
/-- The scratch `arg18` the kernel carries between points, as a view: what it holds is stated through it. -/
abbrev VS0_4 : View sig .tc .vmem S1x128 .f32 := scM0_4.view
/-- The scratch `arg19` the kernel carries between points, as a view: what it holds is stated through it. -/
abbrev VS0_5 : View sig .tc .vmem S5x160x128 .f32 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Run

end
-- ==== Proof.KRun.RunA.lean ====
/- The run of the kernel body at the first grid point. -/
module

public import proofs.«01_k».proof.Proof.KRun.Base

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S256x12288 .fp8e4m3) (harg1 : arg1.IsWhole) (arg2 : Memref sig .tc .vmem S1x256 .f32) (harg2 : arg2.IsWhole) (arg3 : Memref sig .tc .vmem S160x12288 .bf16) (harg3 : arg3.IsWhole) (arg4 : Memref sig .tc .vmem S6x2048 .i32) (harg4 : arg4.IsWhole) (arg5 : Memref sig .tc .vmem S1x256 .i32) (harg5 : arg5.IsWhole) (arg6 : Memref sig .tc .vmem S1x2048 .i32) (harg6 : arg6.IsWhole) (arg7 : Memref sig .tc .vmem S160x256 .f32) (harg7 : arg7.IsWhole) (arg8 : Memref sig .tc .vmem S5 .f32) (harg8 : arg8.IsWhole) (arg9 : Memref sig .tc .vmem S5 .f32) (harg9 : arg9.IsWhole) (arg10 : Memref sig .tc .vmem S5 .f32) (harg10 : arg10.IsWhole) (arg11 : Memref sig .tc .vmem S5x160 .f32) (harg11 : arg11.IsWhole) (arg12 : Memref sig .tc .vmem S5x160 .i32) (harg12 : arg12.IsWhole) (arg13 : Memref sig .tc .vmem S5x8 .i32) (harg13 : arg13.IsWhole) (arg14 : Memref sig .tc .vmem S160x128 .f32) (harg14 : arg14.IsWhole) (arg15 : Memref sig .tc .vmem S160x128 .f32) (harg15 : arg15.IsWhole) (arg16 : Memref sig .tc .vmem S160x128 .f32) (harg16 : arg16.IsWhole) (arg17 : Memref sig .tc .vmem S160x128 .f32) (harg17 : arg17.IsWhole) (arg18 : Memref sig .tc .vmem S1x128 .f32) (harg18 : arg18.IsWhole) (arg19 : Memref sig .tc .vmem S5x160x128 .f32) (harg19 : arg19.IsWhole)

set_option maxHeartbeats 1600000 in
/-- The body at the first grid point. From whole buffers — the inputs at their contents, the outputs the point does not store
    at any contents, the rest at anything — the body runs to its end with the inputs and the unstored outputs as they were and
    each stored buffer at a list of writes, which the run finds: the gradient's halves, the two tables of counts, the six
    scratch buffers. -/
noncomputable def runA (hc0 : cond0_0 i) (hc1 : ¬cond0_1 i)
    (x0 : Vec F S256x12288 .fp8e4m3) (x1 : Vec F S1x256 .f32) (x2 : Vec F S160x12288 .bf16) (x3 : Vec F S6x2048 .i32) (x4 : Vec F S1x256 .i32) (x5 : Vec F S1x2048 .i32) :
    Σ' (L6 : List (View.Piece (Elt F) S160x256 .f32)), Σ' (L11 : List (View.Piece (Elt F) S5x160 .i32)), Σ' (L12 : List (View.Piece (Elt F) S5x8 .i32)), Σ' (LS0 : List (View.Piece (Elt F) S160x128 .f32)), Σ' (LS1 : List (View.Piece (Elt F) S160x128 .f32)), Σ' (LS2 : List (View.Piece (Elt F) S160x128 .f32)), Σ' (LS3 : List (View.Piece (Elt F) S160x128 .f32)), Σ' (LS4 : List (View.Piece (Elt F) S1x128 .f32)), { LS5 : List (View.Piece (Elt F) S5x160x128 .f32) //
      ∀ (x7 : Vec F S5 .f32) (x8 : Vec F S5 .f32) (x9 : Vec F S5 .f32) (x10 : Vec F S5x160 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ (∃ f, arg19.view.loc (c : Thread nD τ) ↦[arg19.view.set]{fullShare} arg19.view.writes (Elt F) f LS5)) -∗ K ⟨⟩))
          ⊢ wp frame (wpE (defs₀ (F := F)) Variants.none c none) E (cc0_balance i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, ?_, fun x7 x8 x9 x10 E K => ?run⟩
  case run =>
    simp only [cc0_balance_eq_skeleton]; unfold cc0_balance_skel
    simp only [k0_part68_eq_skeleton, k0_part65_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part69_eq_skeleton, k0_part70_eq_skeleton, k0_part71_eq_skeleton, k0_part72_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, HS0⟩, ⟨%d14, %f14, -, HS1⟩, ⟨%d15, %f15, -, HS2⟩, ⟨%d16, %f16, -, HS3⟩, ⟨%d17, %f17, -, HS4⟩, ⟨%d18, %f18, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hf9; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Run

end
-- ==== Proof.KVal.Vocab.lean ====
/- What the first grid point computes from the expert ids and the sequence ids, as closed terms. -/
module

public import proofs.«01_k».proof.Proof.KRun.Base

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.Sem

variable {F : FTy → Type} [FloatOps F]

/-- The packed unit of a row of sequence ids: `32 ^ s` at a token of sequence `s < 5`, zero elsewhere. -/
def oneOf (sg : IVec S1x128 32) : IVec S1x128 32 :=
  select (cmpi .eq sg (broadcast S1x128 4#32)) (broadcast S1x128 1048576#32)
    (select (cmpi .eq sg (broadcast S1x128 3#32)) (broadcast S1x128 32768#32)
      (select (cmpi .eq sg (broadcast S1x128 2#32)) (broadcast S1x128 1024#32)
        (select (cmpi .eq sg (broadcast S1x128 1#32)) (broadcast S1x128 32#32)
          (select (cmpi .eq sg (broadcast S1x128 0#32)) (broadcast S1x128 1#32) (broadcast S1x128 0#32)))))

/-- The rows numbered: entry `(e, l)` is `e`. -/
def rows160 : IVec S160x128 32 := iota .tc S160x128 32 [0] iota_S160x128_d0_w32
/-- The row numbers of the device counts. -/
def rows16 : IVec S16x128 32 := iota .tc S16x128 32 [0] iota_S16x128_d0_w32

/-- Expert `e` is the pick `ids` of the token in lane `l`. -/
def eqE (ids : Vec F S1x128 .i32) : IVec S160x128 1 :=
  cmpi .eq rows160 (broadcastTo S160x128 (shapeCast S1x128 ids shapeCasts_S1x128_S1x128) broadcasts_S1x128_S160x128)

/-- The pick `ids` of the token in lane `l` lies in device group `d < 8`. -/
def eqD (ids : Vec F S1x128 .i32) : IVec S16x128 1 :=
  andi (andi
    (cmpi .sge (subi (broadcastTo S16x128 (shapeCast S1x128 ids shapeCasts_S1x128_S1x128) broadcasts_S1x128_S16x128) (muli rows16 (broadcast S16x128 20#32))) (broadcast S16x128 0#32))
    (cmpi .slt (subi (broadcastTo S16x128 (shapeCast S1x128 ids shapeCasts_S1x128_S1x128) broadcasts_S1x128_S16x128) (muli rows16 (broadcast S16x128 20#32))) (broadcast S16x128 20#32)))
    (cmpi .slt rows16 (broadcast S16x128 8#32))

/-- Any of the six picks is the expert. -/
def hitE (I : Fin 6 → Vec F S1x128 .i32) : IVec S160x128 1 :=
  ori (ori (ori (ori (ori (eqE (I 0)) (eqE (I 1))) (eqE (I 2))) (eqE (I 3))) (eqE (I 4))) (eqE (I 5))

/-- Any of the six picks lies in the device group; row 8 counts every token. -/
def hitD (I : Fin 6 → Vec F S1x128 .i32) : IVec S16x128 1 :=
  ori (ori (ori (ori (ori (ori (cmpi .eq rows16 (broadcast S16x128 8#32)) (eqD (I 0))) (eqD (I 1))) (eqD (I 2))) (eqD (I 3))) (eqD (I 4))) (eqD (I 5))

/-- One group of 128 tokens added to the packed expert counts. -/
def stepE (I : Fin 6 → Vec F S1x128 .i32) (sg : Vec F S1x128 .i32) (acc : IVec S160x128 32) : IVec S160x128 32 :=
  addi acc (select (hitE I) (broadcastTo S160x128 (shapeCast S1x128 (oneOf (shapeCast S1x128 sg shapeCasts_S1x128_S1x128)) shapeCasts_S1x128_S1x128) broadcasts_S1x128_S160x128) (broadcast S160x128 0#32))

/-- One group of 128 tokens added to the packed device counts. -/
def stepD (I : Fin 6 → Vec F S1x128 .i32) (sg : Vec F S1x128 .i32) (acc : IVec S16x128 32) : IVec S16x128 32 :=
  addi acc (select (hitD I) (broadcastTo S16x128 (shapeCast S1x128 (oneOf (shapeCast S1x128 sg shapeCasts_S1x128_S1x128)) shapeCasts_S1x128_S1x128) broadcasts_S1x128_S16x128) (broadcast S16x128 0#32))

/-- The packed expert counts after the first `n` groups. -/
def accE (I : ℕ → Fin 6 → Vec F S1x128 .i32) (sg : ℕ → Vec F S1x128 .i32) : ℕ → IVec S160x128 32
  | 0 => broadcast S160x128 0#32
  | n + 1 => stepE (I n) (sg n) (accE I sg n)

/-- The packed device counts after the first `n` groups. -/
def accD (I : ℕ → Fin 6 → Vec F S1x128 .i32) (sg : ℕ → Vec F S1x128 .i32) : ℕ → IVec S16x128 32
  | 0 => broadcast S16x128 0#32
  | n + 1 => stepD (I n) (sg n) (accD I sg n)

/-- The lanes numbered: entry `(e, l)` is `l`. -/
def lanes160 : IVec S160x128 32 := iota .tc S160x128 32 [1] iota_S160x128_d1_w32

/-- The packed expert counts unpacked into columns: column `s < 5` of row `e` is the sum over the lanes of
    field `s`; every other column is zero. -/
def colE (acc : IVec S160x128 32) : FVec F S160x128 .f32 :=
  k0_pay300 lanes160 (k0_pay298 lanes160 acc (k0_pay296 (F := F)) (sitofp .f32 (andi (shrsi acc (broadcast S160x128 0#32)) (broadcast S160x128 31#32)))) (k0_pay299 acc) 31#32

/-- The packed device counts unpacked into columns. -/
def colD (acc : IVec S16x128 32) : FVec F S16x128 .f32 :=
  k0_pay305 acc (k0_pay301 lanes160) (k0_pay302 lanes160 acc) (k0_pay303 acc) (k0_pay304 lanes160)

/-- Row of token counts per lane, at least one. -/
def tC (E : IVec S160x128 32) (D : IVec S16x128 32) : FVec F S1x128 .f32 :=
  k0_pay308 D (k0_pay301 lanes160) (k0_pay302 lanes160 D) (k0_pay303 D) (k0_pay304 lanes160)

/-- The expert fractions. -/
def fC (E : IVec S160x128 32) (D : IVec S16x128 32) : FVec F S160x128 .f32 :=
  k0_pay309 (colE E) (tC E D) (FloatOps.ofBits .f32 1086324736#32)

/-- The scale of the device counts. -/
def kC (E : IVec S160x128 32) (D : IVec S16x128 32) : FVec F S1x128 .f32 :=
  k0_pay310 (tC E D)

/-- The mean expert fraction of device group 0. -/
def fd0 (E : IVec S160x128 32) (D : IVec S16x128 32) : FVec F S1x128 .f32 :=
  k0_pay311 (colE E) (tC E D) (FloatOps.ofBits .f32 1086324736#32)

/-- The mean expert fraction of device group 1. -/
def fd1 (E : IVec S160x128 32) (D : IVec S16x128 32) : FVec F S1x128 .f32 :=
  k0_pay312 (colE E) (tC E D) (FloatOps.ofBits .f32 1086324736#32)

/-- The mean expert fraction of device group 2. -/
def fd2 (E : IVec S160x128 32) (D : IVec S16x128 32) : FVec F S1x128 .f32 :=
  k0_pay314 (fC E D) k0_pay313 40#32

/-- The mean expert fraction of device group 3. -/
def fd3 (E : IVec S160x128 32) (D : IVec S16x128 32) : FVec F S1x128 .f32 :=
  k0_pay315 (fC E D)

/-- The mean expert fraction of device group 4. -/
def fd4 (E : IVec S160x128 32) (D : IVec S16x128 32) : FVec F S1x128 .f32 :=
  k0_pay316 (fC E D)

/-- The mean expert fraction of device group 5. -/
def fd5 (E : IVec S160x128 32) (D : IVec S16x128 32) : FVec F S1x128 .f32 :=
  k0_pay317 (fC E D) (iota .tc S24x128 32 [0] iota_S24x128_d0_w32) 96#32

/-- The mean expert fraction of device group 6. -/
def fd6 (E : IVec S160x128 32) (D : IVec S16x128 32) : FVec F S1x128 .f32 :=
  k0_pay318 (fC E D)

/-- The mean expert fraction of device group 7. -/
def fd7 (E : IVec S160x128 32) (D : IVec S16x128 32) : FVec F S1x128 .f32 :=
  k0_pay321 (k0_pay319 (fC E D)) k0_pay320

/-- The scaled token count of device group 0. -/
def fc0 (E : IVec S160x128 32) (D : IVec S16x128 32) : FVec F S1x128 .f32 :=
  k0_pay322 (colD D) (kC E D)

/-- The scaled token count of device group 1. -/
def fc1 (E : IVec S160x128 32) (D : IVec S16x128 32) : FVec F S1x128 .f32 :=
  k0_pay323 (colD D) (kC E D)

/-- The scaled token count of device group 2. -/
def fc2 (E : IVec S160x128 32) (D : IVec S16x128 32) : FVec F S1x128 .f32 :=
  k0_pay324 (colD D) (kC E D)

/-- The scaled token count of device group 3. -/
def fc3 (E : IVec S160x128 32) (D : IVec S16x128 32) : FVec F S1x128 .f32 :=
  k0_pay325 (colD D) (kC E D)

/-- The scaled token count of device group 4. -/
def fc4 (E : IVec S160x128 32) (D : IVec S16x128 32) : FVec F S1x128 .f32 :=
  k0_pay326 (colD D) (kC E D)

/-- The scaled token count of device group 5. -/
def fc5 (E : IVec S160x128 32) (D : IVec S16x128 32) : FVec F S1x128 .f32 :=
  k0_pay327 (colD D) (kC E D)

/-- The scaled token count of device group 6. -/
def fc6 (E : IVec S160x128 32) (D : IVec S16x128 32) : FVec F S1x128 .f32 :=
  k0_pay328 (colD D) (kC E D)

/-- The scaled token count of device group 7. -/
def fc7 (E : IVec S160x128 32) (D : IVec S16x128 32) : FVec F S1x128 .f32 :=
  k0_pay329 (colD D) (kC E D)

/-- The device and communication weights of group 0, mixed. -/
def mix0 (E : IVec S160x128 32) (D : IVec S16x128 32) : FVec F S1x128 .f32 :=
  k0_pay330 (colD D) (kC E D) (fd0 E D)

/-- The device and communication weights of group 1, mixed. -/
def mix1 (E : IVec S160x128 32) (D : IVec S16x128 32) : FVec F S1x128 .f32 :=
  k0_pay331 (colD D) (kC E D) (fd1 E D)

/-- The device and communication weights of group 2, mixed. -/
def mix2 (E : IVec S160x128 32) (D : IVec S16x128 32) : FVec F S1x128 .f32 :=
  k0_pay332 (colD D) (kC E D) (fd2 E D)

/-- The device and communication weights of group 3, mixed. -/
def mix3 (E : IVec S160x128 32) (D : IVec S16x128 32) : FVec F S1x128 .f32 :=
  k0_pay333 (colD D) (kC E D) (fd3 E D)

/-- The device and communication weights of group 4, mixed. -/
def mix4 (E : IVec S160x128 32) (D : IVec S16x128 32) : FVec F S1x128 .f32 :=
  k0_pay334 (colD D) (kC E D) (fd4 E D)

/-- The device and communication weights of group 5, mixed. -/
def mix5 (E : IVec S160x128 32) (D : IVec S16x128 32) : FVec F S1x128 .f32 :=
  k0_pay335 (colD D) (kC E D) (fd5 E D)

/-- The device and communication weights of group 6, mixed. -/
def mix6 (E : IVec S160x128 32) (D : IVec S16x128 32) : FVec F S1x128 .f32 :=
  k0_pay336 (fd6 E D) (fc6 E D) (FloatOps.ofBits .f32 1028443341#32)

/-- The device and communication weights of group 7, mixed. -/
def mix7 (E : IVec S160x128 32) (D : IVec S16x128 32) : FVec F S1x128 .f32 :=
  k0_pay337 (fd7 E D) (fc7 E D)
/-- Eight rows spread over the 160 experts, twenty experts to a row. -/
def spreadV (g : Fin 8 → FVec F S1x128 .f32) : FVec F S160x128 .f32 :=
  concatenate S160x128 0 [⟨S8x128, (broadcastTo S8x128 (shapeCast S1x128 (g 0) shapeCasts_S1x128_S1x128) broadcasts_S1x128_S8x128)⟩,
    ⟨S8x128, (broadcastTo S8x128 (shapeCast S1x128 (g 0) shapeCasts_S1x128_S1x128) broadcasts_S1x128_S8x128)⟩,
    ⟨S8x128, select (cmpi .slt (addi (iota .tc S8x128 32 [0] iota_S8x128_d0_w32) (broadcast S8x128 16#32)) (broadcast S8x128 20#32)) (broadcastTo S8x128 (shapeCast S1x128 (g 0) shapeCasts_S1x128_S1x128) broadcasts_S1x128_S8x128) (broadcastTo S8x128 (shapeCast S1x128 (g 1) shapeCasts_S1x128_S1x128) broadcasts_S1x128_S8x128)⟩,
    ⟨S8x128, (broadcastTo S8x128 (shapeCast S1x128 (g 1) shapeCasts_S1x128_S1x128) broadcasts_S1x128_S8x128)⟩,
    ⟨S8x128, (broadcastTo S8x128 (shapeCast S1x128 (g 1) shapeCasts_S1x128_S1x128) broadcasts_S1x128_S8x128)⟩,
    ⟨S8x128, (broadcastTo S8x128 (shapeCast S1x128 (g 2) shapeCasts_S1x128_S1x128) broadcasts_S1x128_S8x128)⟩,
    ⟨S8x128, (broadcastTo S8x128 (shapeCast S1x128 (g 2) shapeCasts_S1x128_S1x128) broadcasts_S1x128_S8x128)⟩,
    ⟨S8x128, select (cmpi .slt (addi (iota .tc S8x128 32 [0] iota_S8x128_d0_w32) (broadcast S8x128 56#32)) (broadcast S8x128 60#32)) (broadcastTo S8x128 (shapeCast S1x128 (g 2) shapeCasts_S1x128_S1x128) broadcasts_S1x128_S8x128) (broadcastTo S8x128 (shapeCast S1x128 (g 3) shapeCasts_S1x128_S1x128) broadcasts_S1x128_S8x128)⟩,
    ⟨S8x128, (broadcastTo S8x128 (shapeCast S1x128 (g 3) shapeCasts_S1x128_S1x128) broadcasts_S1x128_S8x128)⟩,
    ⟨S8x128, (broadcastTo S8x128 (shapeCast S1x128 (g 3) shapeCasts_S1x128_S1x128) broadcasts_S1x128_S8x128)⟩,
    ⟨S8x128, (broadcastTo S8x128 (shapeCast S1x128 (g 4) shapeCasts_S1x128_S1x128) broadcasts_S1x128_S8x128)⟩,
    ⟨S8x128, (broadcastTo S8x128 (shapeCast S1x128 (g 4) shapeCasts_S1x128_S1x128) broadcasts_S1x128_S8x128)⟩,
    ⟨S8x128, select (cmpi .slt (addi (iota .tc S8x128 32 [0] iota_S8x128_d0_w32) (broadcast S8x128 96#32)) (broadcast S8x128 100#32)) (broadcastTo S8x128 (shapeCast S1x128 (g 4) shapeCasts_S1x128_S1x128) broadcasts_S1x128_S8x128) (broadcastTo S8x128 (shapeCast S1x128 (g 5) shapeCasts_S1x128_S1x128) broadcasts_S1x128_S8x128)⟩,
    ⟨S8x128, (broadcastTo S8x128 (shapeCast S1x128 (g 5) shapeCasts_S1x128_S1x128) broadcasts_S1x128_S8x128)⟩,
    ⟨S8x128, (broadcastTo S8x128 (shapeCast S1x128 (g 5) shapeCasts_S1x128_S1x128) broadcasts_S1x128_S8x128)⟩,
    ⟨S8x128, (broadcastTo S8x128 (shapeCast S1x128 (g 6) shapeCasts_S1x128_S1x128) broadcasts_S1x128_S8x128)⟩,
    ⟨S8x128, (broadcastTo S8x128 (shapeCast S1x128 (g 6) shapeCasts_S1x128_S1x128) broadcasts_S1x128_S8x128)⟩,
    ⟨S8x128, select (cmpi .slt (addi (iota .tc S8x128 32 [0] iota_S8x128_d0_w32) (broadcast S8x128 136#32)) (broadcast S8x128 140#32)) (broadcastTo S8x128 (shapeCast S1x128 (g 6) shapeCasts_S1x128_S1x128) broadcasts_S1x128_S8x128) (broadcastTo S8x128 (shapeCast S1x128 (g 7) shapeCasts_S1x128_S1x128) broadcasts_S1x128_S8x128)⟩,
    ⟨S8x128, (broadcastTo S8x128 (shapeCast S1x128 (g 7) shapeCasts_S1x128_S1x128) broadcasts_S1x128_S8x128)⟩,
    ⟨S8x128, (broadcastTo S8x128 (shapeCast S1x128 (g 7) shapeCasts_S1x128_S1x128) broadcasts_S1x128_S8x128)⟩] concatenates_S8x128_S8x128_S8x128_S8x128_S8x128_S8x128_S8x128_S8x128_S8x128_S8x128_S8x128_S8x128_S8x128_S8x128_S8x128_S8x128_S8x128_S8x128_S8x128_S8x128_S160x128_d0

/-- A group's row of expert ids lies within the array. -/
theorem inbI (n : ℕ) (k : Fin 6) : ∀ a, (![k.val, 128 * (n % 16)] : Fin 2 → ℕ) a + S1x128.size a ≤ S6x2048.size a := by
  intro a
  have hk := k.isLt
  have hn : n % 16 < 16 := Nat.mod_lt _ (by decide)
  fin_cases a
  · show k.val + 1 ≤ 6; omega
  · show 128 * (n % 16) + 128 ≤ 2048; omega

/-- A group's row of sequence ids lies within the array. -/
theorem inbS (n : ℕ) : ∀ a, (![0, 128 * (n % 16)] : Fin 2 → ℕ) a + S1x128.size a ≤ S1x2048.size a := by
  intro a
  have hn : n % 16 < 16 := Nat.mod_lt _ (by decide)
  fin_cases a
  · show 0 + 1 ≤ 1; omega
  · show 128 * (n % 16) + 128 ≤ 2048; omega

/-- The mean fractions of the eight device groups. -/
def fdR (E : IVec S160x128 32) (D : IVec S16x128 32) : Fin 8 → FVec F S1x128 .f32 :=
  ![fd0 E D, fd1 E D, fd2 E D, fd3 E D, fd4 E D, fd5 E D, fd6 E D, fd7 E D]

/-- The scaled token counts of the eight device groups. -/
def fcR (E : IVec S160x128 32) (D : IVec S16x128 32) : Fin 8 → FVec F S1x128 .f32 :=
  ![fc0 E D, fc1 E D, fc2 E D, fc3 E D, fc4 E D, fc5 E D, fc6 E D, fc7 E D]

/-- The mixed weights of the eight device groups. -/
def mixR (E : IVec S160x128 32) (D : IVec S16x128 32) : Fin 8 → FVec F S1x128 .f32 :=
  ![mix0 E D, mix1 E D, mix2 E D, mix3 E D, mix4 E D, mix5 E D, mix6 E D, mix7 E D]

/-- The coefficient of every expert in every lane: zero in the lanes that hold no sequence. -/
def coefV (E : IVec S160x128 32) (D : IVec S16x128 32) : FVec F S160x128 .f32 :=
  shapeCast S160x128 (select (cmpi .slt lanes160 (broadcast S160x128 5#32))
    (divf (addf (k0_pay338 (fC E D)) (spreadV (mixR E D)))
      (broadcastTo S160x128 (mulf (broadcast S1x128 (FloatOps.ofBits .f32 0x40A00000#32)) (tC E D)) broadcasts_S1x128_S160x128))
    (broadcast S160x128 (FloatOps.ofBits .f32 0x00000000#32))) shapeCasts_S160x128_S160x128

/-- The expert fractions as stored. -/
def fV (E : IVec S160x128 32) (D : IVec S16x128 32) : FVec F S160x128 .f32 := k0_pay352 (fC E D)

/-- The mean fractions as stored, spread over the experts. -/
def fdevV (E : IVec S160x128 32) (D : IVec S16x128 32) : FVec F S160x128 .f32 :=
  shapeCast S160x128 (spreadV (fdR E D)) shapeCasts_S160x128_S160x128

/-- The scaled device counts as stored, spread over the experts. -/
def fcommV (E : IVec S160x128 32) (D : IVec S16x128 32) : FVec F S160x128 .f32 :=
  shapeCast S160x128 (spreadV (fcR E D)) shapeCasts_S160x128_S160x128

/-- The token counts as stored. -/
def tV (E : IVec S160x128 32) (D : IVec S16x128 32) : FVec F S1x128 .f32 :=
  shapeCast S1x128 (tC E D) shapeCasts_S1x128_S1x128

/-- Pick `k` of the 128 tokens of group `n`. -/
def picks (x3 : Vec F S6x2048 .i32) (n : ℕ) (k : Fin 6) : Vec F S1x128 .i32 :=
  View.ld x3 (Rect.unit (s := S6x2048) ![k.val, 128 * (n % 16)] S1x128.size (inbI n k))

/-- The sequence ids of the 128 tokens of group `n`. -/
def segs (x5 : Vec F S1x2048 .i32) (n : ℕ) : Vec F S1x128 .i32 :=
  View.ld x5 (Rect.unit (s := S1x2048) ![0, 128 * (n % 16)] S1x128.size (inbS n))

/-- The packed expert counts over all the tokens. -/
def packE (x3 : Vec F S6x2048 .i32) (x5 : Vec F S1x2048 .i32) : IVec S160x128 32 := accE (picks x3) (segs x5) 16

/-- The packed device counts over all the tokens. -/
def packD (x3 : Vec F S6x2048 .i32) (x5 : Vec F S1x2048 .i32) : IVec S16x128 32 := accD (picks x3) (segs x5) 16

end Cert.KernelIdeal.Val
-- ==== Proof.KVal.BridgeA.lean ====
/- The words of the first point's run are the closed terms. -/
module

public import proofs.«01_k».proof.Proof.KRun.RunA
public import proofs.«01_k».proof.Proof.KVal.Vocab

@[expose] public section

set_option maxRecDepth 65536

noncomputable section

namespace Cert.KernelIdeal.Run

open Cert.KernelIdeal Cert.KernelIdeal.Gen Cert.KernelIdeal.Val
open Idealize.ShloMosaic Idealize.ShloMosaic.TcCoe Idealize.ShloMosaic.Tactic
open Idealize.SL Idealize.SL.RA Idealize.SL.Sem

variable {F : FTy → Type} [FloatOps F]
variable (c : Dev nD) (arg4 : Memref sig .tc .vmem S6x2048 .i32) (harg4 : arg4.IsWhole) (arg6 : Memref sig .tc .vmem S1x2048 .i32) (harg6 : arg6.IsWhole) (x3 : Vec F S6x2048 .i32) (x5 : Vec F S1x2048 .i32)

/-- The picks loaded by the run. -/
def rdI (n : ℕ) (k : Fin 6) : Vec F S1x128 .i32 :=
  View.readAt (Elt F) arg4.view (Rect.unit (s := S6x2048) ![k.val, 128 * (n % 16)] S1x128.size (inbI n k)).toLoadRect (harg4.unread x3)

/-- The sequence ids loaded by the run. -/
def rdS (n : ℕ) : Vec F S1x128 .i32 :=
  View.readAt (Elt F) arg6.view (Rect.unit (s := S1x2048) ![0, 128 * (n % 16)] S1x128.size (inbS n)).toLoadRect (harg6.unread x5)

/-- The rows of expert ids that the run reads are the picks of each group of tokens. -/
theorem rdI_eq : rdI arg4 harg4 x3 = picks x3 := by
  funext n k
  unfold rdI picks
  simp only [View.readAt_eq_ld, Memref.IsWhole.read_unread]

/-- The rows of sequence ids that the run reads are those of each group of tokens. -/
theorem rdS_eq : rdS arg6 harg6 x5 = segs x5 := by
  funext n
  unfold rdS segs
  simp only [View.readAt_eq_ld, Memref.IsWhole.read_unread]

/-- The run's packed expert counts after 1 group of tokens. -/
theorem accE1 : runA.sl.v358 c arg4 harg4 arg6 harg6 x3 x5 = accE (rdI arg4 harg4 x3) (rdS arg6 harg6 x5) 1 :=
  rfl
/-- The run's packed device counts after 1 group of tokens. -/
theorem accD1 : runA.sl.v363 c arg4 harg4 arg6 harg6 x3 x5 = accD (rdI arg4 harg4 x3) (rdS arg6 harg6 x5) 1 :=
  rfl
/-- The run's packed expert counts after 2 groups of tokens. -/
theorem accE2 : runA.sl.v500 c arg4 harg4 arg6 harg6 x3 x5 = accE (rdI arg4 harg4 x3) (rdS arg6 harg6 x5) 2 :=
  (show _ = stepE (rdI arg4 harg4 x3 1) (rdS arg6 harg6 x5 1) (runA.sl.v358 c arg4 harg4 arg6 harg6 x3 x5) from rfl).trans (congrArg _ (accE1 c arg4 harg4 arg6 harg6 x3 x5))
/-- The run's packed device counts after 2 groups of tokens. -/
theorem accD2 : runA.sl.v505 c arg4 harg4 arg6 harg6 x3 x5 = accD (rdI arg4 harg4 x3) (rdS arg6 harg6 x5) 2 :=
  (show _ = stepD (rdI arg4 harg4 x3 1) (rdS arg6 harg6 x5 1) (runA.sl.v363 c arg4 harg4 arg6 harg6 x3 x5) from rfl).trans (congrArg _ (accD1 c arg4 harg4 arg6 harg6 x3 x5))
/-- The run's packed expert counts after 3 groups of tokens. -/
theorem accE3 : runA.sl.v642 c arg4 harg4 arg6 harg6 x3 x5 = accE (rdI arg4 harg4 x3) (rdS arg6 harg6 x5) 3 :=
  (show _ = stepE (rdI arg4 harg4 x3 2) (rdS arg6 harg6 x5 2) (runA.sl.v500 c arg4 harg4 arg6 harg6 x3 x5) from rfl).trans (congrArg _ (accE2 c arg4 harg4 arg6 harg6 x3 x5))
/-- The run's packed device counts after 3 groups of tokens. -/
theorem accD3 : runA.sl.v647 c arg4 harg4 arg6 harg6 x3 x5 = accD (rdI arg4 harg4 x3) (rdS arg6 harg6 x5) 3 :=
  (show _ = stepD (rdI arg4 harg4 x3 2) (rdS arg6 harg6 x5 2) (runA.sl.v505 c arg4 harg4 arg6 harg6 x3 x5) from rfl).trans (congrArg _ (accD2 c arg4 harg4 arg6 harg6 x3 x5))
/-- The run's packed expert counts after 4 groups of tokens. -/
theorem accE4 : runA.sl.v784 c arg4 harg4 arg6 harg6 x3 x5 = accE (rdI arg4 harg4 x3) (rdS arg6 harg6 x5) 4 :=
  (show _ = stepE (rdI arg4 harg4 x3 3) (rdS arg6 harg6 x5 3) (runA.sl.v642 c arg4 harg4 arg6 harg6 x3 x5) from rfl).trans (congrArg _ (accE3 c arg4 harg4 arg6 harg6 x3 x5))
/-- The run's packed device counts after 4 groups of tokens. -/
theorem accD4 : runA.sl.v789 c arg4 harg4 arg6 harg6 x3 x5 = accD (rdI arg4 harg4 x3) (rdS arg6 harg6 x5) 4 :=
  (show _ = stepD (rdI arg4 harg4 x3 3) (rdS arg6 harg6 x5 3) (runA.sl.v647 c arg4 harg4 arg6 harg6 x3 x5) from rfl).trans (congrArg _ (accD3 c arg4 harg4 arg6 harg6 x3 x5))
/-- The run's packed expert counts after 5 groups of tokens. -/
theorem accE5 : runA.sl.v926 c arg4 harg4 arg6 harg6 x3 x5 = accE (rdI arg4 harg4 x3) (rdS arg6 harg6 x5) 5 :=
  (show _ = stepE (rdI arg4 harg4 x3 4) (rdS arg6 harg6 x5 4) (runA.sl.v784 c arg4 harg4 arg6 harg6 x3 x5) from rfl).trans (congrArg _ (accE4 c arg4 harg4 arg6 harg6 x3 x5))
/-- The run's packed device counts after 5 groups of tokens. -/
theorem accD5 : runA.sl.v931 c arg4 harg4 arg6 harg6 x3 x5 = accD (rdI arg4 harg4 x3) (rdS arg6 harg6 x5) 5 :=
  (show _ = stepD (rdI arg4 harg4 x3 4) (rdS arg6 harg6 x5 4) (runA.sl.v789 c arg4 harg4 arg6 harg6 x3 x5) from rfl).trans (congrArg _ (accD4 c arg4 harg4 arg6 harg6 x3 x5))
/-- The run's packed expert counts after 6 groups of tokens. -/
theorem accE6 : runA.sl.v1068 c arg4 harg4 arg6 harg6 x3 x5 = accE (rdI arg4 harg4 x3) (rdS arg6 harg6 x5) 6 :=
  (show _ = stepE (rdI arg4 harg4 x3 5) (rdS arg6 harg6 x5 5) (runA.sl.v926 c arg4 harg4 arg6 harg6 x3 x5) from rfl).trans (congrArg _ (accE5 c arg4 harg4 arg6 harg6 x3 x5))
/-- The run's packed device counts after 6 groups of tokens. -/
theorem accD6 : runA.sl.v1073 c arg4 harg4 arg6 harg6 x3 x5 = accD (rdI arg4 harg4 x3) (rdS arg6 harg6 x5) 6 :=
  (show _ = stepD (rdI arg4 harg4 x3 5) (rdS arg6 harg6 x5 5) (runA.sl.v931 c arg4 harg4 arg6 harg6 x3 x5) from rfl).trans (congrArg _ (accD5 c arg4 harg4 arg6 harg6 x3 x5))
/-- The run's packed expert counts after 7 groups of tokens. -/
theorem accE7 : runA.sl.v1210 c arg4 harg4 arg6 harg6 x3 x5 = accE (rdI arg4 harg4 x3) (rdS arg6 harg6 x5) 7 :=
  (show _ = stepE (rdI arg4 harg4 x3 6) (rdS arg6 harg6 x5 6) (runA.sl.v1068 c arg4 harg4 arg6 harg6 x3 x5) from rfl).trans (congrArg _ (accE6 c arg4 harg4 arg6 harg6 x3 x5))
/-- The run's packed device counts after 7 groups of tokens. -/
theorem accD7 : runA.sl.v1215 c arg4 harg4 arg6 harg6 x3 x5 = accD (rdI arg4 harg4 x3) (rdS arg6 harg6 x5) 7 :=
  (show _ = stepD (rdI arg4 harg4 x3 6) (rdS arg6 harg6 x5 6) (runA.sl.v1073 c arg4 harg4 arg6 harg6 x3 x5) from rfl).trans (congrArg _ (accD6 c arg4 harg4 arg6 harg6 x3 x5))
/-- The run's packed expert counts after 8 groups of tokens. -/
theorem accE8 : runA.sl.v1352 c arg4 harg4 arg6 harg6 x3 x5 = accE (rdI arg4 harg4 x3) (rdS arg6 harg6 x5) 8 :=
  (show _ = stepE (rdI arg4 harg4 x3 7) (rdS arg6 harg6 x5 7) (runA.sl.v1210 c arg4 harg4 arg6 harg6 x3 x5) from rfl).trans (congrArg _ (accE7 c arg4 harg4 arg6 harg6 x3 x5))
/-- The run's packed device counts after 8 groups of tokens. -/
theorem accD8 : runA.sl.v1357 c arg4 harg4 arg6 harg6 x3 x5 = accD (rdI arg4 harg4 x3) (rdS arg6 harg6 x5) 8 :=
  (show _ = stepD (rdI arg4 harg4 x3 7) (rdS arg6 harg6 x5 7) (runA.sl.v1215 c arg4 harg4 arg6 harg6 x3 x5) from rfl).trans (congrArg _ (accD7 c arg4 harg4 arg6 harg6 x3 x5))
/-- The run's packed expert counts after 9 groups of tokens. -/
theorem accE9 : runA.sl.v1494 c arg4 harg4 arg6 harg6 x3 x5 = accE (rdI arg4 harg4 x3) (rdS arg6 harg6 x5) 9 :=
  (show _ = stepE (rdI arg4 harg4 x3 8) (rdS arg6 harg6 x5 8) (runA.sl.v1352 c arg4 harg4 arg6 harg6 x3 x5) from rfl).trans (congrArg _ (accE8 c arg4 harg4 arg6 harg6 x3 x5))
/-- The run's packed device counts after 9 groups of tokens. -/
theorem accD9 : runA.sl.v1499 c arg4 harg4 arg6 harg6 x3 x5 = accD (rdI arg4 harg4 x3) (rdS arg6 harg6 x5) 9 :=
  (show _ = stepD (rdI arg4 harg4 x3 8) (rdS arg6 harg6 x5 8) (runA.sl.v1357 c arg4 harg4 arg6 harg6 x3 x5) from rfl).trans (congrArg _ (accD8 c arg4 harg4 arg6 harg6 x3 x5))
/-- The run's packed expert counts after 10 groups of tokens. -/
theorem accE10 : runA.sl.v1636 c arg4 harg4 arg6 harg6 x3 x5 = accE (rdI arg4 harg4 x3) (rdS arg6 harg6 x5) 10 :=
  (show _ = stepE (rdI arg4 harg4 x3 9) (rdS arg6 harg6 x5 9) (runA.sl.v1494 c arg4 harg4 arg6 harg6 x3 x5) from rfl).trans (congrArg _ (accE9 c arg4 harg4 arg6 harg6 x3 x5))
/-- The run's packed device counts after 10 groups of tokens. -/
theorem accD10 : runA.sl.v1641 c arg4 harg4 arg6 harg6 x3 x5 = accD (rdI arg4 harg4 x3) (rdS arg6 harg6 x5) 10 :=
  (show _ = stepD (rdI arg4 harg4 x3 9) (rdS arg6 harg6 x5 9) (runA.sl.v1499 c arg4 harg4 arg6 harg6 x3 x5) from rfl).trans (congrArg _ (accD9 c arg4 harg4 arg6 harg6 x3 x5))
/-- The run's packed expert counts after 11 groups of tokens. -/
theorem accE11 : runA.sl.v1778 c arg4 harg4 arg6 harg6 x3 x5 = accE (rdI arg4 harg4 x3) (rdS arg6 harg6 x5) 11 :=
  (show _ = stepE (rdI arg4 harg4 x3 10) (rdS arg6 harg6 x5 10) (runA.sl.v1636 c arg4 harg4 arg6 harg6 x3 x5) from rfl).trans (congrArg _ (accE10 c arg4 harg4 arg6 harg6 x3 x5))
/-- The run's packed device counts after 11 groups of tokens. -/
theorem accD11 : runA.sl.v1783 c arg4 harg4 arg6 harg6 x3 x5 = accD (rdI arg4 harg4 x3) (rdS arg6 harg6 x5) 11 :=
  (show _ = stepD (rdI arg4 harg4 x3 10) (rdS arg6 harg6 x5 10) (runA.sl.v1641 c arg4 harg4 arg6 harg6 x3 x5) from rfl).trans (congrArg _ (accD10 c arg4 harg4 arg6 harg6 x3 x5))
/-- The run's packed expert counts after 12 groups of tokens. -/
theorem accE12 : runA.sl.v1920 c arg4 harg4 arg6 harg6 x3 x5 = accE (rdI arg4 harg4 x3) (rdS arg6 harg6 x5) 12 :=
  (show _ = stepE (rdI arg4 harg4 x3 11) (rdS arg6 harg6 x5 11) (runA.sl.v1778 c arg4 harg4 arg6 harg6 x3 x5) from rfl).trans (congrArg _ (accE11 c arg4 harg4 arg6 harg6 x3 x5))
/-- The run's packed device counts after 12 groups of tokens. -/
theorem accD12 : runA.sl.v1925 c arg4 harg4 arg6 harg6 x3 x5 = accD (rdI arg4 harg4 x3) (rdS arg6 harg6 x5) 12 :=
  (show _ = stepD (rdI arg4 harg4 x3 11) (rdS arg6 harg6 x5 11) (runA.sl.v1783 c arg4 harg4 arg6 harg6 x3 x5) from rfl).trans (congrArg _ (accD11 c arg4 harg4 arg6 harg6 x3 x5))
/-- The run's packed expert counts after 13 groups of tokens. -/
theorem accE13 : runA.sl.v2062 c arg4 harg4 arg6 harg6 x3 x5 = accE (rdI arg4 harg4 x3) (rdS arg6 harg6 x5) 13 :=
  (show _ = stepE (rdI arg4 harg4 x3 12) (rdS arg6 harg6 x5 12) (runA.sl.v1920 c arg4 harg4 arg6 harg6 x3 x5) from rfl).trans (congrArg _ (accE12 c arg4 harg4 arg6 harg6 x3 x5))
/-- The run's packed device counts after 13 groups of tokens. -/
theorem accD13 : runA.sl.v2067 c arg4 harg4 arg6 harg6 x3 x5 = accD (rdI arg4 harg4 x3) (rdS arg6 harg6 x5) 13 :=
  (show _ = stepD (rdI arg4 harg4 x3 12) (rdS arg6 harg6 x5 12) (runA.sl.v1925 c arg4 harg4 arg6 harg6 x3 x5) from rfl).trans (congrArg _ (accD12 c arg4 harg4 arg6 harg6 x3 x5))
/-- The run's packed expert counts after 14 groups of tokens. -/
theorem accE14 : runA.sl.v2204 c arg4 harg4 arg6 harg6 x3 x5 = accE (rdI arg4 harg4 x3) (rdS arg6 harg6 x5) 14 :=
  (show _ = stepE (rdI arg4 harg4 x3 13) (rdS arg6 harg6 x5 13) (runA.sl.v2062 c arg4 harg4 arg6 harg6 x3 x5) from rfl).trans (congrArg _ (accE13 c arg4 harg4 arg6 harg6 x3 x5))
/-- The run's packed device counts after 14 groups of tokens. -/
theorem accD14 : runA.sl.v2209 c arg4 harg4 arg6 harg6 x3 x5 = accD (rdI arg4 harg4 x3) (rdS arg6 harg6 x5) 14 :=
  (show _ = stepD (rdI arg4 harg4 x3 13) (rdS arg6 harg6 x5 13) (runA.sl.v2067 c arg4 harg4 arg6 harg6 x3 x5) from rfl).trans (congrArg _ (accD13 c arg4 harg4 arg6 harg6 x3 x5))
/-- The run's packed expert counts after 15 groups of tokens. -/
theorem accE15 : runA.sl.v2346 c arg4 harg4 arg6 harg6 x3 x5 = accE (rdI arg4 harg4 x3) (rdS arg6 harg6 x5) 15 :=
  (show _ = stepE (rdI arg4 harg4 x3 14) (rdS arg6 harg6 x5 14) (runA.sl.v2204 c arg4 harg4 arg6 harg6 x3 x5) from rfl).trans (congrArg _ (accE14 c arg4 harg4 arg6 harg6 x3 x5))
/-- The run's packed device counts after 15 groups of tokens. -/
theorem accD15 : runA.sl.v2351 c arg4 harg4 arg6 harg6 x3 x5 = accD (rdI arg4 harg4 x3) (rdS arg6 harg6 x5) 15 :=
  (show _ = stepD (rdI arg4 harg4 x3 14) (rdS arg6 harg6 x5 14) (runA.sl.v2209 c arg4 harg4 arg6 harg6 x3 x5) from rfl).trans (congrArg _ (accD14 c arg4 harg4 arg6 harg6 x3 x5))

/-- The run's packed expert counts are the closed term. -/
theorem r_eq : runA.sl.r c arg4 harg4 arg6 harg6 x3 x5 = packE x3 x5 := by
  refine (show _ = stepE (rdI arg4 harg4 x3 15) (rdS arg6 harg6 x5 15) (runA.sl.v2346 c arg4 harg4 arg6 harg6 x3 x5) from rfl).trans ?_
  rw [accE15, rdI_eq, rdS_eq]
  rfl

/-- The run's packed device counts are the closed term. -/
theorem r1_eq : runA.sl.r_1 c arg4 harg4 arg6 harg6 x3 x5 = packD x3 x5 := by
  refine (show _ = stepD (rdI arg4 harg4 x3 15) (rdS arg6 harg6 x5 15) (runA.sl.v2351 c arg4 harg4 arg6 harg6 x3 x5) from rfl).trans ?_
  rw [accD15, rdI_eq, rdS_eq]
  rfl

/-- The token counts, with one for an empty sequence, that the run divides by. -/
theorem r9_eq : runA.sl.r_9 c arg4 harg4 arg6 harg6 x3 x5 = tC (packE x3 x5) (packD x3 x5) := by
  rw [← r_eq c arg4 harg4 arg6 harg6, ← r1_eq c arg4 harg4 arg6 harg6]; rfl

end Cert.KernelIdeal.Run
-- ==== Proof.KVal.Tile.lean ====
/- What every grid point computes from its tile, as closed terms: the softmax of its logits, the gradient of its
   logits, and the per-sequence sums of probabilities after it. -/
module

public import proofs.«01_k».proof.Proof.KVal.Vocab
public import Idealize.ShloMosaic.Lib.Pointwise
public import Idealize.ShloMosaic.Lib.Pipeline.ReadBack

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.Sem

variable {F : FTy → Type} [FloatOps F]

/-- The two halves of the tile's row of scales and of its row of sequence ids. -/
def sc0 (x1 : Vec F S1x256 .f32) : Vec F S1x128 .f32 := View.ld x1 (Rect.unit (s := S1x256) ![0, 0] S1x128.size inb_S1x256_S1x128_0_0)
/-- The second half of the tile's row of scales. -/
def sc1 (x1 : Vec F S1x256 .f32) : Vec F S1x128 .f32 := View.ld x1 (Rect.unit (s := S1x256) ![0, 128] S1x128.size inb_S1x256_S1x128_0_128)
/-- The first half of the tile's row of sequence ids, as loaded. -/
def id0 (x4 : Vec F S1x256 .i32) : Vec F S1x128 .i32 := View.ld x4 (Rect.unit (s := S1x256) ![0, 0] S1x128.size inb_S1x256_S1x128_0_0)
/-- The second half of the tile's row of sequence ids, as loaded. -/
def id1 (x4 : Vec F S1x256 .i32) : Vec F S1x128 .i32 := View.ld x4 (Rect.unit (s := S1x256) ![0, 128] S1x128.size inb_S1x256_S1x128_0_128)
/-- The first half of the tile's row of sequence ids, as the body uses it. -/
def sg0 (x4 : Vec F S1x256 .i32) : IVec S1x128 32 := k0_pay389 (F := F) (id0 x4)
/-- The second half of the tile's row of sequence ids, as the body uses it. -/
def sg1 (x4 : Vec F S1x256 .i32) : IVec S1x128 32 := k0_pay399 (F := F) (id1 x4)

/-- The softmax over the experts, of the tile's two halves. -/
def s0 (x0 : Vec F S256x12288 .fp8e4m3) (x1 : Vec F S1x256 .f32) (x2 : Vec F S160x12288 .bf16) : FVec F S160x128 .f32 :=
  k0_pay390 x2 x0 (sc0 x1)
/-- The softmax over the experts, of the tile's second half. -/
def s1 (x0 : Vec F S256x12288 .fp8e4m3) (x1 : Vec F S1x256 .f32) (x2 : Vec F S160x12288 .bf16) : FVec F S160x128 .f32 :=
  k0_pay400 (k0_pay388 x2 x0) (sc1 x1)

/-- The gradient of the logits, of the tile's two halves. -/
def dz0 (x0 : Vec F S256x12288 .fp8e4m3) (x1 : Vec F S1x256 .f32) (x2 : Vec F S160x12288 .bf16) (x4 : Vec F S1x256 .i32)
    (coef : FVec F S160x128 .f32) : FVec F S160x128 .f32 :=
  k0_pay392 (sg0 x4) (s0 x0 x1 x2) (k0_pay391 coef (id0 x4))
/-- The gradient of the logits, of the tile's second half. -/
def dz1 (x0 : Vec F S256x12288 .fp8e4m3) (x1 : Vec F S1x256 .f32) (x2 : Vec F S160x12288 .bf16) (x4 : Vec F S1x256 .i32)
    (coef : FVec F S160x128 .f32) : FVec F S160x128 .f32 :=
  k0_pay401 (k0_pay388 x2 x0) coef (id1 x4) (sc1 x1)

/-- The gradient of the tile's logits. -/
def dzV (x0 : Vec F S256x12288 .fp8e4m3) (x1 : Vec F S1x256 .f32) (x2 : Vec F S160x12288 .bf16) (x4 : Vec F S1x256 .i32)
    (coef : FVec F S160x128 .f32) : Vec F S160x256 .f32 := fun y =>
  if h : (y 1).val < 128 then dz0 x0 x1 x2 x4 coef (ix2 (y 0) ⟨(y 1).val, h⟩)
  else dz1 x0 x1 x2 x4 coef (ix2 (y 0) ⟨(y 1).val - 128, by have h2 : (y 1).val < 256 := (y 1).isLt; omega⟩)

/-- The sums of probabilities with one half tile added: lane `l` adds the half's token `l` to its own sequence. -/
def accHalf (sg : IVec S1x128 32) (s : FVec F S160x128 .f32) (acc : Vec F S5x160x128 .f32) : Vec F S5x160x128 .f32 := fun y =>
  FloatOps.addf (acc y) (Scalar.select (IntOp.cmpi .eq (sg (ix2 0 (y 2))) (BitVec.ofNat 32 (y 0).val)) (s (ix2 (y 1) (y 2))) (Scalar.ofBits .f32 0x00000000#32))

/-- The sums of probabilities with the tile added. -/
def accNext (x0 : Vec F S256x12288 .fp8e4m3) (x1 : Vec F S1x256 .f32) (x2 : Vec F S160x12288 .bf16) (x4 : Vec F S1x256 .i32)
    (acc : Vec F S5x160x128 .f32) : Vec F S5x160x128 .f32 :=
  accHalf (sg1 x4) (s1 x0 x1 x2) (accHalf (sg0 x4) (s0 x0 x1 x2) acc)

/-- Row `q` of the sums. -/
def R0 : Rect S5x160x128 := Rect.unit ![0, 0, 0] S1x160x128.size inb_S5x160x128_S1x160x128_0_0_0
/-- Row 1 of the sums. -/
def R1 : Rect S5x160x128 := Rect.unit ![1, 0, 0] S1x160x128.size inb_S5x160x128_S1x160x128_1_0_0
/-- Row 2 of the sums. -/
def R2 : Rect S5x160x128 := Rect.unit ![2, 0, 0] S1x160x128.size inb_S5x160x128_S1x160x128_2_0_0
/-- Row 3 of the sums. -/
def R3 : Rect S5x160x128 := Rect.unit ![3, 0, 0] S1x160x128.size inb_S5x160x128_S1x160x128_3_0_0
/-- Row 4 of the sums. -/
def R4 : Rect S5x160x128 := Rect.unit ![4, 0, 0] S1x160x128.size inb_S5x160x128_S1x160x128_4_0_0

/-- Where the elements of row 0 lie in the sums. -/
theorem emb_row0 (j0 : Fin 1) (j1 : Fin 160) (j2 : Fin 128) :
    (Rect.unit (s := S5x160x128) ![0, 0, 0] S1x160x128.size inb_S5x160x128_S1x160x128_0_0_0).emb (ix3 j0 j1 j2) = (ix3 (0 : Fin 5) j1 j2 : S5x160x128.Idx) := by
  funext a
  match a with
  | ⟨0, _⟩ => exact Fin.ext (by have := j0.isLt; show 0 + 1 * j0.val = 0; omega)
  | ⟨1, _⟩ => exact Fin.ext (by show 0 + 1 * j1.val = j1.val; omega)
  | ⟨2, _⟩ => exact Fin.ext (by show 0 + 1 * j2.val = j2.val; omega)

/-- Where the elements of row 1 lie in the sums. -/
theorem emb_row1 (j0 : Fin 1) (j1 : Fin 160) (j2 : Fin 128) :
    (Rect.unit (s := S5x160x128) ![1, 0, 0] S1x160x128.size inb_S5x160x128_S1x160x128_1_0_0).emb (ix3 j0 j1 j2) = (ix3 (1 : Fin 5) j1 j2 : S5x160x128.Idx) := by
  funext a
  match a with
  | ⟨0, _⟩ => exact Fin.ext (by have := j0.isLt; show 1 + 1 * j0.val = 1; omega)
  | ⟨1, _⟩ => exact Fin.ext (by show 0 + 1 * j1.val = j1.val; omega)
  | ⟨2, _⟩ => exact Fin.ext (by show 0 + 1 * j2.val = j2.val; omega)

/-- Where the elements of row 2 lie in the sums. -/
theorem emb_row2 (j0 : Fin 1) (j1 : Fin 160) (j2 : Fin 128) :
    (Rect.unit (s := S5x160x128) ![2, 0, 0] S1x160x128.size inb_S5x160x128_S1x160x128_2_0_0).emb (ix3 j0 j1 j2) = (ix3 (2 : Fin 5) j1 j2 : S5x160x128.Idx) := by
  funext a
  match a with
  | ⟨0, _⟩ => exact Fin.ext (by have := j0.isLt; show 2 + 1 * j0.val = 2; omega)
  | ⟨1, _⟩ => exact Fin.ext (by show 0 + 1 * j1.val = j1.val; omega)
  | ⟨2, _⟩ => exact Fin.ext (by show 0 + 1 * j2.val = j2.val; omega)

/-- Where the elements of row 3 lie in the sums. -/
theorem emb_row3 (j0 : Fin 1) (j1 : Fin 160) (j2 : Fin 128) :
    (Rect.unit (s := S5x160x128) ![3, 0, 0] S1x160x128.size inb_S5x160x128_S1x160x128_3_0_0).emb (ix3 j0 j1 j2) = (ix3 (3 : Fin 5) j1 j2 : S5x160x128.Idx) := by
  funext a
  match a with
  | ⟨0, _⟩ => exact Fin.ext (by have := j0.isLt; show 3 + 1 * j0.val = 3; omega)
  | ⟨1, _⟩ => exact Fin.ext (by show 0 + 1 * j1.val = j1.val; omega)
  | ⟨2, _⟩ => exact Fin.ext (by show 0 + 1 * j2.val = j2.val; omega)

/-- Where the elements of row 4 lie in the sums. -/
theorem emb_row4 (j0 : Fin 1) (j1 : Fin 160) (j2 : Fin 128) :
    (Rect.unit (s := S5x160x128) ![4, 0, 0] S1x160x128.size inb_S5x160x128_S1x160x128_4_0_0).emb (ix3 j0 j1 j2) = (ix3 (4 : Fin 5) j1 j2 : S5x160x128.Idx) := by
  funext a
  match a with
  | ⟨0, _⟩ => exact Fin.ext (by have := j0.isLt; show 4 + 1 * j0.val = 4; omega)
  | ⟨1, _⟩ => exact Fin.ext (by show 0 + 1 * j1.val = j1.val; omega)
  | ⟨2, _⟩ => exact Fin.ext (by show 0 + 1 * j2.val = j2.val; omega)

/-- Row 0 of the sums with a half tile added, as the kernel stores it. -/
theorem row1_0 (sg : IVec S1x128 32) (s : FVec F S160x128 .f32) (acc : Vec F S5x160x128 .f32) (j : S1x160x128.Idx) :
    k0_pay393 sg s (View.ld acc (Rect.unit (s := S5x160x128) ![0, 0, 0] S1x160x128.size inb_S5x160x128_S1x160x128_0_0_0)) j = accHalf sg s acc ((Rect.unit (s := S5x160x128) ![0, 0, 0] S1x160x128.size inb_S5x160x128_S1x160x128_0_0_0).emb j) := by
  idx_vars j
  rw [emb_row0]
  unfold accHalf
  pointwise [k0_pay393]

/-- Row 0 of the sums with a half tile added, as the kernel stores it. -/
theorem row2_0 (sg : IVec S1x128 32) (s : FVec F S160x128 .f32) (acc : Vec F S5x160x128 .f32) (j : S1x160x128.Idx) :
    k0_pay402 sg s (View.ld acc (Rect.unit (s := S5x160x128) ![0, 0, 0] S1x160x128.size inb_S5x160x128_S1x160x128_0_0_0)) j = accHalf sg s acc ((Rect.unit (s := S5x160x128) ![0, 0, 0] S1x160x128.size inb_S5x160x128_S1x160x128_0_0_0).emb j) := by
  idx_vars j
  rw [emb_row0]
  unfold accHalf
  pointwise [k0_pay402]

/-- Row 1 of the sums with a half tile added, as the kernel stores it. -/
theorem row1_1 (sg : IVec S1x128 32) (s : FVec F S160x128 .f32) (acc : Vec F S5x160x128 .f32) (j : S1x160x128.Idx) :
    k0_pay394 sg s (View.ld acc (Rect.unit (s := S5x160x128) ![1, 0, 0] S1x160x128.size inb_S5x160x128_S1x160x128_1_0_0)) j = accHalf sg s acc ((Rect.unit (s := S5x160x128) ![1, 0, 0] S1x160x128.size inb_S5x160x128_S1x160x128_1_0_0).emb j) := by
  idx_vars j
  rw [emb_row1]
  unfold accHalf
  pointwise [k0_pay394]

/-- Row 1 of the sums with a half tile added, as the kernel stores it. -/
theorem row2_1 (sg : IVec S1x128 32) (s : FVec F S160x128 .f32) (acc : Vec F S5x160x128 .f32) (j : S1x160x128.Idx) :
    k0_pay403 sg s (View.ld acc (Rect.unit (s := S5x160x128) ![1, 0, 0] S1x160x128.size inb_S5x160x128_S1x160x128_1_0_0)) j = accHalf sg s acc ((Rect.unit (s := S5x160x128) ![1, 0, 0] S1x160x128.size inb_S5x160x128_S1x160x128_1_0_0).emb j) := by
  idx_vars j
  rw [emb_row1]
  unfold accHalf
  pointwise [k0_pay403]

/-- Row 2 of the sums with a half tile added, as the kernel stores it. -/
theorem row1_2 (sg : IVec S1x128 32) (s : FVec F S160x128 .f32) (acc : Vec F S5x160x128 .f32) (j : S1x160x128.Idx) :
    k0_pay395 sg s (View.ld acc (Rect.unit (s := S5x160x128) ![2, 0, 0] S1x160x128.size inb_S5x160x128_S1x160x128_2_0_0)) j = accHalf sg s acc ((Rect.unit (s := S5x160x128) ![2, 0, 0] S1x160x128.size inb_S5x160x128_S1x160x128_2_0_0).emb j) := by
  idx_vars j
  rw [emb_row2]
  unfold accHalf
  pointwise [k0_pay395]

/-- Row 2 of the sums with a half tile added, as the kernel stores it. -/
theorem row2_2 (sg : IVec S1x128 32) (s : FVec F S160x128 .f32) (acc : Vec F S5x160x128 .f32) (j : S1x160x128.Idx) :
    k0_pay1 (k0_pay404 sg s (View.ld acc (Rect.unit (s := S5x160x128) ![2, 0, 0] S1x160x128.size inb_S5x160x128_S1x160x128_2_0_0))) j = accHalf sg s acc ((Rect.unit (s := S5x160x128) ![2, 0, 0] S1x160x128.size inb_S5x160x128_S1x160x128_2_0_0).emb j) := by
  idx_vars j
  rw [emb_row2]
  unfold accHalf
  pointwise [k0_pay1, k0_pay404]

/-- Row 3 of the sums with a half tile added, as the kernel stores it. -/
theorem row1_3 (sg : IVec S1x128 32) (s : FVec F S160x128 .f32) (acc : Vec F S5x160x128 .f32) (j : S1x160x128.Idx) :
    k0_pay396 sg s (View.ld acc (Rect.unit (s := S5x160x128) ![3, 0, 0] S1x160x128.size inb_S5x160x128_S1x160x128_3_0_0)) j = accHalf sg s acc ((Rect.unit (s := S5x160x128) ![3, 0, 0] S1x160x128.size inb_S5x160x128_S1x160x128_3_0_0).emb j) := by
  idx_vars j
  rw [emb_row3]
  unfold accHalf
  pointwise [k0_pay396]

/-- Row 3 of the sums with a half tile added, as the kernel stores it. -/
theorem row2_3 (sg : IVec S1x128 32) (s : FVec F S160x128 .f32) (acc : Vec F S5x160x128 .f32) (j : S1x160x128.Idx) :
    k0_pay2 sg s (View.ld acc (Rect.unit (s := S5x160x128) ![3, 0, 0] S1x160x128.size inb_S5x160x128_S1x160x128_3_0_0)) j = accHalf sg s acc ((Rect.unit (s := S5x160x128) ![3, 0, 0] S1x160x128.size inb_S5x160x128_S1x160x128_3_0_0).emb j) := by
  idx_vars j
  rw [emb_row3]
  unfold accHalf
  pointwise [k0_pay2]

/-- Row 4 of the sums with a half tile added, as the kernel stores it. -/
theorem row1_4 (sg : IVec S1x128 32) (s : FVec F S160x128 .f32) (acc : Vec F S5x160x128 .f32) (j : S1x160x128.Idx) :
    k0_pay398 (k0_pay397 sg s (View.ld acc (Rect.unit (s := S5x160x128) ![4, 0, 0] S1x160x128.size inb_S5x160x128_S1x160x128_4_0_0))) j = accHalf sg s acc ((Rect.unit (s := S5x160x128) ![4, 0, 0] S1x160x128.size inb_S5x160x128_S1x160x128_4_0_0).emb j) := by
  idx_vars j
  rw [emb_row4]
  unfold accHalf
  pointwise [k0_pay397, k0_pay398]

/-- Row 4 of the sums with a half tile added, as the kernel stores it. -/
theorem row2_4 (sg : IVec S1x128 32) (s : FVec F S160x128 .f32) (acc : Vec F S5x160x128 .f32) (j : S1x160x128.Idx) :
    k0_pay3 sg s (View.ld acc (Rect.unit (s := S5x160x128) ![4, 0, 0] S1x160x128.size inb_S5x160x128_S1x160x128_4_0_0)) j = accHalf sg s acc ((Rect.unit (s := S5x160x128) ![4, 0, 0] S1x160x128.size inb_S5x160x128_S1x160x128_4_0_0).emb j) := by
  idx_vars j
  rw [emb_row4]
  unfold accHalf
  pointwise [k0_pay3]

/-- The five rows stored for half tile 1. -/
def rows1 (sg : IVec S1x128 32) (s : FVec F S160x128 .f32) (v0 v1 v2 v3 v4 : Vec F S1x160x128 .f32) : List (View.Piece (Elt F) S5x160x128 .f32) :=
  [⟨Rect.unit (s := S5x160x128) ![4, 0, 0] S1x160x128.size inb_S5x160x128_S1x160x128_4_0_0, k0_pay398 (k0_pay397 sg s v4)⟩, ⟨Rect.unit (s := S5x160x128) ![3, 0, 0] S1x160x128.size inb_S5x160x128_S1x160x128_3_0_0, k0_pay396 sg s v3⟩, ⟨Rect.unit (s := S5x160x128) ![2, 0, 0] S1x160x128.size inb_S5x160x128_S1x160x128_2_0_0, k0_pay395 sg s v2⟩, ⟨Rect.unit (s := S5x160x128) ![1, 0, 0] S1x160x128.size inb_S5x160x128_S1x160x128_1_0_0, k0_pay394 sg s v1⟩, ⟨Rect.unit (s := S5x160x128) ![0, 0, 0] S1x160x128.size inb_S5x160x128_S1x160x128_0_0_0, k0_pay393 sg s v0⟩]

/-- The five rows stored for half tile 1 cover the sums. -/
theorem cover_rows1 (sg : IVec S1x128 32) (s : FVec F S160x128 .f32) (v0 v1 v2 v3 v4 : Vec F S1x160x128 .f32) (y : S5x160x128.Idx) :
    ∃ p ∈ rows1 sg s v0 v1 v2 v3 v4, y ∈ p.1.set :=
  View.cover_of_tiledL (rows1 sg s v0 v1 v2 v3 v4) S1x160x128.size (by sl_kernel_rfl) y

/-- The five rows stored for half tile 1, over any earlier stores, are the sums with that half added. -/
theorem canon_rows1 (sg : IVec S1x128 32) (s : FVec F S160x128 .f32) (acc : Vec F S5x160x128 .f32) (L' : List (View.Piece (Elt F) S5x160x128 .f32)) :
    View.canon (rows1 sg s (View.ld acc (Rect.unit (s := S5x160x128) ![0, 0, 0] S1x160x128.size inb_S5x160x128_S1x160x128_0_0_0)) (View.ld acc (Rect.unit (s := S5x160x128) ![1, 0, 0] S1x160x128.size inb_S5x160x128_S1x160x128_1_0_0)) (View.ld acc (Rect.unit (s := S5x160x128) ![2, 0, 0] S1x160x128.size inb_S5x160x128_S1x160x128_2_0_0)) (View.ld acc (Rect.unit (s := S5x160x128) ![3, 0, 0] S1x160x128.size inb_S5x160x128_S1x160x128_3_0_0)) (View.ld acc (Rect.unit (s := S5x160x128) ![4, 0, 0] S1x160x128.size inb_S5x160x128_S1x160x128_4_0_0)) ++ L') = accHalf sg s acc := by
  funext y
  exact View.canon_append_of_piecesOf (accHalf sg s acc) L' (rows1 sg s (View.ld acc (Rect.unit (s := S5x160x128) ![0, 0, 0] S1x160x128.size inb_S5x160x128_S1x160x128_0_0_0)) (View.ld acc (Rect.unit (s := S5x160x128) ![1, 0, 0] S1x160x128.size inb_S5x160x128_S1x160x128_1_0_0)) (View.ld acc (Rect.unit (s := S5x160x128) ![2, 0, 0] S1x160x128.size inb_S5x160x128_S1x160x128_2_0_0)) (View.ld acc (Rect.unit (s := S5x160x128) ![3, 0, 0] S1x160x128.size inb_S5x160x128_S1x160x128_3_0_0)) (View.ld acc (Rect.unit (s := S5x160x128) ![4, 0, 0] S1x160x128.size inb_S5x160x128_S1x160x128_4_0_0))) (And.intro (row1_4 sg s acc) (And.intro (row1_3 sg s acc) (And.intro (row1_2 sg s acc) (And.intro (row1_1 sg s acc) (And.intro (row1_0 sg s acc) trivial))))) y (cover_rows1 sg s _ _ _ _ _ y)

/-- The five rows stored for half tile 2. -/
def rows2 (sg : IVec S1x128 32) (s : FVec F S160x128 .f32) (v0 v1 v2 v3 v4 : Vec F S1x160x128 .f32) : List (View.Piece (Elt F) S5x160x128 .f32) :=
  [⟨Rect.unit (s := S5x160x128) ![4, 0, 0] S1x160x128.size inb_S5x160x128_S1x160x128_4_0_0, k0_pay3 sg s v4⟩, ⟨Rect.unit (s := S5x160x128) ![3, 0, 0] S1x160x128.size inb_S5x160x128_S1x160x128_3_0_0, k0_pay2 sg s v3⟩, ⟨Rect.unit (s := S5x160x128) ![2, 0, 0] S1x160x128.size inb_S5x160x128_S1x160x128_2_0_0, k0_pay1 (k0_pay404 sg s v2)⟩, ⟨Rect.unit (s := S5x160x128) ![1, 0, 0] S1x160x128.size inb_S5x160x128_S1x160x128_1_0_0, k0_pay403 sg s v1⟩, ⟨Rect.unit (s := S5x160x128) ![0, 0, 0] S1x160x128.size inb_S5x160x128_S1x160x128_0_0_0, k0_pay402 sg s v0⟩]

/-- The five rows stored for half tile 2 cover the sums. -/
theorem cover_rows2 (sg : IVec S1x128 32) (s : FVec F S160x128 .f32) (v0 v1 v2 v3 v4 : Vec F S1x160x128 .f32) (y : S5x160x128.Idx) :
    ∃ p ∈ rows2 sg s v0 v1 v2 v3 v4, y ∈ p.1.set :=
  View.cover_of_tiledL (rows2 sg s v0 v1 v2 v3 v4) S1x160x128.size (by sl_kernel_rfl) y

/-- The five rows stored for half tile 2, over any earlier stores, are the sums with that half added. -/
theorem canon_rows2 (sg : IVec S1x128 32) (s : FVec F S160x128 .f32) (acc : Vec F S5x160x128 .f32) (L' : List (View.Piece (Elt F) S5x160x128 .f32)) :
    View.canon (rows2 sg s (View.ld acc (Rect.unit (s := S5x160x128) ![0, 0, 0] S1x160x128.size inb_S5x160x128_S1x160x128_0_0_0)) (View.ld acc (Rect.unit (s := S5x160x128) ![1, 0, 0] S1x160x128.size inb_S5x160x128_S1x160x128_1_0_0)) (View.ld acc (Rect.unit (s := S5x160x128) ![2, 0, 0] S1x160x128.size inb_S5x160x128_S1x160x128_2_0_0)) (View.ld acc (Rect.unit (s := S5x160x128) ![3, 0, 0] S1x160x128.size inb_S5x160x128_S1x160x128_3_0_0)) (View.ld acc (Rect.unit (s := S5x160x128) ![4, 0, 0] S1x160x128.size inb_S5x160x128_S1x160x128_4_0_0)) ++ L') = accHalf sg s acc := by
  funext y
  exact View.canon_append_of_piecesOf (accHalf sg s acc) L' (rows2 sg s (View.ld acc (Rect.unit (s := S5x160x128) ![0, 0, 0] S1x160x128.size inb_S5x160x128_S1x160x128_0_0_0)) (View.ld acc (Rect.unit (s := S5x160x128) ![1, 0, 0] S1x160x128.size inb_S5x160x128_S1x160x128_1_0_0)) (View.ld acc (Rect.unit (s := S5x160x128) ![2, 0, 0] S1x160x128.size inb_S5x160x128_S1x160x128_2_0_0)) (View.ld acc (Rect.unit (s := S5x160x128) ![3, 0, 0] S1x160x128.size inb_S5x160x128_S1x160x128_3_0_0)) (View.ld acc (Rect.unit (s := S5x160x128) ![4, 0, 0] S1x160x128.size inb_S5x160x128_S1x160x128_4_0_0))) (And.intro (row2_4 sg s acc) (And.intro (row2_3 sg s acc) (And.intro (row2_2 sg s acc) (And.intro (row2_1 sg s acc) (And.intro (row2_0 sg s acc) trivial))))) y (cover_rows2 sg s _ _ _ _ _ y)

/-- A buffer whose stores cover it reads back as they say. -/
theorem read_of_canon {s : Shape} {e : EltTy} (v : View sig .tc .vmem s e) (f) (L L' : List (View.Piece (Elt F) s e)) (X : s.Idx → Elt F e)
    (hc : ∀ y, ∃ p ∈ L, y ∈ p.1.set) (h : View.canon (L ++ L') = X) : v.read (Elt F) (v.writes (Elt F) f (L ++ L')) = X := by
  rw [← h]
  exact View.read_writes_eq_canon v f (L ++ L') (fun y => by
    obtain ⟨p, hp, hy⟩ := hc y
    exact ⟨p, List.mem_append_left _ hp, hy⟩)

/-- A load of a buffer whose stores read back as `X` reads `X`. -/
theorem readCov_of_canon {s : Shape} {e : EltTy} (v : View sig .tc .vmem s e) (L : List (View.Piece (Elt F) s e)) (X : s.Idx → Elt F e) (r : Rect s)
    (h : View.canon L = X) : v.readCov L r.toLoadRect = View.ld X r := by
  subst h
  exact View.readCov_eq_canon' v L _

/-- The two stored halves of the gradient are the gradient. -/
theorem dz_half0 (x0 : Vec F S256x12288 .fp8e4m3) (x1 : Vec F S1x256 .f32) (x2 : Vec F S160x12288 .bf16) (x4 : Vec F S1x256 .i32)
    (coef : FVec F S160x128 .f32) (j : S160x128.Idx) :
    dz0 x0 x1 x2 x4 coef j = dzV x0 x1 x2 x4 coef ((Rect.unit (s := S160x256) ![0, 0] S160x128.size inb_S160x256_S160x128_0_0).emb j) := by
  idx_vars j
  rw [show ((Rect.unit (s := S160x256) ![0, 0] S160x128.size inb_S160x256_S160x128_0_0).emb (ix2 j0 j1)) = (ix2 j0 (⟨j1.val, by omega⟩ : Fin 256) : S160x256.Idx) from by
    funext a
    match a with
    | ⟨0, _⟩ => exact Fin.ext (by show 0 + 1 * j0.val = j0.val; omega)
    | ⟨1, _⟩ => exact Fin.ext (by show 0 + 1 * j1.val = j1.val; omega)]
  unfold dzV
  rw [dif_pos (show ((ix2 j0 (⟨j1.val, by omega⟩ : Fin 256) : S160x256.Idx) 1).val < 128 from j1.isLt)]
  rfl

/-- The second half of the tile's gradient. -/
theorem dz_half1 (x0 : Vec F S256x12288 .fp8e4m3) (x1 : Vec F S1x256 .f32) (x2 : Vec F S160x12288 .bf16) (x4 : Vec F S1x256 .i32)
    (coef : FVec F S160x128 .f32) (j : S160x128.Idx) :
    dz1 x0 x1 x2 x4 coef j = dzV x0 x1 x2 x4 coef ((Rect.unit (s := S160x256) ![0, 128] S160x128.size inb_S160x256_S160x128_0_128).emb j) := by
  idx_vars j
  rw [show ((Rect.unit (s := S160x256) ![0, 128] S160x128.size inb_S160x256_S160x128_0_128).emb (ix2 j0 j1)) = (ix2 j0 (⟨j1.val + 128, by omega⟩ : Fin 256) : S160x256.Idx) from by
    funext a
    match a with
    | ⟨0, _⟩ => exact Fin.ext (by show 0 + 1 * j0.val = j0.val; omega)
    | ⟨1, _⟩ => exact Fin.ext (by show 128 + 1 * j1.val = j1.val + 128; omega)]
  unfold dzV
  rw [dif_neg (show ¬ ((ix2 j0 (⟨j1.val + 128, by omega⟩ : Fin 256) : S160x256.Idx) 1).val < 128 from by
    show ¬ (j1.val + 128 < 128); omega)]
  exact congrArg (fun k => dz1 x0 x1 x2 x4 coef (ix2 j0 k)) (Fin.ext (by show j1.val = j1.val + 128 - 128; omega))

/-- The stores of the gradient's two halves. -/
def dzL (x0 : Vec F S256x12288 .fp8e4m3) (x1 : Vec F S1x256 .f32) (x2 : Vec F S160x12288 .bf16) (x4 : Vec F S1x256 .i32)
    (coef : FVec F S160x128 .f32) : List (View.Piece (Elt F) S160x256 .f32) :=
  [⟨Rect.unit (s := S160x256) ![0, 128] S160x128.size inb_S160x256_S160x128_0_128, dz1 x0 x1 x2 x4 coef⟩,
   ⟨Rect.unit (s := S160x256) ![0, 0] S160x128.size inb_S160x256_S160x128_0_0, dz0 x0 x1 x2 x4 coef⟩]

/-- A buffer to which both halves of the gradient were stored reads back as the gradient. -/
theorem read_dzL (v : View sig .tc .vmem S160x256 .f32) (f) (x0 : Vec F S256x12288 .fp8e4m3) (x1 : Vec F S1x256 .f32) (x2 : Vec F S160x12288 .bf16) (x4 : Vec F S1x256 .i32)
    (coef : FVec F S160x128 .f32) : v.read (Elt F) (v.writes (Elt F) f (dzL x0 x1 x2 x4 coef)) = dzV x0 x1 x2 x4 coef := by
  have hc : ∀ y, ∃ p ∈ dzL x0 x1 x2 x4 coef, y ∈ p.1.set := View.cover_of_tiledL (dzL x0 x1 x2 x4 coef) S160x128.size (by sl_kernel_rfl)
  refine (View.read_writes_eq_canon v f _ hc).trans ?_
  funext y
  exact View.canon_append_of_piecesOf (dzV x0 x1 x2 x4 coef) [] (dzL x0 x1 x2 x4 coef) (And.intro (dz_half1 x0 x1 x2 x4 coef) (And.intro (dz_half0 x0 x1 x2 x4 coef) trivial)) y (hc y)

/-- A buffer stored whole reads back as stored. -/
theorem read_whole1 {s : Shape} {e : EltTy} (v : View sig .tc .vmem s e) (f) (off : Fin s.rank → ℕ) (h : off = fun _ => 0) (inb) (X : s.Idx → Elt F e) :
    v.read (Elt F) (v.writes (Elt F) f [⟨Rect.unit off s.size inb, X⟩]) = X := by
  subst h
  refine (View.read_writes_eq_canon v f _ (fun y => ⟨_, List.mem_singleton.mpr rfl, View.mem_set_unit_zero rfl inb y⟩)).trans ?_
  exact View.canon_unit_zero rfl inb X

/-- The zero offset in 2 dimensions. -/
theorem off2 : (![0, 0] : Fin 2 → ℕ) = fun _ => 0 := by funext a; match a with | ⟨0, _⟩ => rfl | ⟨1, _⟩ => rfl
/-- The zero offset in 3 dimensions. -/
theorem off3 : (![0, 0, 0] : Fin 3 → ℕ) = fun _ => 0 := by funext a; match a with | ⟨0, _⟩ => rfl | ⟨1, _⟩ => rfl | ⟨2, _⟩ => rfl
/-- The zero offset in 1 dimension. -/
theorem off1 : (![0] : Fin 1 → ℕ) = fun _ => 0 := by funext a; match a with | ⟨0, _⟩ => rfl

/-- A load of the whole tile of codes is the tile. -/
theorem ld_x0 (x : Vec F S256x12288 .fp8e4m3) : View.ld x (Rect.unit (s := S256x12288) ![0, 0] S256x12288.size inb_S256x12288_S256x12288_0_0) = x := View.ld_unit_zero off2 _ x
/-- A load of the whole weights is the weights. -/
theorem ld_x2 (x : Vec F S160x12288 .bf16) : View.ld x (Rect.unit (s := S160x12288) ![0, 0] S160x12288.size inb_S160x12288_S160x12288_0_0) = x := View.ld_unit_zero off2 _ x
/-- A load of a whole table is the table. -/
theorem ld_tab (x : Vec F S160x128 .f32) : View.ld x (Rect.unit (s := S160x128) ![0, 0] S160x128.size inb_S160x128_S160x128_0_0) = x := View.ld_unit_zero off2 _ x
/-- A load of the whole row of token counts is the row. -/
theorem ld_t (x : Vec F S1x128 .f32) : View.ld x (Rect.unit (s := S1x128) ![0, 0] S1x128.size inb_S1x128_S1x128_0_0) = x := View.ld_unit_zero off2 _ x

/-- A load of the whole tile of codes is the tile. -/
theorem ld_x0b (x : Vec F S256x12288 .fp8e4m3) : View.ld x (Rect.unit (s := S256x12288) ![0, 0] ![256, 12288] inb_S256x12288_S256x12288_0_0) = x := View.ld_unit_zero off2 _ x
/-- A load of the whole weights is the weights. -/
theorem ld_x2b (x : Vec F S160x12288 .bf16) : View.ld x (Rect.unit (s := S160x12288) ![0, 0] ![160, 12288] inb_S160x12288_S160x12288_0_0) = x := View.ld_unit_zero off2 _ x
/-- A load of a whole table is the table. -/
theorem ld_tabb (x : Vec F S160x128 .f32) : View.ld x (Rect.unit (s := S160x128) ![0, 0] ![160, 128] inb_S160x128_S160x128_0_0) = x := View.ld_unit_zero off2 _ x
/-- A load of the whole row of token counts is the row. -/
theorem ld_tb (x : Vec F S1x128 .f32) : View.ld x (Rect.unit (s := S1x128) ![0, 0] ![1, 128] inb_S1x128_S1x128_0_0) = x := View.ld_unit_zero off2 _ x

/-- The counts as stored. -/
def cntV (E : IVec S160x128 32) : Vec F S5x160 .i32 := k0_pay306 (F := F) (colE E)
/-- The device counts as stored. -/
def devV (D : IVec S16x128 32) : Vec F S5x8 .i32 := k0_pay307 (F := F) D (k0_pay301 lanes160) (k0_pay302 lanes160 D) (k0_pay303 D) (k0_pay304 lanes160)

/-- The sums of four sequences in their columns; the losses and the probabilities as stored. -/
def sumsV (acc : Vec F S5x160x128 .f32) : FVec F S160x128 .f32 :=
  k0_pay380 lanes160 (View.ld acc (Rect.unit (s := S5x160x128) ![0, 0, 0] S1x160x128.size inb_S5x160x128_S1x160x128_0_0_0)) (View.ld acc (Rect.unit (s := S5x160x128) ![1, 0, 0] S1x160x128.size inb_S5x160x128_S1x160x128_1_0_0)) (View.ld acc (Rect.unit (s := S5x160x128) ![2, 0, 0] S1x160x128.size inb_S5x160x128_S1x160x128_2_0_0)) (View.ld acc (Rect.unit (s := S5x160x128) ![3, 0, 0] S1x160x128.size inb_S5x160x128_S1x160x128_3_0_0))
/-- The probabilities as stored. -/
def pV (acc : Vec F S5x160x128 .f32) (t : Vec F S1x128 .f32) : Vec F S5x160 .f32 :=
  k0_pay383 lanes160 (sumsV acc) k0_pay381 (View.ld acc (Rect.unit (s := S5x160x128) ![4, 0, 0] S1x160x128.size inb_S5x160x128_S1x160x128_4_0_0)) t
/-- The expert losses as stored. -/
def leV (acc : Vec F S5x160x128 .f32) (t : Vec F S1x128 .f32) (f : Vec F S160x128 .f32) : Vec F S5 .f32 :=
  k0_pay384 lanes160 (sumsV acc) k0_pay381 (View.ld acc (Rect.unit (s := S5x160x128) ![4, 0, 0] S1x160x128.size inb_S5x160x128_S1x160x128_4_0_0)) t f
/-- The device losses as stored. -/
def ldV (acc : Vec F S5x160x128 .f32) (t : Vec F S1x128 .f32) (f : Vec F S160x128 .f32) : Vec F S5 .f32 :=
  k0_pay385 lanes160 (sumsV acc) k0_pay381 (View.ld acc (Rect.unit (s := S5x160x128) ![4, 0, 0] S1x160x128.size inb_S5x160x128_S1x160x128_4_0_0)) t f
/-- The communication losses as stored. -/
def lcV (acc : Vec F S5x160x128 .f32) (t : Vec F S1x128 .f32) (f : Vec F S160x128 .f32) : Vec F S5 .f32 :=
  k0_pay4 (k0_pay386 lanes160 (sumsV acc) k0_pay381 (View.ld acc (Rect.unit (s := S5x160x128) ![4, 0, 0] S1x160x128.size inb_S5x160x128_S1x160x128_4_0_0)) t f)

end Cert.KernelIdeal.Val
-- ==== Proof.KVal.BridgeA2.lean ====
/- The remaining words of the first point's run: the tables and the scratch buffers it fills. -/
module

public import proofs.«01_k».proof.Proof.KVal.BridgeA
public import proofs.«01_k».proof.Proof.KVal.Tile

@[expose] public section

set_option maxRecDepth 65536

noncomputable section

namespace Cert.KernelIdeal.Run

open Cert.KernelIdeal Cert.KernelIdeal.Gen Cert.KernelIdeal.Val
open Idealize.ShloMosaic Idealize.ShloMosaic.TcCoe Idealize.ShloMosaic.Tactic
open Idealize.SL Idealize.SL.RA Idealize.SL.Sem

variable {F : FTy → Type} [FloatOps F]
variable (c : Dev nD) (arg4 : Memref sig .tc .vmem S6x2048 .i32) (harg4 : arg4.IsWhole) (arg6 : Memref sig .tc .vmem S1x2048 .i32) (harg6 : arg6.IsWhole) (x3 : Vec F S6x2048 .i32) (x5 : Vec F S1x2048 .i32)

/-- What the run stores to the table of gradient weights. -/
theorem HS0_eq : runA.sl.HS0_1 c arg4 harg4 arg6 harg6 x3 x5 =
    [⟨Rect.unit ![0, 0] S160x128.size inb_S160x128_S160x128_0_0, coefV (packE x3 x5) (packD x3 x5)⟩] := by
  rw [← r_eq c arg4 harg4 arg6 harg6, ← r1_eq c arg4 harg4 arg6 harg6]; rfl

/-- The run's expert counts, one column per sequence. -/
theorem r5_eq : runA.sl.r_5 c arg4 harg4 arg6 harg6 x3 x5 = colE (packE x3 x5) := by
  rw [← r_eq c arg4 harg4 arg6 harg6]; rfl

/-- The run's table of the experts' factors. -/
theorem r50_eq : runA.sl.r_50 c arg4 harg4 arg6 harg6 x3 x5 = fV (packE x3 x5) (packD x3 x5) := by
  rw [← r_eq c arg4 harg4 arg6 harg6, ← r1_eq c arg4 harg4 arg6 harg6]; rfl

/-- The run's table of the devices' factors. -/
theorem v2983_eq : runA.sl.v2983 c arg4 harg4 arg6 harg6 x3 x5 = fdevV (packE x3 x5) (packD x3 x5) := by
  rw [← r_eq c arg4 harg4 arg6 harg6, ← r1_eq c arg4 harg4 arg6 harg6]; rfl

/-- The run's table of the communication factors. -/
theorem v3059_eq : runA.sl.v3059 c arg4 harg4 arg6 harg6 x3 x5 = fcommV (packE x3 x5) (packD x3 x5) := by
  rw [← r_eq c arg4 harg4 arg6 harg6, ← r1_eq c arg4 harg4 arg6 harg6]; rfl

/-- The run's row of token counts. -/
theorem v3062_eq : runA.sl.v3062 c arg4 harg4 arg6 harg6 x3 x5 = tV (packE x3 x5) (packD x3 x5) := by
  rw [← r_eq c arg4 harg4 arg6 harg6, ← r1_eq c arg4 harg4 arg6 harg6]; rfl

end Cert.KernelIdeal.Run
-- ==== Proof.KVal.ValA.lean ====
/- The stores of the run at the first point, read back: the closed terms. -/
module

public import proofs.«01_k».proof.Proof.KRun.RunA
public import proofs.«01_k».proof.Proof.KVal.BridgeA2

@[expose] public section

set_option maxRecDepth 65536

noncomputable section

namespace Cert.KernelIdeal.Run

open Cert.KernelIdeal Cert.KernelIdeal.Gen Cert.KernelIdeal.Val
open Idealize.ShloMosaic Idealize.ShloMosaic.TcCoe Idealize.ShloMosaic.Tactic
open Idealize.SL Idealize.SL.RA Idealize.SL.Sem

variable {F : FTy → Type} [FloatOps F]
variable (c : Dev nD) (i : grid0.Coords) (arg1 : Memref sig .tc .vmem S256x12288 .fp8e4m3) (harg1 : arg1.IsWhole) (arg2 : Memref sig .tc .vmem S1x256 .f32) (harg2 : arg2.IsWhole) (arg3 : Memref sig .tc .vmem S160x12288 .bf16) (harg3 : arg3.IsWhole) (arg4 : Memref sig .tc .vmem S6x2048 .i32) (harg4 : arg4.IsWhole) (arg5 : Memref sig .tc .vmem S1x256 .i32) (harg5 : arg5.IsWhole) (arg6 : Memref sig .tc .vmem S1x2048 .i32) (harg6 : arg6.IsWhole) (arg7 : Memref sig .tc .vmem S160x256 .f32) (harg7 : arg7.IsWhole) (arg8 : Memref sig .tc .vmem S5 .f32) (harg8 : arg8.IsWhole) (arg9 : Memref sig .tc .vmem S5 .f32) (harg9 : arg9.IsWhole) (arg10 : Memref sig .tc .vmem S5 .f32) (harg10 : arg10.IsWhole) (arg11 : Memref sig .tc .vmem S5x160 .f32) (harg11 : arg11.IsWhole) (arg12 : Memref sig .tc .vmem S5x160 .i32) (harg12 : arg12.IsWhole) (arg13 : Memref sig .tc .vmem S5x8 .i32) (harg13 : arg13.IsWhole) (arg14 : Memref sig .tc .vmem S160x128 .f32) (harg14 : arg14.IsWhole) (arg15 : Memref sig .tc .vmem S160x128 .f32) (harg15 : arg15.IsWhole) (arg16 : Memref sig .tc .vmem S160x128 .f32) (harg16 : arg16.IsWhole) (arg17 : Memref sig .tc .vmem S160x128 .f32) (harg17 : arg17.IsWhole) (arg18 : Memref sig .tc .vmem S1x128 .f32) (harg18 : arg18.IsWhole) (arg19 : Memref sig .tc .vmem S5x160x128 .f32) (harg19 : arg19.IsWhole)
variable (x0 : Vec F S256x12288 .fp8e4m3) (x1 : Vec F S1x256 .f32) (x2 : Vec F S160x12288 .bf16) (x3 : Vec F S6x2048 .i32) (x4 : Vec F S1x256 .i32) (x5 : Vec F S1x2048 .i32)

/-- The logits that the first point's run computes, before the scales. -/
theorem A_z : runA.sl.r_51 c arg1 harg1 arg3 harg3 x0 x2 = k0_pay388 x2 x0 := by
  unfold runA.sl.r_51; simp only [View.readAt_eq_ld, Memref.IsWhole.read_unread, ld_x0, ld_x2, ld_tab, ld_t, ld_x0b, ld_x2b, ld_tabb, ld_tb]
/-- The first half tile's sequence ids in the first point's run. -/
theorem A_sg0 : runA.sl.r_52 c arg5 harg5 x4 = sg0 x4 := by
  unfold runA.sl.r_52 sg0 id0; simp only [View.readAt_eq_ld, Memref.IsWhole.read_unread, ld_x0, ld_x2, ld_tab, ld_t, ld_x0b, ld_x2b, ld_tabb, ld_tb]
/-- The second half tile's sequence ids in the first point's run. -/
theorem A_sg1 : runA.sl.r_57 c arg5 harg5 x4 = sg1 x4 := by
  unfold runA.sl.r_57 sg1 id1; simp only [View.readAt_eq_ld, Memref.IsWhole.read_unread, ld_x0, ld_x2, ld_tab, ld_t, ld_x0b, ld_x2b, ld_tabb, ld_tb]
/-- The first half tile's softmax in the first point's run. -/
theorem A_s0 : runA.sl.r_53 c arg1 harg1 arg2 harg2 arg3 harg3 x0 x1 x2 = s0 x0 x1 x2 := by
  unfold runA.sl.r_53 s0 sc0; simp only [View.readAt_eq_ld, Memref.IsWhole.read_unread, ld_x0, ld_x2, ld_tab, ld_t, ld_x0b, ld_x2b, ld_tabb, ld_tb]
/-- The second half tile's softmax in the first point's run. -/
theorem A_s1 : runA.sl.r_58 c arg1 harg1 arg2 harg2 arg3 harg3 x0 x1 x2 = s1 x0 x1 x2 := by
  unfold runA.sl.r_58 s1 sc1; rw [A_z]; simp only [View.readAt_eq_ld, Memref.IsWhole.read_unread, ld_x0, ld_x2, ld_tab, ld_t, ld_x0b, ld_x2b, ld_tabb, ld_tb]

/-- The table of gradient weights that the first point's run loads. -/
theorem A_coef : runA.sl.v8 c arg4 harg4 arg6 harg6 arg14 x3 x5 = (coefV (packE x3 x5) (packD x3 x5)) := by
  unfold runA.sl.v8; rw [HS0_eq]; exact View.readCov_cons_toLoadRect _ _ _ _
/-- The weights that the first point's run picks for the tokens of the first half tile. -/
theorem A_g0 : runA.sl.r_54 c arg4 harg4 arg5 harg5 arg6 harg6 arg14 x3 x4 x5 = k0_pay391 (coefV (packE x3 x5) (packD x3 x5)) (id0 x4) := by
  unfold runA.sl.r_54 id0; rw [A_coef]; simp only [View.readAt_eq_ld, Memref.IsWhole.read_unread, ld_x0, ld_x2, ld_tab, ld_t, ld_x0b, ld_x2b, ld_tabb, ld_tb]
/-- The second half tile's gradient in the first point's run. -/
theorem A_d1 : runA.sl.r_59 c arg1 harg1 arg2 harg2 arg3 harg3 arg4 harg4 arg5 harg5 arg6 harg6 arg14 x0 x1 x2 x3 x4 x5 = dz1 x0 x1 x2 x4 (coefV (packE x3 x5) (packD x3 x5)) := by
  unfold runA.sl.r_59 dz1 id1 sc1; rw [A_z, A_coef]; simp only [View.readAt_eq_ld, Memref.IsWhole.read_unread, ld_x0, ld_x2, ld_tab, ld_t, ld_x0b, ld_x2b, ld_tabb, ld_tb]

/-- Row 0 of the sums that the first point's run loads for the first half tile: as it was before the tile. -/
theorem A_v1_0 : runA.sl.v52 c arg19 = View.ld (k0_pay387 (F := F)) (Rect.unit (s := S5x160x128) ![0, 0, 0] S1x160x128.size inb_S5x160x128_S1x160x128_0_0_0) := by
  unfold runA.sl.v52 runA.sl.HS5_1
  exact readCov_of_canon _ _ _ _ (View.canon_unit_zero off3 _ _)

/-- Row 1 of the sums that the first point's run loads for the first half tile: as it was before the tile. -/
theorem A_v1_1 : runA.sl.v64 c arg1 harg1 arg2 harg2 arg3 harg3 arg5 harg5 arg19 x0 x1 x2 x4 = View.ld (k0_pay387 (F := F)) (Rect.unit (s := S5x160x128) ![1, 0, 0] S1x160x128.size inb_S5x160x128_S1x160x128_1_0_0) := by
  unfold runA.sl.v64 runA.sl.HS5_2 runA.sl.HS5_1
  rw [View.readCov_skip _ _ _ _ _ (by rfl)]
  exact readCov_of_canon _ _ _ _ (View.canon_unit_zero off3 _ _)

/-- Row 2 of the sums that the first point's run loads for the first half tile: as it was before the tile. -/
theorem A_v1_2 : runA.sl.v76 c arg1 harg1 arg2 harg2 arg3 harg3 arg5 harg5 arg19 x0 x1 x2 x4 = View.ld (k0_pay387 (F := F)) (Rect.unit (s := S5x160x128) ![2, 0, 0] S1x160x128.size inb_S5x160x128_S1x160x128_2_0_0) := by
  unfold runA.sl.v76 runA.sl.HS5_3 runA.sl.HS5_2 runA.sl.HS5_1
  rw [View.readCov_skip _ _ _ _ _ (by rfl)]
  rw [View.readCov_skip _ _ _ _ _ (by rfl)]
  exact readCov_of_canon _ _ _ _ (View.canon_unit_zero off3 _ _)

/-- Row 3 of the sums that the first point's run loads for the first half tile: as it was before the tile. -/
theorem A_v1_3 : runA.sl.v88 c arg1 harg1 arg2 harg2 arg3 harg3 arg5 harg5 arg19 x0 x1 x2 x4 = View.ld (k0_pay387 (F := F)) (Rect.unit (s := S5x160x128) ![3, 0, 0] S1x160x128.size inb_S5x160x128_S1x160x128_3_0_0) := by
  unfold runA.sl.v88 runA.sl.HS5_4 runA.sl.HS5_3 runA.sl.HS5_2 runA.sl.HS5_1
  rw [View.readCov_skip _ _ _ _ _ (by rfl)]
  rw [View.readCov_skip _ _ _ _ _ (by rfl)]
  rw [View.readCov_skip _ _ _ _ _ (by rfl)]
  exact readCov_of_canon _ _ _ _ (View.canon_unit_zero off3 _ _)

/-- Row 4 of the sums that the first point's run loads for the first half tile: as it was before the tile. -/
theorem A_v1_4 : runA.sl.v100 c arg1 harg1 arg2 harg2 arg3 harg3 arg5 harg5 arg19 x0 x1 x2 x4 = View.ld (k0_pay387 (F := F)) (Rect.unit (s := S5x160x128) ![4, 0, 0] S1x160x128.size inb_S5x160x128_S1x160x128_4_0_0) := by
  unfold runA.sl.v100 runA.sl.HS5_5 runA.sl.HS5_4 runA.sl.HS5_3 runA.sl.HS5_2 runA.sl.HS5_1
  rw [View.readCov_skip _ _ _ _ _ (by rfl)]
  rw [View.readCov_skip _ _ _ _ _ (by rfl)]
  rw [View.readCov_skip _ _ _ _ _ (by rfl)]
  rw [View.readCov_skip _ _ _ _ _ (by rfl)]
  exact readCov_of_canon _ _ _ _ (View.canon_unit_zero off3 _ _)

/-- The rows of the sums that the first point's run stores for the first half tile. -/
theorem A_rows1 : runA.sl.HS5_6 c arg1 harg1 arg2 harg2 arg3 harg3 arg5 harg5 arg19 x0 x1 x2 x4 = rows1 (sg0 x4) (s0 x0 x1 x2) (View.ld (k0_pay387 (F := F)) (Rect.unit (s := S5x160x128) ![0, 0, 0] S1x160x128.size inb_S5x160x128_S1x160x128_0_0_0)) (View.ld (k0_pay387 (F := F)) (Rect.unit (s := S5x160x128) ![1, 0, 0] S1x160x128.size inb_S5x160x128_S1x160x128_1_0_0)) (View.ld (k0_pay387 (F := F)) (Rect.unit (s := S5x160x128) ![2, 0, 0] S1x160x128.size inb_S5x160x128_S1x160x128_2_0_0)) (View.ld (k0_pay387 (F := F)) (Rect.unit (s := S5x160x128) ![3, 0, 0] S1x160x128.size inb_S5x160x128_S1x160x128_3_0_0)) (View.ld (k0_pay387 (F := F)) (Rect.unit (s := S5x160x128) ![4, 0, 0] S1x160x128.size inb_S5x160x128_S1x160x128_4_0_0)) ++ [⟨Rect.unit (s := S5x160x128) ![0, 0, 0] S5x160x128.size inb_S5x160x128_S5x160x128_0_0_0, k0_pay387⟩] := by
  refine (show _ = rows1 (runA.sl.r_52 c arg5 harg5 x4) (runA.sl.r_53 c arg1 harg1 arg2 harg2 arg3 harg3 x0 x1 x2) (runA.sl.v52 c arg19) (runA.sl.v64 c arg1 harg1 arg2 harg2 arg3 harg3 arg5 harg5 arg19 x0 x1 x2 x4) (runA.sl.v76 c arg1 harg1 arg2 harg2 arg3 harg3 arg5 harg5 arg19 x0 x1 x2 x4) (runA.sl.v88 c arg1 harg1 arg2 harg2 arg3 harg3 arg5 harg5 arg19 x0 x1 x2 x4) (runA.sl.v100 c arg1 harg1 arg2 harg2 arg3 harg3 arg5 harg5 arg19 x0 x1 x2 x4) ++ [⟨Rect.unit (s := S5x160x128) ![0, 0, 0] S5x160x128.size inb_S5x160x128_S5x160x128_0_0_0, k0_pay387⟩] from rfl).trans ?_
  rw [A_sg0, A_s0, A_v1_0, A_v1_1, A_v1_2, A_v1_3, A_v1_4]

/-- After the stores for the first half tile the first point's sums have that half added. -/
theorem A_half1 : View.canon (runA.sl.HS5_6 c arg1 harg1 arg2 harg2 arg3 harg3 arg5 harg5 arg19 x0 x1 x2 x4) = accHalf (sg0 x4) (s0 x0 x1 x2) k0_pay387 := by
  rw [A_rows1]; exact canon_rows1 _ _ _ _

/-- Row 0 of the sums that the first point's run loads for the second half tile: the first half is added. -/
theorem A_v2_0 : runA.sl.v155 c arg1 harg1 arg2 harg2 arg3 harg3 arg5 harg5 arg19 x0 x1 x2 x4 = View.ld (accHalf (sg0 x4) (s0 x0 x1 x2) k0_pay387) (Rect.unit (s := S5x160x128) ![0, 0, 0] S1x160x128.size inb_S5x160x128_S1x160x128_0_0_0) := by
  unfold runA.sl.v155
  exact readCov_of_canon _ _ _ _ (A_half1 c arg1 harg1 arg2 harg2 arg3 harg3 arg5 harg5 arg19 x0 x1 x2 x4)

/-- Row 1 of the sums that the first point's run loads for the second half tile: the first half is added. -/
theorem A_v2_1 : runA.sl.v167 c arg1 harg1 arg2 harg2 arg3 harg3 arg5 harg5 arg19 x0 x1 x2 x4 = View.ld (accHalf (sg0 x4) (s0 x0 x1 x2) k0_pay387) (Rect.unit (s := S5x160x128) ![1, 0, 0] S1x160x128.size inb_S5x160x128_S1x160x128_1_0_0) := by
  unfold runA.sl.v167 runA.sl.HS5_7
  rw [View.readCov_skip _ _ _ _ _ (by rfl)]
  exact readCov_of_canon _ _ _ _ (A_half1 c arg1 harg1 arg2 harg2 arg3 harg3 arg5 harg5 arg19 x0 x1 x2 x4)

/-- Row 2 of the sums that the first point's run loads for the second half tile: the first half is added. -/
theorem A_v2_2 : runA.sl.v179 c arg1 harg1 arg2 harg2 arg3 harg3 arg5 harg5 arg19 x0 x1 x2 x4 = View.ld (accHalf (sg0 x4) (s0 x0 x1 x2) k0_pay387) (Rect.unit (s := S5x160x128) ![2, 0, 0] S1x160x128.size inb_S5x160x128_S1x160x128_2_0_0) := by
  unfold runA.sl.v179 runA.sl.HS5_8 runA.sl.HS5_7
  rw [View.readCov_skip _ _ _ _ _ (by rfl)]
  rw [View.readCov_skip _ _ _ _ _ (by rfl)]
  exact readCov_of_canon _ _ _ _ (A_half1 c arg1 harg1 arg2 harg2 arg3 harg3 arg5 harg5 arg19 x0 x1 x2 x4)

/-- Row 3 of the sums that the first point's run loads for the second half tile: the first half is added. -/
theorem A_v2_3 : runA.sl.v191 c arg1 harg1 arg2 harg2 arg3 harg3 arg5 harg5 arg19 x0 x1 x2 x4 = View.ld (accHalf (sg0 x4) (s0 x0 x1 x2) k0_pay387) (Rect.unit (s := S5x160x128) ![3, 0, 0] S1x160x128.size inb_S5x160x128_S1x160x128_3_0_0) := by
  unfold runA.sl.v191 runA.sl.HS5_9 runA.sl.HS5_8 runA.sl.HS5_7
  rw [View.readCov_skip _ _ _ _ _ (by rfl)]
  rw [View.readCov_skip _ _ _ _ _ (by rfl)]
  rw [View.readCov_skip _ _ _ _ _ (by rfl)]
  exact readCov_of_canon _ _ _ _ (A_half1 c arg1 harg1 arg2 harg2 arg3 harg3 arg5 harg5 arg19 x0 x1 x2 x4)

/-- Row 4 of the sums that the first point's run loads for the second half tile: the first half is added. -/
theorem A_v2_4 : runA.sl.v203 c arg1 harg1 arg2 harg2 arg3 harg3 arg5 harg5 arg19 x0 x1 x2 x4 = View.ld (accHalf (sg0 x4) (s0 x0 x1 x2) k0_pay387) (Rect.unit (s := S5x160x128) ![4, 0, 0] S1x160x128.size inb_S5x160x128_S1x160x128_4_0_0) := by
  unfold runA.sl.v203 runA.sl.HS5_10 runA.sl.HS5_9 runA.sl.HS5_8 runA.sl.HS5_7
  rw [View.readCov_skip _ _ _ _ _ (by rfl)]
  rw [View.readCov_skip _ _ _ _ _ (by rfl)]
  rw [View.readCov_skip _ _ _ _ _ (by rfl)]
  rw [View.readCov_skip _ _ _ _ _ (by rfl)]
  exact readCov_of_canon _ _ _ _ (A_half1 c arg1 harg1 arg2 harg2 arg3 harg3 arg5 harg5 arg19 x0 x1 x2 x4)

/-- The rows of the sums that the first point's run stores for the second half tile. -/
theorem A_rows2 : (⟨Rect.unit (s := S5x160x128) ![4, 0, 0] S1x160x128.size inb_S5x160x128_S1x160x128_4_0_0, k0_pay3 (runA.sl.r_57 c arg5 harg5 x4) (runA.sl.r_58 c arg1 harg1 arg2 harg2 arg3 harg3 x0 x1 x2) (runA.sl.v203 c arg1 harg1 arg2 harg2 arg3 harg3 arg5 harg5 arg19 x0 x1 x2 x4)⟩ :: runA.sl.HS5_10 c arg1 harg1 arg2 harg2 arg3 harg3 arg5 harg5 arg19 x0 x1 x2 x4) = rows2 (sg1 x4) (s1 x0 x1 x2) (View.ld (accHalf (sg0 x4) (s0 x0 x1 x2) k0_pay387) (Rect.unit (s := S5x160x128) ![0, 0, 0] S1x160x128.size inb_S5x160x128_S1x160x128_0_0_0)) (View.ld (accHalf (sg0 x4) (s0 x0 x1 x2) k0_pay387) (Rect.unit (s := S5x160x128) ![1, 0, 0] S1x160x128.size inb_S5x160x128_S1x160x128_1_0_0)) (View.ld (accHalf (sg0 x4) (s0 x0 x1 x2) k0_pay387) (Rect.unit (s := S5x160x128) ![2, 0, 0] S1x160x128.size inb_S5x160x128_S1x160x128_2_0_0)) (View.ld (accHalf (sg0 x4) (s0 x0 x1 x2) k0_pay387) (Rect.unit (s := S5x160x128) ![3, 0, 0] S1x160x128.size inb_S5x160x128_S1x160x128_3_0_0)) (View.ld (accHalf (sg0 x4) (s0 x0 x1 x2) k0_pay387) (Rect.unit (s := S5x160x128) ![4, 0, 0] S1x160x128.size inb_S5x160x128_S1x160x128_4_0_0)) ++ runA.sl.HS5_6 c arg1 harg1 arg2 harg2 arg3 harg3 arg5 harg5 arg19 x0 x1 x2 x4 := by
  refine (show _ = rows2 (runA.sl.r_57 c arg5 harg5 x4) (runA.sl.r_58 c arg1 harg1 arg2 harg2 arg3 harg3 x0 x1 x2) (runA.sl.v155 c arg1 harg1 arg2 harg2 arg3 harg3 arg5 harg5 arg19 x0 x1 x2 x4) (runA.sl.v167 c arg1 harg1 arg2 harg2 arg3 harg3 arg5 harg5 arg19 x0 x1 x2 x4) (runA.sl.v179 c arg1 harg1 arg2 harg2 arg3 harg3 arg5 harg5 arg19 x0 x1 x2 x4) (runA.sl.v191 c arg1 harg1 arg2 harg2 arg3 harg3 arg5 harg5 arg19 x0 x1 x2 x4) (runA.sl.v203 c arg1 harg1 arg2 harg2 arg3 harg3 arg5 harg5 arg19 x0 x1 x2 x4) ++ runA.sl.HS5_6 c arg1 harg1 arg2 harg2 arg3 harg3 arg5 harg5 arg19 x0 x1 x2 x4 from rfl).trans ?_
  rw [A_sg1, A_s1, A_v2_0, A_v2_1, A_v2_2, A_v2_3, A_v2_4]

/-- After all stores the first point's sums have the tile added. -/
theorem A_canon : View.canon (⟨Rect.unit (s := S5x160x128) ![4, 0, 0] S1x160x128.size inb_S5x160x128_S1x160x128_4_0_0, k0_pay3 (runA.sl.r_57 c arg5 harg5 x4) (runA.sl.r_58 c arg1 harg1 arg2 harg2 arg3 harg3 x0 x1 x2) (runA.sl.v203 c arg1 harg1 arg2 harg2 arg3 harg3 arg5 harg5 arg19 x0 x1 x2 x4)⟩ :: runA.sl.HS5_10 c arg1 harg1 arg2 harg2 arg3 harg3 arg5 harg5 arg19 x0 x1 x2 x4) = accNext x0 x1 x2 x4 k0_pay387 := by
  rw [A_rows2]; exact canon_rows2 _ _ _ _

/-- The buffer of result window 6 (gradient), read back after the first point. -/
theorem A_out6 (hc0 : cond0_0 i) (hc1 : ¬cond0_1 i) (v : View sig .tc .vmem S160x256 .f32) (f) : v.read (Elt F) (v.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).1) = dzV x0 x1 x2 x4 (coefV (packE x3 x5) (packD x3 x5)) := by
  have h : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).1 = dzL x0 x1 x2 x4 (coefV (packE x3 x5) (packD x3 x5)) := by
    refine (show (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).1 = [⟨Rect.unit (s := S160x256) ![0, 128] S160x128.size inb_S160x256_S160x128_0_128, runA.sl.r_59 c arg1 harg1 arg2 harg2 arg3 harg3 arg4 harg4 arg5 harg5 arg6 harg6 arg14 x0 x1 x2 x3 x4 x5⟩, ⟨Rect.unit (s := S160x256) ![0, 0] S160x128.size inb_S160x256_S160x128_0_0, k0_pay392 (runA.sl.r_52 c arg5 harg5 x4) (runA.sl.r_53 c arg1 harg1 arg2 harg2 arg3 harg3 x0 x1 x2) (runA.sl.r_54 c arg4 harg4 arg5 harg5 arg6 harg6 arg14 x3 x4 x5)⟩] from rfl).trans ?_
    rw [A_d1, A_sg0, A_s0, A_g0]; rfl
  rw [h]; exact read_dzL v f x0 x1 x2 x4 _

/-- The sums, read back after the first point. -/
theorem A_outs5 (hc0 : cond0_0 i) (hc1 : ¬cond0_1 i) (v : View sig .tc .vmem S5x160x128 .f32) (f) : v.read (Elt F) (v.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.2.2.2.2.1) = accNext x0 x1 x2 x4 k0_pay387 := by
  have h : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.2.2.2.2.1 = rows2 (sg1 x4) (s1 x0 x1 x2) (View.ld (accHalf (sg0 x4) (s0 x0 x1 x2) k0_pay387) (Rect.unit (s := S5x160x128) ![0, 0, 0] S1x160x128.size inb_S5x160x128_S1x160x128_0_0_0)) (View.ld (accHalf (sg0 x4) (s0 x0 x1 x2) k0_pay387) (Rect.unit (s := S5x160x128) ![1, 0, 0] S1x160x128.size inb_S5x160x128_S1x160x128_1_0_0)) (View.ld (accHalf (sg0 x4) (s0 x0 x1 x2) k0_pay387) (Rect.unit (s := S5x160x128) ![2, 0, 0] S1x160x128.size inb_S5x160x128_S1x160x128_2_0_0)) (View.ld (accHalf (sg0 x4) (s0 x0 x1 x2) k0_pay387) (Rect.unit (s := S5x160x128) ![3, 0, 0] S1x160x128.size inb_S5x160x128_S1x160x128_3_0_0)) (View.ld (accHalf (sg0 x4) (s0 x0 x1 x2) k0_pay387) (Rect.unit (s := S5x160x128) ![4, 0, 0] S1x160x128.size inb_S5x160x128_S1x160x128_4_0_0)) ++ runA.sl.HS5_6 c arg1 harg1 arg2 harg2 arg3 harg3 arg5 harg5 arg19 x0 x1 x2 x4 :=
    (show (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.2.2.2.2.1 = (⟨Rect.unit (s := S5x160x128) ![4, 0, 0] S1x160x128.size inb_S5x160x128_S1x160x128_4_0_0, k0_pay3 (runA.sl.r_57 c arg5 harg5 x4) (runA.sl.r_58 c arg1 harg1 arg2 harg2 arg3 harg3 x0 x1 x2) (runA.sl.v203 c arg1 harg1 arg2 harg2 arg3 harg3 arg5 harg5 arg19 x0 x1 x2 x4)⟩ :: runA.sl.HS5_10 c arg1 harg1 arg2 harg2 arg3 harg3 arg5 harg5 arg19 x0 x1 x2 x4) from rfl).trans (A_rows2 c arg1 harg1 arg2 harg2 arg3 harg3 arg5 harg5 arg19 x0 x1 x2 x4)
  rw [h]
  exact read_of_canon v f _ _ _ (cover_rows2 _ _ _ _ _ _ _) (canon_rows2 _ _ _ _)

/-- The buffer of result window 11 (expert counts), read back after the first point. -/
theorem A_out11 (hc0 : cond0_0 i) (hc1 : ¬cond0_1 i) (v : View sig .tc .vmem S5x160 .i32) (f) : v.read (Elt F) (v.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.1) = cntV (packE x3 x5) := by
  have h : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.1 = [⟨Rect.unit (s := S5x160) ![0, 0] S5x160.size inb_S5x160_S5x160_0_0, cntV (packE x3 x5)⟩] := by
    refine (show (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.1 = [⟨Rect.unit (s := S5x160) ![0, 0] S5x160.size inb_S5x160_S5x160_0_0, k0_pay306 (runA.sl.r_5 c arg4 harg4 arg6 harg6 x3 x5)⟩] from rfl).trans ?_
    rw [r5_eq]; rfl
  rw [h]; exact read_whole1 v f _ off2 _ _

/-- The buffer of result window 12 (device counts), read back after the first point. -/
theorem A_out12 (hc0 : cond0_0 i) (hc1 : ¬cond0_1 i) (v : View sig .tc .vmem S5x8 .i32) (f) : v.read (Elt F) (v.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.1) = devV (packD x3 x5) := by
  have h : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.1 = [⟨Rect.unit (s := S5x8) ![0, 0] S5x8.size inb_S5x8_S5x8_0_0, devV (packD x3 x5)⟩] := by
    refine (show (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.1 = [⟨Rect.unit (s := S5x8) ![0, 0] S5x8.size inb_S5x8_S5x8_0_0, k0_pay307 (runA.sl.r_1 c arg4 harg4 arg6 harg6 x3 x5) (k0_pay301 lanes160) (k0_pay302 lanes160 (runA.sl.r_1 c arg4 harg4 arg6 harg6 x3 x5)) (k0_pay303 (runA.sl.r_1 c arg4 harg4 arg6 harg6 x3 x5)) (k0_pay304 lanes160)⟩] from rfl).trans ?_
    rw [r1_eq]; rfl
  rw [h]; exact read_whole1 v f _ off2 _ _

/-- The table of gradient weights, read back after the first point. -/
theorem A_outs0 (hc0 : cond0_0 i) (hc1 : ¬cond0_1 i) (v : View sig .tc .vmem S160x128 .f32) (f) : v.read (Elt F) (v.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.1) = coefV (packE x3 x5) (packD x3 x5) := by
  have h : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.1 = [⟨Rect.unit (s := S160x128) ![0, 0] S160x128.size inb_S160x128_S160x128_0_0, coefV (packE x3 x5) (packD x3 x5)⟩] := by
    exact HS0_eq c arg4 harg4 arg6 harg6 x3 x5
  rw [h]; exact read_whole1 v f _ off2 _ _

/-- The table of the experts' factors, read back after the first point. -/
theorem A_outs1 (hc0 : cond0_0 i) (hc1 : ¬cond0_1 i) (v : View sig .tc .vmem S160x128 .f32) (f) : v.read (Elt F) (v.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.1) = fV (packE x3 x5) (packD x3 x5) := by
  have h : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.1 = [⟨Rect.unit (s := S160x128) ![0, 0] S160x128.size inb_S160x128_S160x128_0_0, fV (packE x3 x5) (packD x3 x5)⟩] := by
    refine (show (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.1 = [⟨Rect.unit (s := S160x128) ![0, 0] S160x128.size inb_S160x128_S160x128_0_0, runA.sl.r_50 c arg4 harg4 arg6 harg6 x3 x5⟩] from rfl).trans ?_
    rw [r50_eq]
  rw [h]; exact read_whole1 v f _ off2 _ _

/-- The table of the devices' factors, read back after the first point. -/
theorem A_outs2 (hc0 : cond0_0 i) (hc1 : ¬cond0_1 i) (v : View sig .tc .vmem S160x128 .f32) (f) : v.read (Elt F) (v.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.2.1) = fdevV (packE x3 x5) (packD x3 x5) := by
  have h : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.2.1 = [⟨Rect.unit (s := S160x128) ![0, 0] S160x128.size inb_S160x128_S160x128_0_0, fdevV (packE x3 x5) (packD x3 x5)⟩] := by
    refine (show (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.2.1 = [⟨Rect.unit (s := S160x128) ![0, 0] S160x128.size inb_S160x128_S160x128_0_0, runA.sl.v2983 c arg4 harg4 arg6 harg6 x3 x5⟩] from rfl).trans ?_
    rw [v2983_eq]
  rw [h]; exact read_whole1 v f _ off2 _ _

/-- The table of the communication factors, read back after the first point. -/
theorem A_outs3 (hc0 : cond0_0 i) (hc1 : ¬cond0_1 i) (v : View sig .tc .vmem S160x128 .f32) (f) : v.read (Elt F) (v.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.2.2.1) = fcommV (packE x3 x5) (packD x3 x5) := by
  have h : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.2.2.1 = [⟨Rect.unit (s := S160x128) ![0, 0] S160x128.size inb_S160x128_S160x128_0_0, fcommV (packE x3 x5) (packD x3 x5)⟩] := by
    refine (show (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.2.2.1 = [⟨Rect.unit (s := S160x128) ![0, 0] S160x128.size inb_S160x128_S160x128_0_0, runA.sl.v3059 c arg4 harg4 arg6 harg6 x3 x5⟩] from rfl).trans ?_
    rw [v3059_eq]
  rw [h]; exact read_whole1 v f _ off2 _ _

/-- The row of token counts, read back after the first point. -/
theorem A_outs4 (hc0 : cond0_0 i) (hc1 : ¬cond0_1 i) (v : View sig .tc .vmem S1x128 .f32) (f) : v.read (Elt F) (v.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.2.2.2.1) = tV (packE x3 x5) (packD x3 x5) := by
  have h : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.2.2.2.1 = [⟨Rect.unit (s := S1x128) ![0, 0] S1x128.size inb_S1x128_S1x128_0_0, tV (packE x3 x5) (packD x3 x5)⟩] := by
    refine (show (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.2.2.2.1 = [⟨Rect.unit (s := S1x128) ![0, 0] S1x128.size inb_S1x128_S1x128_0_0, runA.sl.v3062 c arg4 harg4 arg6 harg6 x3 x5⟩] from rfl).trans ?_
    rw [v3062_eq]
  rw [h]; exact read_whole1 v f _ off2 _ _

end Cert.KernelIdeal.Run
-- ==== Proof.KRun.RunB.lean ====
/- The run of the kernel body at a middle grid point. -/
module

public import proofs.«01_k».proof.Proof.KRun.Base

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S256x12288 .fp8e4m3) (harg1 : arg1.IsWhole) (arg2 : Memref sig .tc .vmem S1x256 .f32) (harg2 : arg2.IsWhole) (arg3 : Memref sig .tc .vmem S160x12288 .bf16) (harg3 : arg3.IsWhole) (arg4 : Memref sig .tc .vmem S6x2048 .i32) (harg4 : arg4.IsWhole) (arg5 : Memref sig .tc .vmem S1x256 .i32) (harg5 : arg5.IsWhole) (arg6 : Memref sig .tc .vmem S1x2048 .i32) (harg6 : arg6.IsWhole) (arg7 : Memref sig .tc .vmem S160x256 .f32) (harg7 : arg7.IsWhole) (arg8 : Memref sig .tc .vmem S5 .f32) (harg8 : arg8.IsWhole) (arg9 : Memref sig .tc .vmem S5 .f32) (harg9 : arg9.IsWhole) (arg10 : Memref sig .tc .vmem S5 .f32) (harg10 : arg10.IsWhole) (arg11 : Memref sig .tc .vmem S5x160 .f32) (harg11 : arg11.IsWhole) (arg12 : Memref sig .tc .vmem S5x160 .i32) (harg12 : arg12.IsWhole) (arg13 : Memref sig .tc .vmem S5x8 .i32) (harg13 : arg13.IsWhole) (arg14 : Memref sig .tc .vmem S160x128 .f32) (harg14 : arg14.IsWhole) (arg15 : Memref sig .tc .vmem S160x128 .f32) (harg15 : arg15.IsWhole) (arg16 : Memref sig .tc .vmem S160x128 .f32) (harg16 : arg16.IsWhole) (arg17 : Memref sig .tc .vmem S160x128 .f32) (harg17 : arg17.IsWhole) (arg18 : Memref sig .tc .vmem S1x128 .f32) (harg18 : arg18.IsWhole) (arg19 : Memref sig .tc .vmem S5x160x128 .f32) (harg19 : arg19.IsWhole)

set_option maxHeartbeats 1600000 in
/-- The body at a middle grid point. The scratch buffers come in at the contents the points before left; only the gradient
    block and the accumulator are stored. -/
noncomputable def runB (hc0 : ¬cond0_0 i) (hc1 : ¬cond0_1 i)
    (x0 : Vec F S256x12288 .fp8e4m3) (x1 : Vec F S1x256 .f32) (x2 : Vec F S160x12288 .bf16) (x3 : Vec F S6x2048 .i32) (x4 : Vec F S1x256 .i32) (x5 : Vec F S1x2048 .i32) (xs0 : Vec F S160x128 .f32) (xs1 : Vec F S160x128 .f32) (xs2 : Vec F S160x128 .f32) (xs3 : Vec F S160x128 .f32) (xs4 : Vec F S1x128 .f32) (xs5 : Vec F S5x160x128 .f32) :
    Σ' (L6 : List (View.Piece (Elt F) S160x256 .f32)), { LS5 : List (View.Piece (Elt F) S5x160x128 .f32) //
      ∀ (x7 : Vec F S5 .f32) (x8 : Vec F S5 .f32) (x9 : Vec F S5 .f32) (x10 : Vec F S5x160 .f32) (x11 : Vec F S5x160 .i32) (x12 : Vec F S5x8 .i32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4 ∗ owns (c : Thread nD τ) arg19 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4 ∗ (∃ f, arg19.view.loc (c : Thread nD τ) ↦[arg19.view.set]{fullShare} arg19.view.writes (Elt F) f LS5)) -∗ K ⟨⟩))
          ⊢ wp frame (wpE (defs₀ (F := F)) Variants.none c none) E (cc0_balance i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun x7 x8 x9 x10 x11 x12 E K => ?run⟩
  case run =>
    simp only [cc0_balance_eq_skeleton]; unfold cc0_balance_skel
    simp only [k0_part68_eq_skeleton, k0_part69_eq_skeleton, k0_part70_eq_skeleton, k0_part71_eq_skeleton, k0_part72_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, HS0⟩, ⟨%f14, %hf14, HS1⟩, ⟨%f15, %hf15, HS2⟩, ⟨%f16, %hf16, HS3⟩, ⟨%f17, %hf17, HS4⟩, ⟨%f18, %hf18, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]
    · iexists _; isplitr; · ipureintro; exact harg14.read_unread _
      iexact HS0
    isplitl [HS1]
    · iexists _; isplitr; · ipureintro; exact harg15.read_unread _
      iexact HS1
    isplitl [HS2]
    · iexists _; isplitr; · ipureintro; exact harg16.read_unread _
      iexact HS2
    isplitl [HS3]
    · iexists _; isplitr; · ipureintro; exact harg17.read_unread _
      iexact HS3
    isplitl [HS4]
    · iexists _; isplitr; · ipureintro; exact harg18.read_unread _
      iexact HS4
    iexists _; iexact HS5

end Cert.KernelIdeal.Run

end
-- ==== Proof.KVal.ValB.lean ====
/- The stores of the run at a middle point, read back: the closed terms. -/
module

public import proofs.«01_k».proof.Proof.KRun.RunB
public import proofs.«01_k».proof.Proof.KVal.Tile

@[expose] public section

set_option maxRecDepth 65536

noncomputable section

namespace Cert.KernelIdeal.Run

open Cert.KernelIdeal Cert.KernelIdeal.Gen Cert.KernelIdeal.Val
open Idealize.ShloMosaic Idealize.ShloMosaic.TcCoe Idealize.ShloMosaic.Tactic
open Idealize.SL Idealize.SL.RA Idealize.SL.Sem

variable {F : FTy → Type} [FloatOps F]
variable (c : Dev nD) (i : grid0.Coords) (arg1 : Memref sig .tc .vmem S256x12288 .fp8e4m3) (harg1 : arg1.IsWhole) (arg2 : Memref sig .tc .vmem S1x256 .f32) (harg2 : arg2.IsWhole) (arg3 : Memref sig .tc .vmem S160x12288 .bf16) (harg3 : arg3.IsWhole) (arg4 : Memref sig .tc .vmem S6x2048 .i32) (harg4 : arg4.IsWhole) (arg5 : Memref sig .tc .vmem S1x256 .i32) (harg5 : arg5.IsWhole) (arg6 : Memref sig .tc .vmem S1x2048 .i32) (harg6 : arg6.IsWhole) (arg7 : Memref sig .tc .vmem S160x256 .f32) (harg7 : arg7.IsWhole) (arg8 : Memref sig .tc .vmem S5 .f32) (harg8 : arg8.IsWhole) (arg9 : Memref sig .tc .vmem S5 .f32) (harg9 : arg9.IsWhole) (arg10 : Memref sig .tc .vmem S5 .f32) (harg10 : arg10.IsWhole) (arg11 : Memref sig .tc .vmem S5x160 .f32) (harg11 : arg11.IsWhole) (arg12 : Memref sig .tc .vmem S5x160 .i32) (harg12 : arg12.IsWhole) (arg13 : Memref sig .tc .vmem S5x8 .i32) (harg13 : arg13.IsWhole) (arg14 : Memref sig .tc .vmem S160x128 .f32) (harg14 : arg14.IsWhole) (arg15 : Memref sig .tc .vmem S160x128 .f32) (harg15 : arg15.IsWhole) (arg16 : Memref sig .tc .vmem S160x128 .f32) (harg16 : arg16.IsWhole) (arg17 : Memref sig .tc .vmem S160x128 .f32) (harg17 : arg17.IsWhole) (arg18 : Memref sig .tc .vmem S1x128 .f32) (harg18 : arg18.IsWhole) (arg19 : Memref sig .tc .vmem S5x160x128 .f32) (harg19 : arg19.IsWhole)
variable (x0 : Vec F S256x12288 .fp8e4m3) (x1 : Vec F S1x256 .f32) (x2 : Vec F S160x12288 .bf16) (x3 : Vec F S6x2048 .i32) (x4 : Vec F S1x256 .i32) (x5 : Vec F S1x2048 .i32) (xs0 : Vec F S160x128 .f32) (xs1 : Vec F S160x128 .f32) (xs2 : Vec F S160x128 .f32) (xs3 : Vec F S160x128 .f32) (xs4 : Vec F S1x128 .f32) (xs5 : Vec F S5x160x128 .f32)

/-- The logits that the middle point's run computes, before the scales. -/
theorem B_z : runB.sl.r c arg1 harg1 arg3 harg3 x0 x2 = k0_pay388 x2 x0 := by
  unfold runB.sl.r; simp only [View.readAt_eq_ld, Memref.IsWhole.read_unread, ld_x0, ld_x2, ld_tab, ld_t, ld_x0b, ld_x2b, ld_tabb, ld_tb]
/-- The first half tile's sequence ids in the middle point's run. -/
theorem B_sg0 : runB.sl.r_2 c arg5 harg5 x4 = sg0 x4 := by
  unfold runB.sl.r_2 sg0 id0; simp only [View.readAt_eq_ld, Memref.IsWhole.read_unread, ld_x0, ld_x2, ld_tab, ld_t, ld_x0b, ld_x2b, ld_tabb, ld_tb]
/-- The second half tile's sequence ids in the middle point's run. -/
theorem B_sg1 : runB.sl.r_7 c arg5 harg5 x4 = sg1 x4 := by
  unfold runB.sl.r_7 sg1 id1; simp only [View.readAt_eq_ld, Memref.IsWhole.read_unread, ld_x0, ld_x2, ld_tab, ld_t, ld_x0b, ld_x2b, ld_tabb, ld_tb]
/-- The first half tile's softmax in the middle point's run. -/
theorem B_s0 : runB.sl.r_3 c arg1 harg1 arg2 harg2 arg3 harg3 x0 x1 x2 = s0 x0 x1 x2 := by
  unfold runB.sl.r_3 s0 sc0; simp only [View.readAt_eq_ld, Memref.IsWhole.read_unread, ld_x0, ld_x2, ld_tab, ld_t, ld_x0b, ld_x2b, ld_tabb, ld_tb]
/-- The second half tile's softmax in the middle point's run. -/
theorem B_s1 : runB.sl.r_8 c arg1 harg1 arg2 harg2 arg3 harg3 x0 x1 x2 = s1 x0 x1 x2 := by
  unfold runB.sl.r_8 s1 sc1; rw [B_z]; simp only [View.readAt_eq_ld, Memref.IsWhole.read_unread, ld_x0, ld_x2, ld_tab, ld_t, ld_x0b, ld_x2b, ld_tabb, ld_tb]

/-- The table of gradient weights that the middle point's run loads. -/
theorem B_coef : runB.sl.r_1 c arg14 harg14 xs0 = xs0 := by
  unfold runB.sl.r_1; simp only [View.readAt_eq_ld, Memref.IsWhole.read_unread, ld_x0, ld_x2, ld_tab, ld_t, ld_x0b, ld_x2b, ld_tabb, ld_tb]
/-- The weights that the middle point's run picks for the tokens of the first half tile. -/
theorem B_g0 : runB.sl.r_4 c arg5 harg5 arg14 harg14 x4 xs0 = k0_pay391 xs0 (id0 x4) := by
  unfold runB.sl.r_4 id0; simp only [View.readAt_eq_ld, Memref.IsWhole.read_unread, ld_x0, ld_x2, ld_tab, ld_t, ld_x0b, ld_x2b, ld_tabb, ld_tb]
/-- The second half tile's gradient in the middle point's run. -/
theorem B_d1 : runB.sl.r_9 c arg1 harg1 arg2 harg2 arg3 harg3 arg5 harg5 arg14 harg14 x0 x1 x2 x4 xs0 = dz1 x0 x1 x2 x4 xs0 := by
  unfold runB.sl.r_9 dz1 id1 sc1; rw [B_z, B_coef]; simp only [View.readAt_eq_ld, Memref.IsWhole.read_unread, ld_x0, ld_x2, ld_tab, ld_t, ld_x0b, ld_x2b, ld_tabb, ld_tb]

/-- Row 1 of the sums that the middle point's run loads for the first half tile: as it was before the tile. -/
theorem B_v1_1 : runB.sl.v64 c arg19 harg19 xs5 = View.ld xs5 (Rect.unit (s := S5x160x128) ![1, 0, 0] S1x160x128.size inb_S5x160x128_S1x160x128_1_0_0) := by
  unfold runB.sl.v64; simp only [View.readAt_eq_ld, Memref.IsWhole.read_unread, ld_x0, ld_x2, ld_tab, ld_t, ld_x0b, ld_x2b, ld_tabb, ld_tb]

/-- Row 2 of the sums that the middle point's run loads for the first half tile: as it was before the tile. -/
theorem B_v1_2 : runB.sl.v76 c arg19 harg19 xs5 = View.ld xs5 (Rect.unit (s := S5x160x128) ![2, 0, 0] S1x160x128.size inb_S5x160x128_S1x160x128_2_0_0) := by
  unfold runB.sl.v76; simp only [View.readAt_eq_ld, Memref.IsWhole.read_unread, ld_x0, ld_x2, ld_tab, ld_t, ld_x0b, ld_x2b, ld_tabb, ld_tb]

/-- Row 3 of the sums that the middle point's run loads for the first half tile: as it was before the tile. -/
theorem B_v1_3 : runB.sl.v88 c arg19 harg19 xs5 = View.ld xs5 (Rect.unit (s := S5x160x128) ![3, 0, 0] S1x160x128.size inb_S5x160x128_S1x160x128_3_0_0) := by
  unfold runB.sl.v88; simp only [View.readAt_eq_ld, Memref.IsWhole.read_unread, ld_x0, ld_x2, ld_tab, ld_t, ld_x0b, ld_x2b, ld_tabb, ld_tb]

/-- Row 4 of the sums that the middle point's run loads for the first half tile: as it was before the tile. -/
theorem B_v1_4 : runB.sl.v100 c arg19 harg19 xs5 = View.ld xs5 (Rect.unit (s := S5x160x128) ![4, 0, 0] S1x160x128.size inb_S5x160x128_S1x160x128_4_0_0) := by
  unfold runB.sl.v100; simp only [View.readAt_eq_ld, Memref.IsWhole.read_unread, ld_x0, ld_x2, ld_tab, ld_t, ld_x0b, ld_x2b, ld_tabb, ld_tb]

/-- Row 0 of the sums that the middle point's run loads for the first half tile: as it was before the tile. -/
theorem B_v1_0 : (View.readAt (Elt F) arg19.view (Rect.unit (s := S5x160x128) ![0, 0, 0] S1x160x128.size inb_S5x160x128_S1x160x128_0_0_0).toLoadRect (harg19.unread xs5)) = View.ld xs5 (Rect.unit (s := S5x160x128) ![0, 0, 0] S1x160x128.size inb_S5x160x128_S1x160x128_0_0_0) := by
  simp only [View.readAt_eq_ld, Memref.IsWhole.read_unread, ld_x0, ld_x2, ld_tab, ld_t, ld_x0b, ld_x2b, ld_tabb, ld_tb]

/-- The rows of the sums that the middle point's run stores for the first half tile. -/
theorem B_rows1 : runB.sl.HS5_5 c arg1 harg1 arg2 harg2 arg3 harg3 arg5 harg5 arg19 harg19 x0 x1 x2 x4 xs5 = rows1 (sg0 x4) (s0 x0 x1 x2) (View.ld xs5 (Rect.unit (s := S5x160x128) ![0, 0, 0] S1x160x128.size inb_S5x160x128_S1x160x128_0_0_0)) (View.ld xs5 (Rect.unit (s := S5x160x128) ![1, 0, 0] S1x160x128.size inb_S5x160x128_S1x160x128_1_0_0)) (View.ld xs5 (Rect.unit (s := S5x160x128) ![2, 0, 0] S1x160x128.size inb_S5x160x128_S1x160x128_2_0_0)) (View.ld xs5 (Rect.unit (s := S5x160x128) ![3, 0, 0] S1x160x128.size inb_S5x160x128_S1x160x128_3_0_0)) (View.ld xs5 (Rect.unit (s := S5x160x128) ![4, 0, 0] S1x160x128.size inb_S5x160x128_S1x160x128_4_0_0)) ++ [] := by
  refine (show _ = rows1 (runB.sl.r_2 c arg5 harg5 x4) (runB.sl.r_3 c arg1 harg1 arg2 harg2 arg3 harg3 x0 x1 x2) (View.readAt (Elt F) arg19.view (Rect.unit (s := S5x160x128) ![0, 0, 0] S1x160x128.size inb_S5x160x128_S1x160x128_0_0_0).toLoadRect (harg19.unread xs5)) (runB.sl.v64 c arg19 harg19 xs5) (runB.sl.v76 c arg19 harg19 xs5) (runB.sl.v88 c arg19 harg19 xs5) (runB.sl.v100 c arg19 harg19 xs5) ++ [] from rfl).trans ?_
  rw [B_sg0, B_s0, B_v1_0, B_v1_1, B_v1_2, B_v1_3, B_v1_4]

/-- After the stores for the first half tile the middle point's sums have that half added. -/
theorem B_half1 : View.canon (runB.sl.HS5_5 c arg1 harg1 arg2 harg2 arg3 harg3 arg5 harg5 arg19 harg19 x0 x1 x2 x4 xs5) = accHalf (sg0 x4) (s0 x0 x1 x2) xs5 := by
  rw [B_rows1]; exact canon_rows1 _ _ _ _

/-- Row 0 of the sums that the middle point's run loads for the second half tile: the first half is added. -/
theorem B_v2_0 : runB.sl.v155 c arg1 harg1 arg2 harg2 arg3 harg3 arg5 harg5 arg19 harg19 x0 x1 x2 x4 xs5 = View.ld (accHalf (sg0 x4) (s0 x0 x1 x2) xs5) (Rect.unit (s := S5x160x128) ![0, 0, 0] S1x160x128.size inb_S5x160x128_S1x160x128_0_0_0) := by
  unfold runB.sl.v155
  exact readCov_of_canon _ _ _ _ (B_half1 c arg1 harg1 arg2 harg2 arg3 harg3 arg5 harg5 arg19 harg19 x0 x1 x2 x4 xs5)

/-- Row 1 of the sums that the middle point's run loads for the second half tile: the first half is added. -/
theorem B_v2_1 : runB.sl.v167 c arg1 harg1 arg2 harg2 arg3 harg3 arg5 harg5 arg19 harg19 x0 x1 x2 x4 xs5 = View.ld (accHalf (sg0 x4) (s0 x0 x1 x2) xs5) (Rect.unit (s := S5x160x128) ![1, 0, 0] S1x160x128.size inb_S5x160x128_S1x160x128_1_0_0) := by
  unfold runB.sl.v167 runB.sl.HS5_6
  rw [View.readCov_skip _ _ _ _ _ (by rfl)]
  exact readCov_of_canon _ _ _ _ (B_half1 c arg1 harg1 arg2 harg2 arg3 harg3 arg5 harg5 arg19 harg19 x0 x1 x2 x4 xs5)

/-- Row 2 of the sums that the middle point's run loads for the second half tile: the first half is added. -/
theorem B_v2_2 : runB.sl.v179 c arg1 harg1 arg2 harg2 arg3 harg3 arg5 harg5 arg19 harg19 x0 x1 x2 x4 xs5 = View.ld (accHalf (sg0 x4) (s0 x0 x1 x2) xs5) (Rect.unit (s := S5x160x128) ![2, 0, 0] S1x160x128.size inb_S5x160x128_S1x160x128_2_0_0) := by
  unfold runB.sl.v179 runB.sl.HS5_7 runB.sl.HS5_6
  rw [View.readCov_skip _ _ _ _ _ (by rfl)]
  rw [View.readCov_skip _ _ _ _ _ (by rfl)]
  exact readCov_of_canon _ _ _ _ (B_half1 c arg1 harg1 arg2 harg2 arg3 harg3 arg5 harg5 arg19 harg19 x0 x1 x2 x4 xs5)

/-- Row 3 of the sums that the middle point's run loads for the second half tile: the first half is added. -/
theorem B_v2_3 : runB.sl.v191 c arg1 harg1 arg2 harg2 arg3 harg3 arg5 harg5 arg19 harg19 x0 x1 x2 x4 xs5 = View.ld (accHalf (sg0 x4) (s0 x0 x1 x2) xs5) (Rect.unit (s := S5x160x128) ![3, 0, 0] S1x160x128.size inb_S5x160x128_S1x160x128_3_0_0) := by
  unfold runB.sl.v191 runB.sl.HS5_8 runB.sl.HS5_7 runB.sl.HS5_6
  rw [View.readCov_skip _ _ _ _ _ (by rfl)]
  rw [View.readCov_skip _ _ _ _ _ (by rfl)]
  rw [View.readCov_skip _ _ _ _ _ (by rfl)]
  exact readCov_of_canon _ _ _ _ (B_half1 c arg1 harg1 arg2 harg2 arg3 harg3 arg5 harg5 arg19 harg19 x0 x1 x2 x4 xs5)

/-- Row 4 of the sums that the middle point's run loads for the second half tile: the first half is added. -/
theorem B_v2_4 : runB.sl.v203 c arg1 harg1 arg2 harg2 arg3 harg3 arg5 harg5 arg19 harg19 x0 x1 x2 x4 xs5 = View.ld (accHalf (sg0 x4) (s0 x0 x1 x2) xs5) (Rect.unit (s := S5x160x128) ![4, 0, 0] S1x160x128.size inb_S5x160x128_S1x160x128_4_0_0) := by
  unfold runB.sl.v203 runB.sl.HS5_9 runB.sl.HS5_8 runB.sl.HS5_7 runB.sl.HS5_6
  rw [View.readCov_skip _ _ _ _ _ (by rfl)]
  rw [View.readCov_skip _ _ _ _ _ (by rfl)]
  rw [View.readCov_skip _ _ _ _ _ (by rfl)]
  rw [View.readCov_skip _ _ _ _ _ (by rfl)]
  exact readCov_of_canon _ _ _ _ (B_half1 c arg1 harg1 arg2 harg2 arg3 harg3 arg5 harg5 arg19 harg19 x0 x1 x2 x4 xs5)

/-- The rows of the sums that the middle point's run stores for the second half tile. -/
theorem B_rows2 : (⟨Rect.unit (s := S5x160x128) ![4, 0, 0] S1x160x128.size inb_S5x160x128_S1x160x128_4_0_0, k0_pay3 (runB.sl.r_7 c arg5 harg5 x4) (runB.sl.r_8 c arg1 harg1 arg2 harg2 arg3 harg3 x0 x1 x2) (runB.sl.v203 c arg1 harg1 arg2 harg2 arg3 harg3 arg5 harg5 arg19 harg19 x0 x1 x2 x4 xs5)⟩ :: runB.sl.HS5_9 c arg1 harg1 arg2 harg2 arg3 harg3 arg5 harg5 arg19 harg19 x0 x1 x2 x4 xs5) = rows2 (sg1 x4) (s1 x0 x1 x2) (View.ld (accHalf (sg0 x4) (s0 x0 x1 x2) xs5) (Rect.unit (s := S5x160x128) ![0, 0, 0] S1x160x128.size inb_S5x160x128_S1x160x128_0_0_0)) (View.ld (accHalf (sg0 x4) (s0 x0 x1 x2) xs5) (Rect.unit (s := S5x160x128) ![1, 0, 0] S1x160x128.size inb_S5x160x128_S1x160x128_1_0_0)) (View.ld (accHalf (sg0 x4) (s0 x0 x1 x2) xs5) (Rect.unit (s := S5x160x128) ![2, 0, 0] S1x160x128.size inb_S5x160x128_S1x160x128_2_0_0)) (View.ld (accHalf (sg0 x4) (s0 x0 x1 x2) xs5) (Rect.unit (s := S5x160x128) ![3, 0, 0] S1x160x128.size inb_S5x160x128_S1x160x128_3_0_0)) (View.ld (accHalf (sg0 x4) (s0 x0 x1 x2) xs5) (Rect.unit (s := S5x160x128) ![4, 0, 0] S1x160x128.size inb_S5x160x128_S1x160x128_4_0_0)) ++ runB.sl.HS5_5 c arg1 harg1 arg2 harg2 arg3 harg3 arg5 harg5 arg19 harg19 x0 x1 x2 x4 xs5 := by
  refine (show _ = rows2 (runB.sl.r_7 c arg5 harg5 x4) (runB.sl.r_8 c arg1 harg1 arg2 harg2 arg3 harg3 x0 x1 x2) (runB.sl.v155 c arg1 harg1 arg2 harg2 arg3 harg3 arg5 harg5 arg19 harg19 x0 x1 x2 x4 xs5) (runB.sl.v167 c arg1 harg1 arg2 harg2 arg3 harg3 arg5 harg5 arg19 harg19 x0 x1 x2 x4 xs5) (runB.sl.v179 c arg1 harg1 arg2 harg2 arg3 harg3 arg5 harg5 arg19 harg19 x0 x1 x2 x4 xs5) (runB.sl.v191 c arg1 harg1 arg2 harg2 arg3 harg3 arg5 harg5 arg19 harg19 x0 x1 x2 x4 xs5) (runB.sl.v203 c arg1 harg1 arg2 harg2 arg3 harg3 arg5 harg5 arg19 harg19 x0 x1 x2 x4 xs5) ++ runB.sl.HS5_5 c arg1 harg1 arg2 harg2 arg3 harg3 arg5 harg5 arg19 harg19 x0 x1 x2 x4 xs5 from rfl).trans ?_
  rw [B_sg1, B_s1, B_v2_0, B_v2_1, B_v2_2, B_v2_3, B_v2_4]

/-- After all stores the middle point's sums have the tile added. -/
theorem B_canon : View.canon (⟨Rect.unit (s := S5x160x128) ![4, 0, 0] S1x160x128.size inb_S5x160x128_S1x160x128_4_0_0, k0_pay3 (runB.sl.r_7 c arg5 harg5 x4) (runB.sl.r_8 c arg1 harg1 arg2 harg2 arg3 harg3 x0 x1 x2) (runB.sl.v203 c arg1 harg1 arg2 harg2 arg3 harg3 arg5 harg5 arg19 harg19 x0 x1 x2 x4 xs5)⟩ :: runB.sl.HS5_9 c arg1 harg1 arg2 harg2 arg3 harg3 arg5 harg5 arg19 harg19 x0 x1 x2 x4 xs5) = accNext x0 x1 x2 x4 xs5 := by
  rw [B_rows2]; exact canon_rows2 _ _ _ _

/-- The buffer of result window 6 (gradient), read back after the middle point. -/
theorem B_out6 (hc0 : ¬cond0_0 i) (hc1 : ¬cond0_1 i) (v : View sig .tc .vmem S160x256 .f32) (f) : v.read (Elt F) (v.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).1) = dzV x0 x1 x2 x4 xs0 := by
  have h : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).1 = dzL x0 x1 x2 x4 xs0 := by
    refine (show (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).1 = [⟨Rect.unit (s := S160x256) ![0, 128] S160x128.size inb_S160x256_S160x128_0_128, runB.sl.r_9 c arg1 harg1 arg2 harg2 arg3 harg3 arg5 harg5 arg14 harg14 x0 x1 x2 x4 xs0⟩, ⟨Rect.unit (s := S160x256) ![0, 0] S160x128.size inb_S160x256_S160x128_0_0, k0_pay392 (runB.sl.r_2 c arg5 harg5 x4) (runB.sl.r_3 c arg1 harg1 arg2 harg2 arg3 harg3 x0 x1 x2) (runB.sl.r_4 c arg5 harg5 arg14 harg14 x4 xs0)⟩] from rfl).trans ?_
    rw [B_d1, B_sg0, B_s0, B_g0]; rfl
  rw [h]; exact read_dzL v f x0 x1 x2 x4 _

/-- The sums, read back after the middle point. -/
theorem B_outs5 (hc0 : ¬cond0_0 i) (hc1 : ¬cond0_1 i) (v : View sig .tc .vmem S5x160x128 .f32) (f) : v.read (Elt F) (v.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.1) = accNext x0 x1 x2 x4 xs5 := by
  have h : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.1 = rows2 (sg1 x4) (s1 x0 x1 x2) (View.ld (accHalf (sg0 x4) (s0 x0 x1 x2) xs5) (Rect.unit (s := S5x160x128) ![0, 0, 0] S1x160x128.size inb_S5x160x128_S1x160x128_0_0_0)) (View.ld (accHalf (sg0 x4) (s0 x0 x1 x2) xs5) (Rect.unit (s := S5x160x128) ![1, 0, 0] S1x160x128.size inb_S5x160x128_S1x160x128_1_0_0)) (View.ld (accHalf (sg0 x4) (s0 x0 x1 x2) xs5) (Rect.unit (s := S5x160x128) ![2, 0, 0] S1x160x128.size inb_S5x160x128_S1x160x128_2_0_0)) (View.ld (accHalf (sg0 x4) (s0 x0 x1 x2) xs5) (Rect.unit (s := S5x160x128) ![3, 0, 0] S1x160x128.size inb_S5x160x128_S1x160x128_3_0_0)) (View.ld (accHalf (sg0 x4) (s0 x0 x1 x2) xs5) (Rect.unit (s := S5x160x128) ![4, 0, 0] S1x160x128.size inb_S5x160x128_S1x160x128_4_0_0)) ++ runB.sl.HS5_5 c arg1 harg1 arg2 harg2 arg3 harg3 arg5 harg5 arg19 harg19 x0 x1 x2 x4 xs5 :=
    (show (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.1 = (⟨Rect.unit (s := S5x160x128) ![4, 0, 0] S1x160x128.size inb_S5x160x128_S1x160x128_4_0_0, k0_pay3 (runB.sl.r_7 c arg5 harg5 x4) (runB.sl.r_8 c arg1 harg1 arg2 harg2 arg3 harg3 x0 x1 x2) (runB.sl.v203 c arg1 harg1 arg2 harg2 arg3 harg3 arg5 harg5 arg19 harg19 x0 x1 x2 x4 xs5)⟩ :: runB.sl.HS5_9 c arg1 harg1 arg2 harg2 arg3 harg3 arg5 harg5 arg19 harg19 x0 x1 x2 x4 xs5) from rfl).trans (B_rows2 c arg1 harg1 arg2 harg2 arg3 harg3 arg5 harg5 arg19 harg19 x0 x1 x2 x4 xs5)
  rw [h]
  exact read_of_canon v f _ _ _ (cover_rows2 _ _ _ _ _ _ _) (canon_rows2 _ _ _ _)

end Cert.KernelIdeal.Run
-- ==== Proof.KRun.RunC.lean ====
/- The run of the kernel body at the last grid point. -/
module

public import proofs.«01_k».proof.Proof.KRun.Base

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S256x12288 .fp8e4m3) (harg1 : arg1.IsWhole) (arg2 : Memref sig .tc .vmem S1x256 .f32) (harg2 : arg2.IsWhole) (arg3 : Memref sig .tc .vmem S160x12288 .bf16) (harg3 : arg3.IsWhole) (arg4 : Memref sig .tc .vmem S6x2048 .i32) (harg4 : arg4.IsWhole) (arg5 : Memref sig .tc .vmem S1x256 .i32) (harg5 : arg5.IsWhole) (arg6 : Memref sig .tc .vmem S1x2048 .i32) (harg6 : arg6.IsWhole) (arg7 : Memref sig .tc .vmem S160x256 .f32) (harg7 : arg7.IsWhole) (arg8 : Memref sig .tc .vmem S5 .f32) (harg8 : arg8.IsWhole) (arg9 : Memref sig .tc .vmem S5 .f32) (harg9 : arg9.IsWhole) (arg10 : Memref sig .tc .vmem S5 .f32) (harg10 : arg10.IsWhole) (arg11 : Memref sig .tc .vmem S5x160 .f32) (harg11 : arg11.IsWhole) (arg12 : Memref sig .tc .vmem S5x160 .i32) (harg12 : arg12.IsWhole) (arg13 : Memref sig .tc .vmem S5x8 .i32) (harg13 : arg13.IsWhole) (arg14 : Memref sig .tc .vmem S160x128 .f32) (harg14 : arg14.IsWhole) (arg15 : Memref sig .tc .vmem S160x128 .f32) (harg15 : arg15.IsWhole) (arg16 : Memref sig .tc .vmem S160x128 .f32) (harg16 : arg16.IsWhole) (arg17 : Memref sig .tc .vmem S160x128 .f32) (harg17 : arg17.IsWhole) (arg18 : Memref sig .tc .vmem S1x128 .f32) (harg18 : arg18.IsWhole) (arg19 : Memref sig .tc .vmem S5x160x128 .f32) (harg19 : arg19.IsWhole)

set_option maxHeartbeats 1600000 in
/-- The body at the last grid point: the gradient block and the accumulator as at a middle point, then the probabilities and
    the three losses. The two tables of counts are left as the first point stored them. -/
noncomputable def runC (hc0 : ¬cond0_0 i) (hc1 : cond0_1 i)
    (x0 : Vec F S256x12288 .fp8e4m3) (x1 : Vec F S1x256 .f32) (x2 : Vec F S160x12288 .bf16) (x3 : Vec F S6x2048 .i32) (x4 : Vec F S1x256 .i32) (x5 : Vec F S1x2048 .i32) (xs0 : Vec F S160x128 .f32) (xs1 : Vec F S160x128 .f32) (xs2 : Vec F S160x128 .f32) (xs3 : Vec F S160x128 .f32) (xs4 : Vec F S1x128 .f32) (xs5 : Vec F S5x160x128 .f32) :
    Σ' (L6 : List (View.Piece (Elt F) S160x256 .f32)), Σ' (L7 : List (View.Piece (Elt F) S5 .f32)), Σ' (L8 : List (View.Piece (Elt F) S5 .f32)), Σ' (L9 : List (View.Piece (Elt F) S5 .f32)), Σ' (L10 : List (View.Piece (Elt F) S5x160 .f32)), { LS5 : List (View.Piece (Elt F) S5x160x128 .f32) //
      ∀ (x11 : Vec F S5x160 .i32) (x12 : Vec F S5x8 .i32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x11 ∗ owns (c : Thread nD τ) arg13 fullShare x12 ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4 ∗ owns (c : Thread nD τ) arg19 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ owns (c : Thread nD τ) arg12 fullShare x11 ∗ owns (c : Thread nD τ) arg13 fullShare x12 ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4 ∗ (∃ f, arg19.view.loc (c : Thread nD τ) ↦[arg19.view.set]{fullShare} arg19.view.writes (Elt F) f LS5)) -∗ K ⟨⟩))
          ⊢ wp frame (wpE (defs₀ (F := F)) Variants.none c none) E (cc0_balance i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun x11 x12 E K => ?run⟩
  case run =>
    simp only [cc0_balance_eq_skeleton]; unfold cc0_balance_skel
    simp only [k0_part68_eq_skeleton, k0_part69_eq_skeleton, k0_part70_eq_skeleton, k0_part71_eq_skeleton, k0_part72_eq_skeleton, k0_part66_eq_skeleton, k0_part67_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%f11, %hf11, H11⟩, ⟨%f12, %hf12, H12⟩, ⟨%f13, %hf13, HS0⟩, ⟨%f14, %hf14, HS1⟩, ⟨%f15, %hf15, HS2⟩, ⟨%f16, %hf16, HS3⟩, ⟨%f17, %hf17, HS4⟩, ⟨%f18, %hf18, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]
    · iexists _; isplitr; · ipureintro; exact harg12.read_unread _
      iexact H11
    isplitl [H12]
    · iexists _; isplitr; · ipureintro; exact harg13.read_unread _
      iexact H12
    isplitl [HS0]
    · iexists _; isplitr; · ipureintro; exact harg14.read_unread _
      iexact HS0
    isplitl [HS1]
    · iexists _; isplitr; · ipureintro; exact harg15.read_unread _
      iexact HS1
    isplitl [HS2]
    · iexists _; isplitr; · ipureintro; exact harg16.read_unread _
      iexact HS2
    isplitl [HS3]
    · iexists _; isplitr; · ipureintro; exact harg17.read_unread _
      iexact HS3
    isplitl [HS4]
    · iexists _; isplitr; · ipureintro; exact harg18.read_unread _
      iexact HS4
    iexists _; iexact HS5

end Cert.KernelIdeal.Run

end
-- ==== Proof.KVal.ValC.lean ====
/- The stores of the run at the last point, read back: the closed terms. -/
module

public import proofs.«01_k».proof.Proof.KRun.RunC
public import proofs.«01_k».proof.Proof.KVal.Tile

@[expose] public section

set_option maxRecDepth 65536

noncomputable section

namespace Cert.KernelIdeal.Run

open Cert.KernelIdeal Cert.KernelIdeal.Gen Cert.KernelIdeal.Val
open Idealize.ShloMosaic Idealize.ShloMosaic.TcCoe Idealize.ShloMosaic.Tactic
open Idealize.SL Idealize.SL.RA Idealize.SL.Sem

variable {F : FTy → Type} [FloatOps F]
variable (c : Dev nD) (i : grid0.Coords) (arg1 : Memref sig .tc .vmem S256x12288 .fp8e4m3) (harg1 : arg1.IsWhole) (arg2 : Memref sig .tc .vmem S1x256 .f32) (harg2 : arg2.IsWhole) (arg3 : Memref sig .tc .vmem S160x12288 .bf16) (harg3 : arg3.IsWhole) (arg4 : Memref sig .tc .vmem S6x2048 .i32) (harg4 : arg4.IsWhole) (arg5 : Memref sig .tc .vmem S1x256 .i32) (harg5 : arg5.IsWhole) (arg6 : Memref sig .tc .vmem S1x2048 .i32) (harg6 : arg6.IsWhole) (arg7 : Memref sig .tc .vmem S160x256 .f32) (harg7 : arg7.IsWhole) (arg8 : Memref sig .tc .vmem S5 .f32) (harg8 : arg8.IsWhole) (arg9 : Memref sig .tc .vmem S5 .f32) (harg9 : arg9.IsWhole) (arg10 : Memref sig .tc .vmem S5 .f32) (harg10 : arg10.IsWhole) (arg11 : Memref sig .tc .vmem S5x160 .f32) (harg11 : arg11.IsWhole) (arg12 : Memref sig .tc .vmem S5x160 .i32) (harg12 : arg12.IsWhole) (arg13 : Memref sig .tc .vmem S5x8 .i32) (harg13 : arg13.IsWhole) (arg14 : Memref sig .tc .vmem S160x128 .f32) (harg14 : arg14.IsWhole) (arg15 : Memref sig .tc .vmem S160x128 .f32) (harg15 : arg15.IsWhole) (arg16 : Memref sig .tc .vmem S160x128 .f32) (harg16 : arg16.IsWhole) (arg17 : Memref sig .tc .vmem S160x128 .f32) (harg17 : arg17.IsWhole) (arg18 : Memref sig .tc .vmem S1x128 .f32) (harg18 : arg18.IsWhole) (arg19 : Memref sig .tc .vmem S5x160x128 .f32) (harg19 : arg19.IsWhole)
variable (x0 : Vec F S256x12288 .fp8e4m3) (x1 : Vec F S1x256 .f32) (x2 : Vec F S160x12288 .bf16) (x3 : Vec F S6x2048 .i32) (x4 : Vec F S1x256 .i32) (x5 : Vec F S1x2048 .i32) (xs0 : Vec F S160x128 .f32) (xs1 : Vec F S160x128 .f32) (xs2 : Vec F S160x128 .f32) (xs3 : Vec F S160x128 .f32) (xs4 : Vec F S1x128 .f32) (xs5 : Vec F S5x160x128 .f32)

/-- The logits that the last point's run computes, before the scales. -/
theorem C_z : runC.sl.r c arg1 harg1 arg3 harg3 x0 x2 = k0_pay388 x2 x0 := by
  unfold runC.sl.r; simp only [View.readAt_eq_ld, Memref.IsWhole.read_unread, ld_x0, ld_x2, ld_tab, ld_t, ld_x0b, ld_x2b, ld_tabb, ld_tb]
/-- The first half tile's sequence ids in the last point's run. -/
theorem C_sg0 : runC.sl.r_2 c arg5 harg5 x4 = sg0 x4 := by
  unfold runC.sl.r_2 sg0 id0; simp only [View.readAt_eq_ld, Memref.IsWhole.read_unread, ld_x0, ld_x2, ld_tab, ld_t, ld_x0b, ld_x2b, ld_tabb, ld_tb]
/-- The second half tile's sequence ids in the last point's run. -/
theorem C_sg1 : runC.sl.r_7 c arg5 harg5 x4 = sg1 x4 := by
  unfold runC.sl.r_7 sg1 id1; simp only [View.readAt_eq_ld, Memref.IsWhole.read_unread, ld_x0, ld_x2, ld_tab, ld_t, ld_x0b, ld_x2b, ld_tabb, ld_tb]
/-- The first half tile's softmax in the last point's run. -/
theorem C_s0 : runC.sl.r_3 c arg1 harg1 arg2 harg2 arg3 harg3 x0 x1 x2 = s0 x0 x1 x2 := by
  unfold runC.sl.r_3 s0 sc0; simp only [View.readAt_eq_ld, Memref.IsWhole.read_unread, ld_x0, ld_x2, ld_tab, ld_t, ld_x0b, ld_x2b, ld_tabb, ld_tb]
/-- The second half tile's softmax in the last point's run. -/
theorem C_s1 : runC.sl.r_8 c arg1 harg1 arg2 harg2 arg3 harg3 x0 x1 x2 = s1 x0 x1 x2 := by
  unfold runC.sl.r_8 s1 sc1; rw [C_z]; simp only [View.readAt_eq_ld, Memref.IsWhole.read_unread, ld_x0, ld_x2, ld_tab, ld_t, ld_x0b, ld_x2b, ld_tabb, ld_tb]

/-- The table of gradient weights that the last point's run loads. -/
theorem C_coef : runC.sl.r_1 c arg14 harg14 xs0 = xs0 := by
  unfold runC.sl.r_1; simp only [View.readAt_eq_ld, Memref.IsWhole.read_unread, ld_x0, ld_x2, ld_tab, ld_t, ld_x0b, ld_x2b, ld_tabb, ld_tb]
/-- The weights that the last point's run picks for the tokens of the first half tile. -/
theorem C_g0 : runC.sl.r_4 c arg5 harg5 arg14 harg14 x4 xs0 = k0_pay391 xs0 (id0 x4) := by
  unfold runC.sl.r_4 id0; simp only [View.readAt_eq_ld, Memref.IsWhole.read_unread, ld_x0, ld_x2, ld_tab, ld_t, ld_x0b, ld_x2b, ld_tabb, ld_tb]
/-- The second half tile's gradient in the last point's run. -/
theorem C_d1 : runC.sl.r_9 c arg1 harg1 arg2 harg2 arg3 harg3 arg5 harg5 arg14 harg14 x0 x1 x2 x4 xs0 = dz1 x0 x1 x2 x4 xs0 := by
  unfold runC.sl.r_9 dz1 id1 sc1; rw [C_z, C_coef]; simp only [View.readAt_eq_ld, Memref.IsWhole.read_unread, ld_x0, ld_x2, ld_tab, ld_t, ld_x0b, ld_x2b, ld_tabb, ld_tb]

/-- Row 1 of the sums that the last point's run loads for the first half tile: as it was before the tile. -/
theorem C_v1_1 : runC.sl.v64 c arg19 harg19 xs5 = View.ld xs5 (Rect.unit (s := S5x160x128) ![1, 0, 0] S1x160x128.size inb_S5x160x128_S1x160x128_1_0_0) := by
  unfold runC.sl.v64; simp only [View.readAt_eq_ld, Memref.IsWhole.read_unread, ld_x0, ld_x2, ld_tab, ld_t, ld_x0b, ld_x2b, ld_tabb, ld_tb]

/-- Row 2 of the sums that the last point's run loads for the first half tile: as it was before the tile. -/
theorem C_v1_2 : runC.sl.v76 c arg19 harg19 xs5 = View.ld xs5 (Rect.unit (s := S5x160x128) ![2, 0, 0] S1x160x128.size inb_S5x160x128_S1x160x128_2_0_0) := by
  unfold runC.sl.v76; simp only [View.readAt_eq_ld, Memref.IsWhole.read_unread, ld_x0, ld_x2, ld_tab, ld_t, ld_x0b, ld_x2b, ld_tabb, ld_tb]

/-- Row 3 of the sums that the last point's run loads for the first half tile: as it was before the tile. -/
theorem C_v1_3 : runC.sl.v88 c arg19 harg19 xs5 = View.ld xs5 (Rect.unit (s := S5x160x128) ![3, 0, 0] S1x160x128.size inb_S5x160x128_S1x160x128_3_0_0) := by
  unfold runC.sl.v88; simp only [View.readAt_eq_ld, Memref.IsWhole.read_unread, ld_x0, ld_x2, ld_tab, ld_t, ld_x0b, ld_x2b, ld_tabb, ld_tb]

/-- Row 4 of the sums that the last point's run loads for the first half tile: as it was before the tile. -/
theorem C_v1_4 : runC.sl.v100 c arg19 harg19 xs5 = View.ld xs5 (Rect.unit (s := S5x160x128) ![4, 0, 0] S1x160x128.size inb_S5x160x128_S1x160x128_4_0_0) := by
  unfold runC.sl.v100; simp only [View.readAt_eq_ld, Memref.IsWhole.read_unread, ld_x0, ld_x2, ld_tab, ld_t, ld_x0b, ld_x2b, ld_tabb, ld_tb]

/-- Row 0 of the sums that the last point's run loads for the first half tile: as it was before the tile. -/
theorem C_v1_0 : (View.readAt (Elt F) arg19.view (Rect.unit (s := S5x160x128) ![0, 0, 0] S1x160x128.size inb_S5x160x128_S1x160x128_0_0_0).toLoadRect (harg19.unread xs5)) = View.ld xs5 (Rect.unit (s := S5x160x128) ![0, 0, 0] S1x160x128.size inb_S5x160x128_S1x160x128_0_0_0) := by
  simp only [View.readAt_eq_ld, Memref.IsWhole.read_unread, ld_x0, ld_x2, ld_tab, ld_t, ld_x0b, ld_x2b, ld_tabb, ld_tb]

/-- The rows of the sums that the last point's run stores for the first half tile. -/
theorem C_rows1 : runC.sl.HS5_5 c arg1 harg1 arg2 harg2 arg3 harg3 arg5 harg5 arg19 harg19 x0 x1 x2 x4 xs5 = rows1 (sg0 x4) (s0 x0 x1 x2) (View.ld xs5 (Rect.unit (s := S5x160x128) ![0, 0, 0] S1x160x128.size inb_S5x160x128_S1x160x128_0_0_0)) (View.ld xs5 (Rect.unit (s := S5x160x128) ![1, 0, 0] S1x160x128.size inb_S5x160x128_S1x160x128_1_0_0)) (View.ld xs5 (Rect.unit (s := S5x160x128) ![2, 0, 0] S1x160x128.size inb_S5x160x128_S1x160x128_2_0_0)) (View.ld xs5 (Rect.unit (s := S5x160x128) ![3, 0, 0] S1x160x128.size inb_S5x160x128_S1x160x128_3_0_0)) (View.ld xs5 (Rect.unit (s := S5x160x128) ![4, 0, 0] S1x160x128.size inb_S5x160x128_S1x160x128_4_0_0)) ++ [] := by
  refine (show _ = rows1 (runC.sl.r_2 c arg5 harg5 x4) (runC.sl.r_3 c arg1 harg1 arg2 harg2 arg3 harg3 x0 x1 x2) (View.readAt (Elt F) arg19.view (Rect.unit (s := S5x160x128) ![0, 0, 0] S1x160x128.size inb_S5x160x128_S1x160x128_0_0_0).toLoadRect (harg19.unread xs5)) (runC.sl.v64 c arg19 harg19 xs5) (runC.sl.v76 c arg19 harg19 xs5) (runC.sl.v88 c arg19 harg19 xs5) (runC.sl.v100 c arg19 harg19 xs5) ++ [] from rfl).trans ?_
  rw [C_sg0, C_s0, C_v1_0, C_v1_1, C_v1_2, C_v1_3, C_v1_4]

/-- After the stores for the first half tile the last point's sums have that half added. -/
theorem C_half1 : View.canon (runC.sl.HS5_5 c arg1 harg1 arg2 harg2 arg3 harg3 arg5 harg5 arg19 harg19 x0 x1 x2 x4 xs5) = accHalf (sg0 x4) (s0 x0 x1 x2) xs5 := by
  rw [C_rows1]; exact canon_rows1 _ _ _ _

/-- Row 0 of the sums that the last point's run loads for the second half tile: the first half is added. -/
theorem C_v2_0 : runC.sl.v155 c arg1 harg1 arg2 harg2 arg3 harg3 arg5 harg5 arg19 harg19 x0 x1 x2 x4 xs5 = View.ld (accHalf (sg0 x4) (s0 x0 x1 x2) xs5) (Rect.unit (s := S5x160x128) ![0, 0, 0] S1x160x128.size inb_S5x160x128_S1x160x128_0_0_0) := by
  unfold runC.sl.v155
  exact readCov_of_canon _ _ _ _ (C_half1 c arg1 harg1 arg2 harg2 arg3 harg3 arg5 harg5 arg19 harg19 x0 x1 x2 x4 xs5)

/-- Row 1 of the sums that the last point's run loads for the second half tile: the first half is added. -/
theorem C_v2_1 : runC.sl.v167 c arg1 harg1 arg2 harg2 arg3 harg3 arg5 harg5 arg19 harg19 x0 x1 x2 x4 xs5 = View.ld (accHalf (sg0 x4) (s0 x0 x1 x2) xs5) (Rect.unit (s := S5x160x128) ![1, 0, 0] S1x160x128.size inb_S5x160x128_S1x160x128_1_0_0) := by
  unfold runC.sl.v167 runC.sl.HS5_6
  rw [View.readCov_skip _ _ _ _ _ (by rfl)]
  exact readCov_of_canon _ _ _ _ (C_half1 c arg1 harg1 arg2 harg2 arg3 harg3 arg5 harg5 arg19 harg19 x0 x1 x2 x4 xs5)

/-- Row 2 of the sums that the last point's run loads for the second half tile: the first half is added. -/
theorem C_v2_2 : runC.sl.v179 c arg1 harg1 arg2 harg2 arg3 harg3 arg5 harg5 arg19 harg19 x0 x1 x2 x4 xs5 = View.ld (accHalf (sg0 x4) (s0 x0 x1 x2) xs5) (Rect.unit (s := S5x160x128) ![2, 0, 0] S1x160x128.size inb_S5x160x128_S1x160x128_2_0_0) := by
  unfold runC.sl.v179 runC.sl.HS5_7 runC.sl.HS5_6
  rw [View.readCov_skip _ _ _ _ _ (by rfl)]
  rw [View.readCov_skip _ _ _ _ _ (by rfl)]
  exact readCov_of_canon _ _ _ _ (C_half1 c arg1 harg1 arg2 harg2 arg3 harg3 arg5 harg5 arg19 harg19 x0 x1 x2 x4 xs5)

/-- Row 3 of the sums that the last point's run loads for the second half tile: the first half is added. -/
theorem C_v2_3 : runC.sl.v191 c arg1 harg1 arg2 harg2 arg3 harg3 arg5 harg5 arg19 harg19 x0 x1 x2 x4 xs5 = View.ld (accHalf (sg0 x4) (s0 x0 x1 x2) xs5) (Rect.unit (s := S5x160x128) ![3, 0, 0] S1x160x128.size inb_S5x160x128_S1x160x128_3_0_0) := by
  unfold runC.sl.v191 runC.sl.HS5_8 runC.sl.HS5_7 runC.sl.HS5_6
  rw [View.readCov_skip _ _ _ _ _ (by rfl)]
  rw [View.readCov_skip _ _ _ _ _ (by rfl)]
  rw [View.readCov_skip _ _ _ _ _ (by rfl)]
  exact readCov_of_canon _ _ _ _ (C_half1 c arg1 harg1 arg2 harg2 arg3 harg3 arg5 harg5 arg19 harg19 x0 x1 x2 x4 xs5)

/-- Row 4 of the sums that the last point's run loads for the second half tile: the first half is added. -/
theorem C_v2_4 : runC.sl.v203 c arg1 harg1 arg2 harg2 arg3 harg3 arg5 harg5 arg19 harg19 x0 x1 x2 x4 xs5 = View.ld (accHalf (sg0 x4) (s0 x0 x1 x2) xs5) (Rect.unit (s := S5x160x128) ![4, 0, 0] S1x160x128.size inb_S5x160x128_S1x160x128_4_0_0) := by
  unfold runC.sl.v203 runC.sl.HS5_9 runC.sl.HS5_8 runC.sl.HS5_7 runC.sl.HS5_6
  rw [View.readCov_skip _ _ _ _ _ (by rfl)]
  rw [View.readCov_skip _ _ _ _ _ (by rfl)]
  rw [View.readCov_skip _ _ _ _ _ (by rfl)]
  rw [View.readCov_skip _ _ _ _ _ (by rfl)]
  exact readCov_of_canon _ _ _ _ (C_half1 c arg1 harg1 arg2 harg2 arg3 harg3 arg5 harg5 arg19 harg19 x0 x1 x2 x4 xs5)

/-- The rows of the sums that the last point's run stores for the second half tile. -/
theorem C_rows2 : (runC.sl.HS5_10 c arg1 harg1 arg2 harg2 arg3 harg3 arg5 harg5 arg19 harg19 x0 x1 x2 x4 xs5) = rows2 (sg1 x4) (s1 x0 x1 x2) (View.ld (accHalf (sg0 x4) (s0 x0 x1 x2) xs5) (Rect.unit (s := S5x160x128) ![0, 0, 0] S1x160x128.size inb_S5x160x128_S1x160x128_0_0_0)) (View.ld (accHalf (sg0 x4) (s0 x0 x1 x2) xs5) (Rect.unit (s := S5x160x128) ![1, 0, 0] S1x160x128.size inb_S5x160x128_S1x160x128_1_0_0)) (View.ld (accHalf (sg0 x4) (s0 x0 x1 x2) xs5) (Rect.unit (s := S5x160x128) ![2, 0, 0] S1x160x128.size inb_S5x160x128_S1x160x128_2_0_0)) (View.ld (accHalf (sg0 x4) (s0 x0 x1 x2) xs5) (Rect.unit (s := S5x160x128) ![3, 0, 0] S1x160x128.size inb_S5x160x128_S1x160x128_3_0_0)) (View.ld (accHalf (sg0 x4) (s0 x0 x1 x2) xs5) (Rect.unit (s := S5x160x128) ![4, 0, 0] S1x160x128.size inb_S5x160x128_S1x160x128_4_0_0)) ++ runC.sl.HS5_5 c arg1 harg1 arg2 harg2 arg3 harg3 arg5 harg5 arg19 harg19 x0 x1 x2 x4 xs5 := by
  refine (show _ = rows2 (runC.sl.r_7 c arg5 harg5 x4) (runC.sl.r_8 c arg1 harg1 arg2 harg2 arg3 harg3 x0 x1 x2) (runC.sl.v155 c arg1 harg1 arg2 harg2 arg3 harg3 arg5 harg5 arg19 harg19 x0 x1 x2 x4 xs5) (runC.sl.v167 c arg1 harg1 arg2 harg2 arg3 harg3 arg5 harg5 arg19 harg19 x0 x1 x2 x4 xs5) (runC.sl.v179 c arg1 harg1 arg2 harg2 arg3 harg3 arg5 harg5 arg19 harg19 x0 x1 x2 x4 xs5) (runC.sl.v191 c arg1 harg1 arg2 harg2 arg3 harg3 arg5 harg5 arg19 harg19 x0 x1 x2 x4 xs5) (runC.sl.v203 c arg1 harg1 arg2 harg2 arg3 harg3 arg5 harg5 arg19 harg19 x0 x1 x2 x4 xs5) ++ runC.sl.HS5_5 c arg1 harg1 arg2 harg2 arg3 harg3 arg5 harg5 arg19 harg19 x0 x1 x2 x4 xs5 from rfl).trans ?_
  rw [C_sg1, C_s1, C_v2_0, C_v2_1, C_v2_2, C_v2_3, C_v2_4]

/-- After all stores the last point's sums have the tile added. -/
theorem C_canon : View.canon (runC.sl.HS5_10 c arg1 harg1 arg2 harg2 arg3 harg3 arg5 harg5 arg19 harg19 x0 x1 x2 x4 xs5) = accNext x0 x1 x2 x4 xs5 := by
  rw [C_rows2]; exact canon_rows2 _ _ _ _

/-- The buffer of result window 6 (gradient), read back after the last point. -/
theorem C_out6 (hc0 : ¬cond0_0 i) (hc1 : cond0_1 i) (v : View sig .tc .vmem S160x256 .f32) (f) : v.read (Elt F) (v.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).1) = dzV x0 x1 x2 x4 xs0 := by
  have h : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).1 = dzL x0 x1 x2 x4 xs0 := by
    refine (show (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).1 = [⟨Rect.unit (s := S160x256) ![0, 128] S160x128.size inb_S160x256_S160x128_0_128, runC.sl.r_9 c arg1 harg1 arg2 harg2 arg3 harg3 arg5 harg5 arg14 harg14 x0 x1 x2 x4 xs0⟩, ⟨Rect.unit (s := S160x256) ![0, 0] S160x128.size inb_S160x256_S160x128_0_0, k0_pay392 (runC.sl.r_2 c arg5 harg5 x4) (runC.sl.r_3 c arg1 harg1 arg2 harg2 arg3 harg3 x0 x1 x2) (runC.sl.r_4 c arg5 harg5 arg14 harg14 x4 xs0)⟩] from rfl).trans ?_
    rw [C_d1, C_sg0, C_s0, C_g0]; rfl
  rw [h]; exact read_dzL v f x0 x1 x2 x4 _

/-- The sums, read back after the last point. -/
theorem C_outs5 (hc0 : ¬cond0_0 i) (hc1 : cond0_1 i) (v : View sig .tc .vmem S5x160x128 .f32) (f) : v.read (Elt F) (v.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.1) = accNext x0 x1 x2 x4 xs5 := by
  have h : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.1 = rows2 (sg1 x4) (s1 x0 x1 x2) (View.ld (accHalf (sg0 x4) (s0 x0 x1 x2) xs5) (Rect.unit (s := S5x160x128) ![0, 0, 0] S1x160x128.size inb_S5x160x128_S1x160x128_0_0_0)) (View.ld (accHalf (sg0 x4) (s0 x0 x1 x2) xs5) (Rect.unit (s := S5x160x128) ![1, 0, 0] S1x160x128.size inb_S5x160x128_S1x160x128_1_0_0)) (View.ld (accHalf (sg0 x4) (s0 x0 x1 x2) xs5) (Rect.unit (s := S5x160x128) ![2, 0, 0] S1x160x128.size inb_S5x160x128_S1x160x128_2_0_0)) (View.ld (accHalf (sg0 x4) (s0 x0 x1 x2) xs5) (Rect.unit (s := S5x160x128) ![3, 0, 0] S1x160x128.size inb_S5x160x128_S1x160x128_3_0_0)) (View.ld (accHalf (sg0 x4) (s0 x0 x1 x2) xs5) (Rect.unit (s := S5x160x128) ![4, 0, 0] S1x160x128.size inb_S5x160x128_S1x160x128_4_0_0)) ++ runC.sl.HS5_5 c arg1 harg1 arg2 harg2 arg3 harg3 arg5 harg5 arg19 harg19 x0 x1 x2 x4 xs5 :=
    (show (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.1 = (runC.sl.HS5_10 c arg1 harg1 arg2 harg2 arg3 harg3 arg5 harg5 arg19 harg19 x0 x1 x2 x4 xs5) from rfl).trans (C_rows2 c arg1 harg1 arg2 harg2 arg3 harg3 arg5 harg5 arg19 harg19 x0 x1 x2 x4 xs5)
  rw [h]
  exact read_of_canon v f _ _ _ (cover_rows2 _ _ _ _ _ _ _) (canon_rows2 _ _ _ _)

/-- Row 0 of the sums that the last point's run loads for the results: the whole tile is added. -/
theorem C_v3_0 : runC.sl.v221 c arg1 harg1 arg2 harg2 arg3 harg3 arg5 harg5 arg19 harg19 x0 x1 x2 x4 xs5 = View.ld (accNext x0 x1 x2 x4 xs5) (Rect.unit (s := S5x160x128) ![0, 0, 0] S1x160x128.size inb_S5x160x128_S1x160x128_0_0_0) := by
  unfold runC.sl.v221; exact readCov_of_canon _ _ _ _ (C_canon c arg1 harg1 arg2 harg2 arg3 harg3 arg5 harg5 arg19 harg19 x0 x1 x2 x4 xs5)

/-- Row 1 of the sums that the last point's run loads for the results: the whole tile is added. -/
theorem C_v3_1 : runC.sl.v230 c arg1 harg1 arg2 harg2 arg3 harg3 arg5 harg5 arg19 harg19 x0 x1 x2 x4 xs5 = View.ld (accNext x0 x1 x2 x4 xs5) (Rect.unit (s := S5x160x128) ![1, 0, 0] S1x160x128.size inb_S5x160x128_S1x160x128_1_0_0) := by
  unfold runC.sl.v230; exact readCov_of_canon _ _ _ _ (C_canon c arg1 harg1 arg2 harg2 arg3 harg3 arg5 harg5 arg19 harg19 x0 x1 x2 x4 xs5)

/-- Row 2 of the sums that the last point's run loads for the results: the whole tile is added. -/
theorem C_v3_2 : runC.sl.v239 c arg1 harg1 arg2 harg2 arg3 harg3 arg5 harg5 arg19 harg19 x0 x1 x2 x4 xs5 = View.ld (accNext x0 x1 x2 x4 xs5) (Rect.unit (s := S5x160x128) ![2, 0, 0] S1x160x128.size inb_S5x160x128_S1x160x128_2_0_0) := by
  unfold runC.sl.v239; exact readCov_of_canon _ _ _ _ (C_canon c arg1 harg1 arg2 harg2 arg3 harg3 arg5 harg5 arg19 harg19 x0 x1 x2 x4 xs5)

/-- Row 3 of the sums that the last point's run loads for the results: the whole tile is added. -/
theorem C_v3_3 : runC.sl.v248 c arg1 harg1 arg2 harg2 arg3 harg3 arg5 harg5 arg19 harg19 x0 x1 x2 x4 xs5 = View.ld (accNext x0 x1 x2 x4 xs5) (Rect.unit (s := S5x160x128) ![3, 0, 0] S1x160x128.size inb_S5x160x128_S1x160x128_3_0_0) := by
  unfold runC.sl.v248; exact readCov_of_canon _ _ _ _ (C_canon c arg1 harg1 arg2 harg2 arg3 harg3 arg5 harg5 arg19 harg19 x0 x1 x2 x4 xs5)

/-- Row 4 of the sums that the last point's run loads for the results: the whole tile is added. -/
theorem C_v3_4 : runC.sl.v257 c arg1 harg1 arg2 harg2 arg3 harg3 arg5 harg5 arg19 harg19 x0 x1 x2 x4 xs5 = View.ld (accNext x0 x1 x2 x4 xs5) (Rect.unit (s := S5x160x128) ![4, 0, 0] S1x160x128.size inb_S5x160x128_S1x160x128_4_0_0) := by
  unfold runC.sl.v257; exact readCov_of_canon _ _ _ _ (C_canon c arg1 harg1 arg2 harg2 arg3 harg3 arg5 harg5 arg19 harg19 x0 x1 x2 x4 xs5)

/-- The sums of the first four sequences, each in its column. -/
theorem C_sums : runC.sl.r_11 c arg1 harg1 arg2 harg2 arg3 harg3 arg5 harg5 arg19 harg19 x0 x1 x2 x4 xs5 = sumsV (accNext x0 x1 x2 x4 xs5) := by
  unfold runC.sl.r_11; rw [C_v3_0, C_v3_1, C_v3_2, C_v3_3]; rfl

/-- The buffer of result window 7 (expert loss), read back after the last point. -/
theorem C_out7 (hc0 : ¬cond0_0 i) (hc1 : cond0_1 i) (v : View sig .tc .vmem S5 .f32) (f) : v.read (Elt F) (v.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.1) = leV (accNext x0 x1 x2 x4 xs5) xs4 xs1 := by
  have h : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.1 = [⟨Rect.unit (s := S5) ![0] S5.size inb_S5_S5_0, leV (accNext x0 x1 x2 x4 xs5) xs4 xs1⟩] := by
    refine (show (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.1 = [⟨Rect.unit (s := S5) ![0] S5.size inb_S5_S5_0, k0_pay384 lanes160 (runC.sl.r_11 c arg1 harg1 arg2 harg2 arg3 harg3 arg5 harg5 arg19 harg19 x0 x1 x2 x4 xs5) k0_pay381 (runC.sl.v257 c arg1 harg1 arg2 harg2 arg3 harg3 arg5 harg5 arg19 harg19 x0 x1 x2 x4 xs5) (View.readAt (Elt F) arg18.view (Rect.unit (s := S1x128) ![0, 0] S1x128.size inb_S1x128_S1x128_0_0).toLoadRect (harg18.unread xs4)) (View.readAt (Elt F) arg15.view (Rect.unit (s := S160x128) ![0, 0] S160x128.size inb_S160x128_S160x128_0_0).toLoadRect (harg15.unread xs1))⟩] from rfl).trans ?_
    rw [C_sums, C_v3_4]; simp only [View.readAt_eq_ld, Memref.IsWhole.read_unread, ld_x0, ld_x2, ld_tab, ld_t, ld_x0b, ld_x2b, ld_tabb, ld_tb]; rfl
  rw [h]; exact read_whole1 v f _ off1 _ _

/-- The buffer of result window 8 (device loss), read back after the last point. -/
theorem C_out8 (hc0 : ¬cond0_0 i) (hc1 : cond0_1 i) (v : View sig .tc .vmem S5 .f32) (f) : v.read (Elt F) (v.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.1) = ldV (accNext x0 x1 x2 x4 xs5) xs4 xs2 := by
  have h : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.1 = [⟨Rect.unit (s := S5) ![0] S5.size inb_S5_S5_0, ldV (accNext x0 x1 x2 x4 xs5) xs4 xs2⟩] := by
    refine (show (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.1 = [⟨Rect.unit (s := S5) ![0] S5.size inb_S5_S5_0, k0_pay385 lanes160 (runC.sl.r_11 c arg1 harg1 arg2 harg2 arg3 harg3 arg5 harg5 arg19 harg19 x0 x1 x2 x4 xs5) k0_pay381 (runC.sl.v257 c arg1 harg1 arg2 harg2 arg3 harg3 arg5 harg5 arg19 harg19 x0 x1 x2 x4 xs5) (View.readAt (Elt F) arg18.view (Rect.unit (s := S1x128) ![0, 0] S1x128.size inb_S1x128_S1x128_0_0).toLoadRect (harg18.unread xs4)) (View.readAt (Elt F) arg16.view (Rect.unit (s := S160x128) ![0, 0] S160x128.size inb_S160x128_S160x128_0_0).toLoadRect (harg16.unread xs2))⟩] from rfl).trans ?_
    rw [C_sums, C_v3_4]; simp only [View.readAt_eq_ld, Memref.IsWhole.read_unread, ld_x0, ld_x2, ld_tab, ld_t, ld_x0b, ld_x2b, ld_tabb, ld_tb]; rfl
  rw [h]; exact read_whole1 v f _ off1 _ _

/-- The buffer of result window 9 (communication loss), read back after the last point. -/
theorem C_out9 (hc0 : ¬cond0_0 i) (hc1 : cond0_1 i) (v : View sig .tc .vmem S5 .f32) (f) : v.read (Elt F) (v.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.1) = lcV (accNext x0 x1 x2 x4 xs5) xs4 xs3 := by
  have h : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.1 = [⟨Rect.unit (s := S5) ![0] S5.size inb_S5_S5_0, lcV (accNext x0 x1 x2 x4 xs5) xs4 xs3⟩] := by
    refine (show (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.1 = [⟨Rect.unit (s := S5) ![0] S5.size inb_S5_S5_0, k0_pay4 (k0_pay386 lanes160 (runC.sl.r_11 c arg1 harg1 arg2 harg2 arg3 harg3 arg5 harg5 arg19 harg19 x0 x1 x2 x4 xs5) k0_pay381 (runC.sl.v257 c arg1 harg1 arg2 harg2 arg3 harg3 arg5 harg5 arg19 harg19 x0 x1 x2 x4 xs5) (View.readAt (Elt F) arg18.view (Rect.unit (s := S1x128) ![0, 0] S1x128.size inb_S1x128_S1x128_0_0).toLoadRect (harg18.unread xs4)) (View.readAt (Elt F) arg17.view (Rect.unit (s := S160x128) ![0, 0] S160x128.size inb_S160x128_S160x128_0_0).toLoadRect (harg17.unread xs3)))⟩] from rfl).trans ?_
    rw [C_sums, C_v3_4]; simp only [View.readAt_eq_ld, Memref.IsWhole.read_unread, ld_x0, ld_x2, ld_tab, ld_t, ld_x0b, ld_x2b, ld_tabb, ld_tb]; rfl
  rw [h]; exact read_whole1 v f _ off1 _ _

/-- The buffer of result window 10 (probabilities), read back after the last point. -/
theorem C_out10 (hc0 : ¬cond0_0 i) (hc1 : cond0_1 i) (v : View sig .tc .vmem S5x160 .f32) (f) : v.read (Elt F) (v.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.1) = pV (accNext x0 x1 x2 x4 xs5) xs4 := by
  have h : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.1 = [⟨Rect.unit (s := S5x160) ![0, 0] S5x160.size inb_S5x160_S5x160_0_0, pV (accNext x0 x1 x2 x4 xs5) xs4⟩] := by
    refine (show (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.1 = [⟨Rect.unit (s := S5x160) ![0, 0] S5x160.size inb_S5x160_S5x160_0_0, k0_pay383 lanes160 (runC.sl.r_11 c arg1 harg1 arg2 harg2 arg3 harg3 arg5 harg5 arg19 harg19 x0 x1 x2 x4 xs5) k0_pay381 (runC.sl.v257 c arg1 harg1 arg2 harg2 arg3 harg3 arg5 harg5 arg19 harg19 x0 x1 x2 x4 xs5) (View.readAt (Elt F) arg18.view (Rect.unit (s := S1x128) ![0, 0] S1x128.size inb_S1x128_S1x128_0_0).toLoadRect (harg18.unread xs4)) ⟩] from rfl).trans ?_
    rw [C_sums, C_v3_4]; simp only [View.readAt_eq_ld, Memref.IsWhole.read_unread, ld_x0, ld_x2, ld_tab, ld_t, ld_x0b, ld_x2b, ld_tabb, ld_tb]; rfl
  rw [h]; exact read_whole1 v f _ off2 _ _

end Cert.KernelIdeal.Run
-- ==== Proof.KRun.Frame.lean ====
/- The kernel's pipeline: what every point finds and leaves, and the run of the whole program. -/
module

public import proofs.«01_k».proof.Proof.KVal.ValA
public import proofs.«01_k».proof.Proof.KVal.ValB
public import proofs.«01_k».proof.Proof.KVal.ValC
public import Idealize.ShloMosaic.Lib.Claim

@[expose] public section

set_option maxRecDepth 16384

noncomputable section

namespace Cert.KernelIdeal.Run

open Cert.KernelIdeal Cert.KernelIdeal.Gen Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 11 is written back at the last point. -/
theorem flush0_11_C : ∀ t : Fin cfg0.N, ¬cond0_0 (grid0.coords t) → cond0_1 (grid0.coords t) → (cfg0.win 11).flush t = true := by decide +kernel
/-- Window 12 is written back at the last point. -/
theorem flush0_12_C : ∀ t : Fin cfg0.N, ¬cond0_0 (grid0.coords t) → cond0_1 (grid0.coords t) → (cfg0.win 12).flush t = true := by decide +kernel

/-- The grid's point number `n`, modulo the grid. -/
def tt (n : ℕ) : Fin cfg0.N := ⟨n % 8, by rw [show cfg0.N = 8 from N_0]; omega⟩

/-- The point with a point's own number is that point. -/
theorem tt_val (t : Fin cfg0.N) : tt t.val = t :=
  Fin.ext (Nat.mod_eq_of_lt (lt_of_lt_of_eq t.isLt (show cfg0.N = 8 from N_0)))

/-- The packed counts of the tokens. -/
def pE (c : Dev nD) : IVec S160x128 32 := packE (F := F) (iblk m c 3 (tt 0)) (iblk m c 5 (tt 0))
/-- The packed counts of the devices' tokens. -/
def pD (c : Dev nD) : IVec S16x128 32 := packD (F := F) (iblk m c 3 (tt 0)) (iblk m c 5 (tt 0))

/-- The sums of probabilities after `n` tiles. -/
def accAt (c : Dev nD) : ℕ → Vec F S5x160x128 .f32
  | 0 => k0_pay387
  | n + 1 => accNext (iblk m c 0 (tt n)) (iblk m c 1 (tt n)) (iblk m c 2 (tt n)) (iblk m c 4 (tt n)) (accAt c n)

/-- The sums after one more tile are the sums before it with the tile added. -/
theorem accAt_succ (c : Dev nD) (t : Fin cfg0.N) :
    accAt m c (t.val + 1) = accNext (iblk m c 0 t) (iblk m c 1 t) (iblk m c 2 t) (iblk m c 4 t) (accAt m c t.val) := by
  show accNext (iblk m c 0 (tt t.val)) (iblk m c 1 (tt t.val)) (iblk m c 2 (tt t.val)) (iblk m c 4 (tt t.val)) (accAt m c t.val) = _
  rw [tt_val t]

/-- At the first point the packed counts are made from the windows' blocks. -/
theorem pE_at (c : Dev nD) (t : Fin cfg0.N) (hz : t.val = 0) : packE (iblk m c 3 t) (iblk m c 5 t) = pE m c := by
  have h : t = tt 0 := Fin.ext hz
  rw [h]; rfl

/-- At the first point the packed counts are made from the windows' blocks. -/
theorem pD_at (c : Dev nD) (t : Fin cfg0.N) (hz : t.val = 0) : packD (iblk m c 3 t) (iblk m c 5 t) = pD m c := by
  have h : t = tt 0 := Fin.ext hz
  rw [h]; rfl

/-- The invariant before position `n`: before the first point every scratch buffer at anything; afterwards the tables at their
    closed forms and the sums at what the points so far added. -/
def PhiS (c : Dev nD) : (n : ℕ) → n ≤ cfg0.N → sProp 𝕄
  | 0, _ => Pipeline.ΦA spec0 c
  | n + 1, hn => iprop(iprop(owns (c : Thread nD τ) scM0_0 fullShare (coefV (pE m c) (pD m c)) ∗ owns (c : Thread nD τ) scM0_1 fullShare (fV (pE m c) (pD m c)) ∗ owns (c : Thread nD τ) scM0_2 fullShare (fdevV (pE m c) (pD m c)) ∗ owns (c : Thread nD τ) scM0_3 fullShare (fcommV (pE m c) (pD m c)) ∗ owns (c : Thread nD τ) scM0_4 fullShare (tV (pE m c) (pD m c)) ∗ owns (c : Thread nD τ) scM0_5 fullShare (accAt m c (n + 1))) ∗ (∃ r, prngReg c r))

/-- Before the first point the invariant is the pipeline's own. -/
theorem PhiS_zero (c : Dev nD) (n : ℕ) (h : n ≤ cfg0.N) (hz : n = 0) : PhiS m c n h = Pipeline.ΦA spec0 c := by
  subst hz; rfl

/-- After a point the invariant names what every buffer of the kernel's own holds. -/
theorem PhiS_succ (c : Dev nD) (n : ℕ) (hn : n < cfg0.N) :
    PhiS m c (n + 1) hn = iprop(iprop(owns (c : Thread nD τ) scM0_0 fullShare (coefV (pE m c) (pD m c)) ∗ owns (c : Thread nD τ) scM0_1 fullShare (fV (pE m c) (pD m c)) ∗ owns (c : Thread nD τ) scM0_2 fullShare (fdevV (pE m c) (pD m c)) ∗ owns (c : Thread nD τ) scM0_3 fullShare (fcommV (pE m c) (pD m c)) ∗ owns (c : Thread nD τ) scM0_4 fullShare (tV (pE m c) (pD m c)) ∗ owns (c : Thread nD τ) scM0_5 fullShare (accAt m c (n + 1))) ∗ (∃ r, prngReg c r)) := rfl

/-- The same, at a position that is not the first. -/
theorem PhiS_pos (c : Dev nD) (n : ℕ) (h : n ≤ cfg0.N) (hz : n ≠ 0) :
    PhiS m c n h = iprop(iprop(owns (c : Thread nD τ) scM0_0 fullShare (coefV (pE m c) (pD m c)) ∗ owns (c : Thread nD τ) scM0_1 fullShare (fV (pE m c) (pD m c)) ∗ owns (c : Thread nD τ) scM0_2 fullShare (fdevV (pE m c) (pD m c)) ∗ owns (c : Thread nD τ) scM0_3 fullShare (fcommV (pE m c) (pD m c)) ∗ owns (c : Thread nD τ) scM0_4 fullShare (tV (pE m c) (pD m c)) ∗ owns (c : Thread nD τ) scM0_5 fullShare (accAt m c (n))) ∗ (∃ r, prngReg c r)) := by
  cases n with
  | zero => exact absurd rfl hz
  | succ n => rfl

/-- The pipeline's data on core `c`: the arrays as the region finds them, and what the body leaves at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dzV (iblk m c 0 t) (iblk m c 1 t) (iblk m c 2 t) (iblk m c 4 t) (coefV (pE m c) (pD m c))
    | ⟨7, _⟩ => leV (accAt m c (t.val + 1)) (tV (pE m c) (pD m c)) (fV (pE m c) (pD m c))
    | ⟨8, _⟩ => ldV (accAt m c (t.val + 1)) (tV (pE m c) (pD m c)) (fdevV (pE m c) (pD m c))
    | ⟨9, _⟩ => lcV (accAt m c (t.val + 1)) (tV (pE m c) (pD m c)) (fcommV (pE m c) (pD m c))
    | ⟨10, _⟩ => pV (accAt m c (t.val + 1)) (tV (pE m c) (pD m c))
    | ⟨11, _⟩ => cntV (pE m c)
    | ⟨12, _⟩ => devV (pD m c)
  Φ t := PhiS m c t.val (Nat.le_of_lt_succ t.isLt)
  q _ := fullShare
  owed _ := 0

/-- What the pipeline takes each window's array to hold is what it holds before the call. -/
theorem A_eq (c : Dev nD) (w : Fin cfg0.W) : (dats m 0 c).A w = V m c (Pipeline.arrRef spec0 w) := by
  dsimp only [dats]

/-- The invariant before a point, by the point's number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What window 0's staging buffer holds after a point. -/
theorem after0_0 (c : Dev nD) (t : Fin cfg0.N) : (dats m 0 c).after 0 t = iblk m c 0 t := by dsimp only [dats]
/-- What window 1's staging buffer holds after a point. -/
theorem after0_1 (c : Dev nD) (t : Fin cfg0.N) : (dats m 0 c).after 1 t = iblk m c 1 t := by dsimp only [dats]
/-- What window 2's staging buffer holds after a point. -/
theorem after0_2 (c : Dev nD) (t : Fin cfg0.N) : (dats m 0 c).after 2 t = iblk m c 2 t := by dsimp only [dats]
/-- What window 3's staging buffer holds after a point. -/
theorem after0_3 (c : Dev nD) (t : Fin cfg0.N) : (dats m 0 c).after 3 t = iblk m c 3 t := by dsimp only [dats]
/-- What window 4's staging buffer holds after a point. -/
theorem after0_4 (c : Dev nD) (t : Fin cfg0.N) : (dats m 0 c).after 4 t = iblk m c 4 t := by dsimp only [dats]
/-- What window 5's staging buffer holds after a point. -/
theorem after0_5 (c : Dev nD) (t : Fin cfg0.N) : (dats m 0 c).after 5 t = iblk m c 5 t := by dsimp only [dats]
/-- What window 6's staging buffer holds after a point. -/
theorem after0_6 (c : Dev nD) (t : Fin cfg0.N) : (dats m 0 c).after 6 t = dzV (iblk m c 0 t) (iblk m c 1 t) (iblk m c 2 t) (iblk m c 4 t) (coefV (pE m c) (pD m c)) := by dsimp only [dats]
/-- What window 7's staging buffer holds after a point. -/
theorem after0_7 (c : Dev nD) (t : Fin cfg0.N) : (dats m 0 c).after 7 t = leV (accAt m c (t.val + 1)) (tV (pE m c) (pD m c)) (fV (pE m c) (pD m c)) := by dsimp only [dats]
/-- What window 8's staging buffer holds after a point. -/
theorem after0_8 (c : Dev nD) (t : Fin cfg0.N) : (dats m 0 c).after 8 t = ldV (accAt m c (t.val + 1)) (tV (pE m c) (pD m c)) (fdevV (pE m c) (pD m c)) := by dsimp only [dats]
/-- What window 9's staging buffer holds after a point. -/
theorem after0_9 (c : Dev nD) (t : Fin cfg0.N) : (dats m 0 c).after 9 t = lcV (accAt m c (t.val + 1)) (tV (pE m c) (pD m c)) (fcommV (pE m c) (pD m c)) := by dsimp only [dats]
/-- What window 10's staging buffer holds after a point. -/
theorem after0_10 (c : Dev nD) (t : Fin cfg0.N) : (dats m 0 c).after 10 t = pV (accAt m c (t.val + 1)) (tV (pE m c) (pD m c)) := by dsimp only [dats]
/-- What window 11's staging buffer holds after a point. -/
theorem after0_11 (c : Dev nD) (t : Fin cfg0.N) : (dats m 0 c).after 11 t = cntV (pE m c) := by dsimp only [dats]
/-- What window 12's staging buffer holds after a point. -/
theorem after0_12 (c : Dev nD) (t : Fin cfg0.N) : (dats m 0 c).after 12 t = devV (pD m c) := by dsimp only [dats]

/-- What input window 0's staging buffer holds before a point: its block of the array. -/
theorem before0_0 (c : Dev nD) (t : Fin cfg0.N) (d) : (dats m 0 c).before 0 t d = iblk m c 0 t :=
  before0_0_of m (dats m 0 c) (A_eq m c 0) (after0_0 m c) t d
/-- What input window 1's staging buffer holds before a point: its block of the array. -/
theorem before0_1 (c : Dev nD) (t : Fin cfg0.N) (d) : (dats m 0 c).before 1 t d = iblk m c 1 t :=
  before0_1_of m (dats m 0 c) (A_eq m c 1) (after0_1 m c) t d
/-- What input window 2's staging buffer holds before a point: its block of the array. -/
theorem before0_2 (c : Dev nD) (t : Fin cfg0.N) (d) : (dats m 0 c).before 2 t d = iblk m c 2 t :=
  before0_2_of m (dats m 0 c) (A_eq m c 2) (after0_2 m c) t d
/-- What input window 3's staging buffer holds before a point: its block of the array. -/
theorem before0_3 (c : Dev nD) (t : Fin cfg0.N) (d) : (dats m 0 c).before 3 t d = iblk m c 3 t :=
  before0_3_of m (dats m 0 c) (A_eq m c 3) (after0_3 m c) t d
/-- What input window 4's staging buffer holds before a point: its block of the array. -/
theorem before0_4 (c : Dev nD) (t : Fin cfg0.N) (d) : (dats m 0 c).before 4 t d = iblk m c 4 t :=
  before0_4_of m (dats m 0 c) (A_eq m c 4) (after0_4 m c) t d
/-- What input window 5's staging buffer holds before a point: its block of the array. -/
theorem before0_5 (c : Dev nD) (t : Fin cfg0.N) (d) : (dats m 0 c).before 5 t d = iblk m c 5 t :=
  before0_5_of m (dats m 0 c) (A_eq m c 5) (after0_5 m c) t d

/-- The table of window 11 stays in its buffer from the first point on. -/
theorem before0_11_C (c : Dev nD) (t : Fin cfg0.N) (h0 : ¬t.val % 8 = 0) (d) : (dats m 0 c).before 11 t d = cntV (pE m c) := by
  rw [Dat.before_out_traj _ 11 rfl (fun _ _ => rfl) (fun t _ _ _ => by rw [after0_11, after0_11]) t.val t rfl d,
    if_neg (by rw [notFresh0_11 t (fun h => h0 (by rw [h]))]; exact Bool.false_ne_true)]
  dsimp only [dats]

/-- The table of window 12 stays in its buffer from the first point on. -/
theorem before0_12_C (c : Dev nD) (t : Fin cfg0.N) (h0 : ¬t.val % 8 = 0) (d) : (dats m 0 c).before 12 t d = devV (pD m c) := by
  rw [Dat.before_out_traj _ 12 rfl (fun _ _ => rfl) (fun t _ _ _ => by rw [after0_12, after0_12]) t.val t rfl d,
    if_neg (by rw [notFresh0_12 t (fun h => h0 (by rw [h]))]; exact Bool.false_ne_true)]
  dsimp only [dats]

/-- What the body is called with at point `t` , -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 19200000 in
/-- The body at any point: from its blocks and what the points before left, to what the pipeline's data says of it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
      rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
      rw [Dat.leavesExact_idle (dats m 0 c) 10 t (idleAt0_10_A t ((hcond0_0 t).mpr h0) (fun h => h1 ((hcond0_1 t).mp h))) (noFlush0_10_A t ((hcond0_0 t).mpr h0) (fun h => h1 ((hcond0_1 t).mp h)))]
      rw [show (dats m 0 c).leavesExact 11 t = owns (c : Thread nD τ) (ms0_11 t) fullShare ((dats m 0 c).after 11 t) from by
      unfold Dat.leavesExact; rw [liveAt0_11_A t ((hcond0_0 t).mpr h0) (fun h => h1 ((hcond0_1 t).mp h))], after0_11]
      rw [show (dats m 0 c).leavesExact 12 t = owns (c : Thread nD τ) (ms0_12 t) fullShare ((dats m 0 c).after 12 t) from by
      unfold Dat.leavesExact; rw [liveAt0_12_A t ((hcond0_0 t).mpr h0) (fun h => h1 ((hcond0_1 t).mp h))], after0_12]
      by_cases hz : t.val = 0
      · rw [PhiS_castSucc m c t, PhiS_zero m c _ _ hz, PhiA0_eq]
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((runA c (grid0.coords t) _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2.2.2.2.2.2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [H9]; · iexact H9
        isplitl [H10]; · iexact H10
        isplitl [H11]; · iexists _; iexact H11
        isplitl [H12]; · iexists _; iexact H12
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, ⟨%e6, H6⟩, H7, H8, H9, H10, ⟨%e11, H11⟩, ⟨%e12, H12⟩, ⟨%es0, HS0⟩, ⟨%es1, HS1⟩, ⟨%es2, HS2⟩, ⟨%es3, HS3⟩, ⟨%es4, HS4⟩, ⟨%es5, HS5⟩⟩
        isplitl [HS0 HS1 HS2 HS3 HS4 HS5 Hg]
        · isplitl [HS0 HS1 HS2 HS3 HS4 HS5]
          · isplitl [HS0]
            · unfold owns; iexists _; isplitr
              swap; · iexact HS0
              ipureintro; refine (A_outs0 ..).trans ?_; rw [pE_at m c t hz, pD_at m c t hz]
            isplitl [HS1]
            · unfold owns; iexists _; isplitr
              swap; · iexact HS1
              ipureintro; refine (A_outs1 ..).trans ?_; rw [pE_at m c t hz, pD_at m c t hz]
            isplitl [HS2]
            · unfold owns; iexists _; isplitr
              swap; · iexact HS2
              ipureintro; refine (A_outs2 ..).trans ?_; rw [pE_at m c t hz, pD_at m c t hz]
            isplitl [HS3]
            · unfold owns; iexists _; isplitr
              swap; · iexact HS3
              ipureintro; refine (A_outs3 ..).trans ?_; rw [pE_at m c t hz, pD_at m c t hz]
            isplitl [HS4]
            · unfold owns; iexists _; isplitr
              swap; · iexact HS4
              ipureintro; refine (A_outs4 ..).trans ?_; rw [pE_at m c t hz, pD_at m c t hz]
            unfold owns; iexists _; isplitr
            swap; · iexact HS5
            ipureintro; refine (A_outs5 ..).trans ?_; rw [accAt_succ, hz]; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; refine (A_out6 ..).trans ?_; rw [pE_at m c t hz, pD_at m c t hz]
        isplitl [H7]; · iexists _; iexact H7
        isplitl [H8]; · iexists _; iexact H8
        isplitl [H9]; · iexists _; iexact H9
        isplitl [H10]; · iexists _; iexact H10
        isplitl [H11]
        · unfold owns; iexists _; isplitr
          swap; · iexact H11
          ipureintro; refine (A_out11 ..).trans ?_; rw [pE_at m c t hz]
        unfold owns; iexists _; isplitr
        swap; · iexact H12
        ipureintro; refine (A_out12 ..).trans ?_; rw [pD_at m c t hz]
      · exfalso; have hN : t.val < 8 := lt_of_lt_of_eq t.isLt (show cfg0.N = 8 from N_0); omega
  · by_cases h1 : t.val % 8 = 7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1)], after0_7]
      rw [show (dats m 0 c).leavesExact 8 t = owns (c : Thread nD τ) (ms0_8 t) fullShare ((dats m 0 c).after 8 t) from by
      unfold Dat.leavesExact; rw [liveAt0_8_C t (fun h => h0 ((hcond0_0 t).mp h)) ((hcond0_1 t).mpr h1)], after0_8]
      rw [show (dats m 0 c).leavesExact 9 t = owns (c : Thread nD τ) (ms0_9 t) fullShare ((dats m 0 c).after 9 t) from by
      unfold Dat.leavesExact; rw [liveAt0_9_C t (fun h => h0 ((hcond0_0 t).mp h)) ((hcond0_1 t).mpr h1)], after0_9]
      rw [show (dats m 0 c).leavesExact 10 t = owns (c : Thread nD τ) (ms0_10 t) fullShare ((dats m 0 c).after 10 t) from by
      unfold Dat.leavesExact; rw [liveAt0_10_C t (fun h => h0 ((hcond0_0 t).mp h)) ((hcond0_1 t).mpr h1)], after0_10]
      rw [show (dats m 0 c).leavesExact 11 t = owns (c : Thread nD τ) (ms0_11 t) fullShare ((dats m 0 c).after 11 t) from by
      unfold Dat.leavesExact; rw [idleAt0_11_C t (fun h => h0 ((hcond0_0 t).mp h)) ((hcond0_1 t).mpr h1), flush0_11_C t (fun h => h0 ((hcond0_0 t).mp h)) ((hcond0_1 t).mpr h1)], after0_11]
      rw [show (dats m 0 c).leavesExact 12 t = owns (c : Thread nD τ) (ms0_12 t) fullShare ((dats m 0 c).after 12 t) from by
      unfold Dat.leavesExact; rw [idleAt0_12_C t (fun h => h0 ((hcond0_0 t).mp h)) ((hcond0_1 t).mpr h1), flush0_12_C t (fun h => h0 ((hcond0_0 t).mp h)) ((hcond0_1 t).mpr h1)], after0_12]
      by_cases hz : t.val = 0
      · exfalso; have hN : t.val < 8 := lt_of_lt_of_eq t.isLt (show cfg0.N = 8 from N_0); omega
      · rw [PhiS_castSucc m c t, PhiS_pos m c _ _ hz]
        simp only [before0_11_C m c t h0, before0_12_C m c t h0]
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((runC c (grid0.coords t) _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _ _ _ _ _).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [H10]; · iexists _; iexact H10
        isplitl [H11]; · iexact H11
        isplitl [H12]; · iexact H12
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, ⟨%e6, H6⟩, ⟨%e7, H7⟩, ⟨%e8, H8⟩, ⟨%e9, H9⟩, ⟨%e10, H10⟩, H11, H12, HS0, HS1, HS2, HS3, HS4, ⟨%es5, HS5⟩⟩
        isplitl [HS0 HS1 HS2 HS3 HS4 HS5 Hg]
        · isplitl [HS0 HS1 HS2 HS3 HS4 HS5]
          · isplitl [HS0]
            · iexact HS0
            isplitl [HS1]
            · iexact HS1
            isplitl [HS2]
            · iexact HS2
            isplitl [HS3]
            · iexact HS3
            isplitl [HS4]
            · iexact HS4
            unfold owns; iexists _; isplitr
            swap; · iexact HS5
            ipureintro; refine (C_outs5 ..).trans ?_; rw [accAt_succ]
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; refine (C_out6 ..).trans ?_; rfl
        isplitl [H7]
        · unfold owns; iexists _; isplitr
          swap; · iexact H7
          ipureintro; refine (C_out7 ..).trans ?_; rw [accAt_succ]
        isplitl [H8]
        · unfold owns; iexists _; isplitr
          swap; · iexact H8
          ipureintro; refine (C_out8 ..).trans ?_; rw [accAt_succ]
        isplitl [H9]
        · unfold owns; iexists _; isplitr
          swap; · iexact H9
          ipureintro; refine (C_out9 ..).trans ?_; rw [accAt_succ]
        isplitl [H10]
        · unfold owns; iexists _; isplitr
          swap; · iexact H10
          ipureintro; refine (C_out10 ..).trans ?_; rw [accAt_succ]
        isplitl [H11]; · iexact H11
        iexact H12
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      rw [Dat.leavesExact_idle (dats m 0 c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
      rw [Dat.leavesExact_idle (dats m 0 c) 11 t (idleAt0_11_B t (fun h => h0 ((hcond0_0 t).mp h)) (fun h => h1 ((hcond0_1 t).mp h))) (noFlush0_11_B t (fun h => h0 ((hcond0_0 t).mp h)) (fun h => h1 ((hcond0_1 t).mp h)))]
      rw [Dat.leavesExact_idle (dats m 0 c) 12 t (idleAt0_12_B t (fun h => h0 ((hcond0_0 t).mp h)) (fun h => h1 ((hcond0_1 t).mp h))) (noFlush0_12_B t (fun h => h0 ((hcond0_0 t).mp h)) (fun h => h1 ((hcond0_1 t).mp h)))]
      by_cases hz : t.val = 0
      · exfalso; have hN : t.val < 8 := lt_of_lt_of_eq t.isLt (show cfg0.N = 8 from N_0); omega
      · rw [PhiS_castSucc m c t, PhiS_pos m c _ _ hz]
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((runB c (grid0.coords t) _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _ _ _ _ _).2.2 _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [H9]; · iexact H9
        isplitl [H10]; · iexact H10
        isplitl [H11]; · iexact H11
        isplitl [H12]; · iexact H12
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, ⟨%e6, H6⟩, H7, H8, H9, H10, H11, H12, HS0, HS1, HS2, HS3, HS4, ⟨%es5, HS5⟩⟩
        isplitl [HS0 HS1 HS2 HS3 HS4 HS5 Hg]
        · isplitl [HS0 HS1 HS2 HS3 HS4 HS5]
          · isplitl [HS0]
            · iexact HS0
            isplitl [HS1]
            · iexact HS1
            isplitl [HS2]
            · iexact HS2
            isplitl [HS3]
            · iexact HS3
            isplitl [HS4]
            · iexact HS4
            unfold owns; iexists _; isplitr
            swap; · iexact HS5
            ipureintro; refine (B_outs5 ..).trans ?_; rw [accAt_succ]
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; refine (B_out6 ..).trans ?_; rfl
        isplitl [H7]; · iexists _; iexact H7
        isplitl [H8]; · iexists _; iexact H8
        isplitl [H9]; · iexists _; iexact H9
        isplitl [H10]; · iexists _; iexact H10
        isplitl [H11]; · iexists _; iexact H11
        iexists _; iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    iexists _; iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- For any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every execution terminates with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Run
-- ==== Proof.Sum.Spec.lean ====
/- The mathematics of the load-balancing losses, on plain functions: the counts of tokens per sequence, expert and
   device group, the softmax probabilities, the three losses and the gradient of the logits. -/
module

public import Idealize.ShloMosaic.Lib.Pointwise

@[expose] public section

noncomputable section

namespace Cert.Spec

open Idealize.ShloMosaic

variable (X : Fin 2048 → Fin 12288 → EReal) (sc : Fin 2048 → EReal) (W : Fin 160 → Fin 12288 → EReal)
variable (ids : Fin 2048 → Fin 6 → BitVec 32) (sg : Fin 2048 → BitVec 32)

/-- Token `t` belongs to sequence `q`. -/
abbrev inSeq (q : Fin 5) (t : Fin 2048) : Prop := sg t = BitVec.ofNat 32 q.val

/-- Token `t` picked expert `e`. -/
abbrev hitE (e : Fin 160) (t : Fin 2048) : Prop := ∃ k : Fin 6, ids t k = BitVec.ofNat 32 e.val

/-- Token `t` picked an expert of device group `d`. -/
abbrev hitD (d : Fin 8) (t : Fin 2048) : Prop := ∃ k : Fin 6, ∃ r : Fin 20, ids t k = BitVec.ofNat 32 (20 * d.val + r.val)

/-- How many tokens of sequence `q` there are, how many of them picked expert `e`, and how many of them picked an
    expert of group `d`. -/
def nT (q : Fin 5) : ℕ := ∑ t : Fin 2048, if inSeq sg q t then 1 else 0
/-- The number of tokens of sequence `q` that picked expert `e`. -/
def nE (q : Fin 5) (e : Fin 160) : ℕ := ∑ t : Fin 2048, if inSeq sg q t ∧ hitE ids e t then 1 else 0
/-- The number of tokens of sequence `q` that picked an expert of device `d`. -/
def nD (q : Fin 5) (d : Fin 8) : ℕ := ∑ t : Fin 2048, if inSeq sg q t ∧ hitD ids d t then 1 else 0

/-- A count as a real number. -/
def cast (n : ℕ) : EReal := ((n : ℝ) : EReal)

/-- The number of tokens of sequence `q`, and `1` for an empty sequence. -/
def T (q : Fin 5) : EReal := if 0 < cast (nT sg q) then cast (nT sg q) else 1

/-- The expert load of sequence `q`. -/
def f (q : Fin 5) (e : Fin 160) : EReal :=
  Ideal.div (Ideal.ofBits .f32 1126170624#32) (Ideal.ofBits .f32 1086324736#32 * T sg q) * cast (nE ids sg q e)

/-- The load of device group `d`: the mean of its experts' loads. -/
def fdev (q : Fin 5) (d : Fin 8) : EReal :=
  (∑ r : Fin 20, f ids sg q ⟨20 * d.val + r.val, by omega⟩) * Ideal.ofBits .f32 1028443341#32

/-- The communication load of device group `d`. -/
def fcomm (q : Fin 5) (d : Fin 8) : EReal :=
  Ideal.div (Ideal.ofBits .f32 1090519040#32) (Ideal.ofBits .f32 1077936128#32 * T sg q) * cast (nD ids sg q d)

/-- The group of an expert. -/
def grp (e : Fin 160) : Fin 8 := ⟨e.val / 20, by omega⟩

/-- The weight of expert `e`'s probability in the sum of the losses. -/
def coef (q : Fin 5) (e : Fin 160) : EReal :=
  Ideal.div (Ideal.ofBits .f32 994352038#32 * f ids sg q e
      + (Ideal.ofBits .f32 1028443341#32 * fdev ids sg q (grp e) + Ideal.ofBits .f32 1017370378#32 * fcomm ids sg q (grp e)))
    (Ideal.ofBits .f32 1084227584#32 * T sg q)

/-- The logit of expert `e` at token `t`. -/
def z (t : Fin 2048) (e : Fin 160) : EReal := (∑ k : Fin 12288, W e k * X t k) * sc t

/-- The largest logit of token `t`. -/
def zmax (t : Fin 2048) : EReal := Finset.fold max (Ideal.ofBits .f32 4286578688#32) (fun e : Fin 160 => z X sc W t e) Finset.univ

/-- The softmax probability of expert `e` at token `t`. -/
def s (t : Fin 2048) (e : Fin 160) : EReal :=
  Ideal.div (Ideal.exp (z X sc W t e - zmax X sc W t)) (∑ e' : Fin 160, Ideal.exp (z X sc W t e' - zmax X sc W t))

/-- The mean probability of expert `e` over sequence `q`. -/
def P (q : Fin 5) (e : Fin 160) : EReal :=
  Ideal.div (∑ t : Fin 2048, if inSeq sg q t then s X sc W t e else 0) (T sg q)

/-- The expert loss, the device loss and the communication loss of sequence `q`. -/
def le (q : Fin 5) : EReal := Ideal.ofBits .f32 994352038#32 * ∑ e : Fin 160, f ids sg q e * P X sc W sg q e
/-- The device loss of sequence `q`. -/
def ld (q : Fin 5) : EReal := Ideal.ofBits .f32 1028443341#32 * ∑ e : Fin 160, fdev ids sg q (grp e) * P X sc W sg q e
/-- The communication loss of sequence `q`. -/
def lc (q : Fin 5) : EReal := Ideal.ofBits .f32 1017370378#32 * ∑ e : Fin 160, fcomm ids sg q (grp e) * P X sc W sg q e

/-- The gradient of the logits of token `t`, given the weights `c` of its sequence. -/
def grad (t : Fin 2048) (c : Fin 160 → EReal) (e : Fin 160) : EReal :=
  s X sc W t e * (c e - ∑ e' : Fin 160, s X sc W t e' * c e')

end Cert.Spec
-- ==== Proof.Sum.Count.lean ====
/- Five small counters packed in one 32-bit word, five bits each: what adding `32 ^ q` for a hit of sequence `q` does. -/
module

public import Idealize.ShloMosaic.Lib.Pointwise

@[expose] public section

namespace Cert.Count

open Idealize.ShloMosaic

/-- The word that adds one to counter `s`; zero for a word that is no sequence. -/
def one (s : BitVec 32) : BitVec 32 :=
  if s = 4#32 then 1048576#32 else if s = 3#32 then 32768#32 else if s = 2#32 then 1024#32 else if s = 1#32 then 32#32 else if s = 0#32 then 1#32 else 0#32

/-- The packed word after the first `n` steps, where step `i` hits if `h i` and is of sequence `s i`. -/
def pk (h : ℕ → BitVec 1) (s : ℕ → BitVec 32) : ℕ → BitVec 32
  | 0 => 0#32
  | n + 1 => pk h s n + (if h n = 1#1 then one (s n) else 0#32)

/-- How many of the first `n` steps hit sequence `q`. -/
def cn (h : ℕ → BitVec 1) (s : ℕ → BitVec 32) (q n : ℕ) : ℕ :=
  ∑ i ∈ Finset.range n, if s i = BitVec.ofNat 32 q ∧ h i = 1#1 then 1 else 0

/-- One more word adds one if it is of the sequence and hit. -/
theorem cn_succ (h : ℕ → BitVec 1) (s : ℕ → BitVec 32) (q n : ℕ) :
    cn h s q (n + 1) = cn h s q n + if s n = BitVec.ofNat 32 q ∧ h n = 1#1 then 1 else 0 := Finset.sum_range_succ _ _

/-- A count of `n` words is at most `n`. -/
theorem cn_le (h : ℕ → BitVec 1) (s : ℕ → BitVec 32) (q n : ℕ) : cn h s q n ≤ n := by
  induction n with
  | zero => simp [cn]
  | succ n ih => rw [cn_succ]; split <;> omega

/-- The packed word is its five counters in base 32. -/
theorem pk_toNat (h : ℕ → BitVec 1) (s : ℕ → BitVec 32) (n : ℕ) (hn : n ≤ 16) :
    (pk h s n).toNat = cn h s 0 n + 32 * cn h s 1 n + 1024 * cn h s 2 n + 32768 * cn h s 3 n + 1048576 * cn h s 4 n := by
  induction n with
  | zero => simp [cn, pk]
  | succ n ih =>
    have ih := ih (by omega)
    have h0 := cn_le h s 0 n; have h1 := cn_le h s 1 n; have h2 := cn_le h s 2 n
    have h3 := cn_le h s 3 n; have h4 := cn_le h s 4 n
    simp only [cn_succ, pk, BitVec.toNat_add, ih]
    by_cases hh : h n = 1#1
    · simp only [hh, and_true, if_true, one]
      by_cases e4 : s n = 4#32
      · simp [e4]; omega
      by_cases e3 : s n = 3#32
      · simp [e3]; omega
      by_cases e2 : s n = 2#32
      · simp [e2]; omega
      by_cases e1 : s n = 1#32
      · simp [e1]; omega
      by_cases e0 : s n = 0#32
      · simp [e0]; omega
      · simp [e0, e1, e2, e3, e4]; omega
    · simp [hh]; omega

/-- A five-bit field of a word below `2 ^ 31`, read as the program reads it. -/
theorem field_toInt (x : BitVec 32) (hx : x.toNat < 2 ^ 31) (k : ℕ) :
    ((x.sshiftRight k) &&& 31#32).toInt = ((x.toNat / 2 ^ k % 32 : ℕ) : ℤ) := by
  have hm : x.msb = false := by rw [BitVec.msb_eq_false_iff_two_mul_lt]; omega
  rw [BitVec.sshiftRight_eq_of_msb_false hm]
  have hn : ((x >>> k) &&& 31#32).toNat = x.toNat / 2 ^ k % 32 := by
    rw [BitVec.toNat_and, BitVec.toNat_ushiftRight, Nat.shiftRight_eq_div_pow]
    exact Nat.and_two_pow_sub_one_eq_mod _ 5
  rw [BitVec.toInt_eq_toNat_of_lt (by rw [hn]; have := Nat.mod_lt (x.toNat / 2 ^ k) (show 32 > 0 by decide); omega), hn]

/-- Field `q` of the packed word is counter `q`. -/
theorem field_pk (h : ℕ → BitVec 1) (s : ℕ → BitVec 32) (n : ℕ) (hn : n ≤ 16) (q : Fin 5) :
    (((pk h s n).sshiftRight (5 * q.val)) &&& 31#32).toInt = (cn h s q.val n : ℤ) := by
  have hp := pk_toNat h s n hn
  have h0 := cn_le h s 0 n; have h1 := cn_le h s 1 n; have h2 := cn_le h s 2 n
  have h3 := cn_le h s 3 n; have h4 := cn_le h s 4 n
  rw [field_toInt _ (by omega), hp]
  fin_cases q <;> simp <;> omega

end Cert.Count
-- ==== Proof.Sum.KerA.lean ====
/- The packed counts of the first grid point, read at an index: each field is the count of its sequence. -/
module

public import proofs.«01_k».proof.Proof.KVal.Tile
public import proofs.«01_k».proof.Proof.Sum.Spec
public import proofs.«01_k».proof.Proof.Sum.Count

@[expose] public section

set_option maxRecDepth 16384

noncomputable section

namespace Cert.KernelIdeal.Sum

open Idealize.ShloMosaic
open Cert.KernelIdeal Cert.KernelIdeal.Gen Cert.KernelIdeal.Val Cert.Count Cert.Spec

/-- Token `128 n + l`. -/
def tok (n : Fin 16) (l : Fin 128) : Fin 2048 := ⟨128 * n.val + l.val, by omega⟩

/-- A sum over the tokens is the sum over the 128 lanes of the sums over the 16 groups. -/
theorem sum_tok {M : Type*} [AddCommMonoid M] (g : Fin 2048 → M) : ∑ t, g t = ∑ l : Fin 128, ∑ n : Fin 16, g (tok n l) := by
  rw [Finset.sum_comm]
  rw [Fin.sum_univ_tiles 16 128 rfl g]
  rfl

/-- The or of two bits. -/
theorem ori_iff (a b : BitVec 1) : IntOp.ori a b = 1#1 ↔ a = 1#1 ∨ b = 1#1 := by revert a b; decide
/-- The and of two bits. -/
theorem andi_iff (a b : BitVec 1) : IntOp.andi a b = 1#1 ↔ a = 1#1 ∧ b = 1#1 := by revert a b; decide
/-- The bit of a truth value. -/
theorem ofBool_iff (b : Bool) : BitVec.ofBool b = 1#1 ↔ b = true := by cases b <;> decide
/-- The comparison of two words for equality. -/
theorem eq_iff {w : ℕ} (a b : BitVec w) : IntOp.cmpi .eq a b = 1#1 ↔ a = b := by simp [IntOp.cmpi, ofBool_iff]
/-- The signed comparison at least. -/
theorem sge_iff {w : ℕ} (a b : BitVec w) : IntOp.cmpi .sge a b = 1#1 ↔ b.toInt ≤ a.toInt := by
  simp [IntOp.cmpi, ofBool_iff, BitVec.sle_iff_toInt_le]
/-- The signed comparison less than. -/
theorem slt_iff {w : ℕ} (a b : BitVec w) : IntOp.cmpi .slt a b = 1#1 ↔ a.toInt < b.toInt := by
  simp [IntOp.cmpi, ofBool_iff, BitVec.slt_iff_toInt_lt]
/-- A select is an if. -/
theorem select_if {α : Type} (c : BitVec 1) (a b : α) : Scalar.select c a b = if c = 1#1 then a else b := rfl

/-- The unit of a lane's sequence, read at the lane. -/
theorem oneOf_at (sg : IVec S1x128 32) (l : Fin 128) : oneOf sg (ix2 0 l) = one (sg (ix2 0 l)) := by
  pointwise [oneOf]
  simp only [select_if, eq_iff, one]

/-- One group of tokens adds to an expert's packed count the unit of the token's sequence, if the token picked the expert. -/
theorem stepE_at (I : Fin 6 → Vec Ideal S1x128 .i32) (sg : Vec Ideal S1x128 .i32) (acc : IVec S160x128 32) (e : Fin 160) (l : Fin 128) :
    stepE (F := Ideal) I sg acc (ix2 e l) = acc (ix2 e l) + if Val.hitE (F := Ideal) I (ix2 e l) = 1#1 then one (sg (ix2 0 l)) else 0#32 := by
  rw [show one (sg (ix2 0 l)) = oneOf (shapeCast S1x128 sg shapeCasts_S1x128_S1x128) (ix2 0 l) by rw [oneOf_at]; pointwise]
  pointwise [stepE]
  rfl

/-- One group of tokens adds to a device's packed count the unit of the token's sequence, if the token hit the device. -/
theorem stepD_at (I : Fin 6 → Vec Ideal S1x128 .i32) (sg : Vec Ideal S1x128 .i32) (acc : IVec S16x128 32) (e : Fin 16) (l : Fin 128) :
    stepD (F := Ideal) I sg acc (ix2 e l) = acc (ix2 e l) + if Val.hitD (F := Ideal) I (ix2 e l) = 1#1 then one (sg (ix2 0 l)) else 0#32 := by
  rw [show one (sg (ix2 0 l)) = oneOf (shapeCast S1x128 sg shapeCasts_S1x128_S1x128) (ix2 0 l) by rw [oneOf_at]; pointwise]
  pointwise [stepD]
  rfl

/-- Six alternatives are one of six. -/
theorem ex6 (p : Fin 6 → Prop) (a b c d e f : Prop) (ha : a ↔ p 0) (hb : b ↔ p 1) (hc : c ↔ p 2) (hd : d ↔ p 3) (he : e ↔ p 4) (hf : f ↔ p 5) :
    (((((a ∨ b) ∨ c) ∨ d) ∨ e) ∨ f) ↔ ∃ k, p k := by
  rw [ha, hb, hc, hd, he, hf]
  constructor
  · rintro (((((h | h) | h) | h) | h) | h)
    exacts [⟨0, h⟩, ⟨1, h⟩, ⟨2, h⟩, ⟨3, h⟩, ⟨4, h⟩, ⟨5, h⟩]
  · rintro ⟨k, h⟩
    fin_cases k <;> simp_all

/-- The hit bit of an expert and a lane: the lane's token picked the expert. -/
theorem hitE_at (I : Fin 6 → Vec Ideal S1x128 .i32) (e : Fin 160) (l : Fin 128) :
    Val.hitE (F := Ideal) I (ix2 e l) = 1#1 ↔ ∃ k : Fin 6, I k (ix2 0 l) = BitVec.ofNat 32 e.val := by
  pointwise [Val.hitE, eqE, rows160]
  simp only [ori_iff, eq_iff]
  exact ex6 (fun k => I k (ix2 0 l) = BitVec.ofNat 32 e.val) _ _ _ _ _ _ eq_comm eq_comm eq_comm eq_comm eq_comm eq_comm

/-- A word lies within a device's twenty experts exactly if it is one of them. -/
theorem inD (d : ℕ) (hd : d < 16) (x : BitVec 32) :
    (0#32).toInt ≤ (x - BitVec.ofNat 32 d * 20#32).toInt ∧ (x - BitVec.ofNat 32 d * 20#32).toInt < (20#32).toInt ↔ ∃ r : Fin 20, x = BitVec.ofNat 32 (20 * d + r.val) := by
  have hm : BitVec.ofNat 32 d * 20#32 = BitVec.ofNat 32 (20 * d) := by rw [BitVec.ofNat_mul_ofNat, Nat.mul_comm]
  rw [hm]
  have hy : x = (x - BitVec.ofNat 32 (20 * d)) + BitVec.ofNat 32 (20 * d) := (BitVec.sub_add_cancel _ _).symm
  generalize x - BitVec.ofNat 32 (20 * d) = y at hy
  subst hy
  have h0 : (0#32).toInt = 0 := by decide
  have h20 : (20#32).toInt = 20 := by decide
  rw [h0, h20]
  constructor
  · intro ⟨h0, h1⟩
    have h2 : y.toNat < 20 := by
      have := y.isLt
      rw [BitVec.toInt_eq_toNat_cond] at h0 h1
      split at h0 <;> omega
    refine ⟨⟨_, h2⟩, ?_⟩
    rw [BitVec.ofNat_add, BitVec.ofNat_toNat, BitVec.setWidth_eq, BitVec.add_comm]
  · rintro ⟨r, hr⟩
    rw [BitVec.ofNat_add, BitVec.add_comm, BitVec.add_right_inj] at hr
    subst hr
    have hr := r.isLt
    have hn : (BitVec.ofNat 32 r.val).toNat = r.val := by rw [BitVec.toNat_ofNat]; omega
    rw [BitVec.toInt_eq_toNat_of_lt (by rw [hn]; omega), hn]
    omega

/-- The hit bit of a device and a lane: the lane's token picked an expert of the device; row 8 is hit by every token. -/
theorem hitD_at (I : Fin 6 → Vec Ideal S1x128 .i32) (d : Fin 16) (l : Fin 128) :
    Val.hitD (F := Ideal) I (ix2 d l) = 1#1 ↔ d.val = 8 ∨ (d.val < 8 ∧ ∃ k : Fin 6, ∃ r : Fin 20, I k (ix2 0 l) = BitVec.ofNat 32 (20 * d.val + r.val)) := by
  pointwise [Val.hitD, eqD, rows16]
  simp only [ori_iff, andi_iff, eq_iff, sge_iff, slt_iff, IntOp.subi, IntOp.muli, inD d.val d.isLt]
  have h8 : BitVec.ofNat 32 d.val = 8#32 ↔ d.val = 8 := by revert d; decide
  have hl : (BitVec.ofNat 32 d.val).toInt < (8#32).toInt ↔ d.val < 8 := by revert d; decide
  rw [h8, hl]
  rw [← ex6 (fun k => ∃ r : Fin 20, I k (ix2 0 l) = BitVec.ofNat 32 (20 * d.val + r.val)) _ _ _ _ _ _ Iff.rfl Iff.rfl Iff.rfl Iff.rfl Iff.rfl Iff.rfl]
  tauto

/-- The packed expert counts after `n` groups are the packed counts of the hits in that lane. -/
theorem accE_at (I : ℕ → Fin 6 → Vec Ideal S1x128 .i32) (sg : ℕ → Vec Ideal S1x128 .i32) (n : ℕ) (e : Fin 160) (l : Fin 128) :
    accE (F := Ideal) I sg n (ix2 e l) = pk (fun i => Val.hitE (F := Ideal) (I i) (ix2 e l)) (fun i => sg i (ix2 0 l)) n := by
  induction n with
  | zero => rfl
  | succ n ih => rw [accE, stepE_at, ih]; rfl

/-- The packed device counts after `n` groups are the packed counts of the hits in that lane. -/
theorem accD_at (I : ℕ → Fin 6 → Vec Ideal S1x128 .i32) (sg : ℕ → Vec Ideal S1x128 .i32) (n : ℕ) (d : Fin 16) (l : Fin 128) :
    accD (F := Ideal) I sg n (ix2 d l) = pk (fun i => Val.hitD (F := Ideal) (I i) (ix2 d l)) (fun i => sg i (ix2 0 l)) n := by
  induction n with
  | zero => rfl
  | succ n ih => rw [accD, stepD_at, ih]; rfl

/-- The picks of a group and lane are the token's expert ids. -/
theorem picks_at (x3 : Vec Ideal S6x2048 .i32) (n : Fin 16) (k : Fin 6) (l : Fin 128) :
    picks (F := Ideal) x3 n.val k (ix2 0 l) = x3 (ix2 k (tok n l)) := by
  unfold picks
  pointwise
  exact congrArg x3 (congrArg (ix2 k) (Fin.ext (by show 128 * (n.val % 16) + l.val = 128 * n.val + l.val; rw [Nat.mod_eq_of_lt n.isLt])))

/-- The sequence id of a group and lane is the token's. -/
theorem segs_at (x5 : Vec Ideal S1x2048 .i32) (n : Fin 16) (l : Fin 128) :
    segs (F := Ideal) x5 n.val (ix2 0 l) = x5 (ix2 0 (tok n l)) := by
  unfold segs
  pointwise
  exact congrArg x5 (congrArg (ix2 0) (Fin.ext (by show 128 * (n.val % 16) + l.val = 128 * n.val + l.val; rw [Nat.mod_eq_of_lt n.isLt])))

/-- Field `q` of a packed word, as the program reads it. -/
theorem fieldq (h : ℕ → BitVec 1) (s : ℕ → BitVec 32) (q : Fin 5) (c : BitVec 32) (hc : c = BitVec.ofNat 32 (5 * q.val)) :
    (FloatOps.sitofp (F := Ideal) .f32 (IntOp.andi (IntOp.shrsi ArithUnit.vector (pk h s 16) c) 31#32) : EReal) = Spec.cast (cn h s q.val 16) := by
  have hn : c.toNat = 5 * q.val := by subst hc; rw [BitVec.toNat_ofNat]; omega
  have h32 : c.toNat < 32 := by omega
  show (((IntOp.andi (IntOp.shrsi ArithUnit.vector (pk h s 16) c) 31#32).toInt : ℝ) : EReal) = _
  unfold IntOp.andi IntOp.shrsi
  rw [if_pos h32, BitVec.sshiftRight', hn, field_pk h s 16 (le_refl _) q]
  rfl

/-- A sum of counts as numbers is the count of the sum. -/
theorem cast_sum {ι : Type} (S : Finset ι) (g : ι → ℕ) : ∑ i ∈ S, Spec.cast (g i) = Spec.cast (∑ i ∈ S, g i) := by
  classical
  induction S using Finset.induction_on with
  | empty => simp [Spec.cast]
  | insert a S ha ih => rw [Finset.sum_insert ha, Finset.sum_insert ha, ih]; simp [Spec.cast]

/-- The counters of the 128 lanes add up to the count over the tokens. -/
theorem sum_cn (h : Fin 128 → ℕ → BitVec 1) (s : Fin 128 → ℕ → BitVec 32) (q : Fin 5) (p : Fin 2048 → Prop) [DecidablePred p] (sg : Fin 2048 → BitVec 32)
    (hs : ∀ l (n : Fin 16), s l n.val = sg (tok n l)) (hp : ∀ l (n : Fin 16), h l n.val = 1#1 ↔ p (tok n l)) :
    ∑ l, cn (h l) (s l) q.val 16 = ∑ t, if sg t = BitVec.ofNat 32 q.val ∧ p t then 1 else 0 := by
  rw [sum_tok]
  refine Finset.sum_congr rfl fun l _ => ?_
  rw [cn, Finset.sum_range]
  refine Finset.sum_congr rfl fun n _ => ?_
  rw [hs]
  exact if_congr (and_congr Iff.rfl (hp l n)) rfl rfl

section
variable (ids : Fin 2048 → Fin 6 → BitVec 32) (sg : Fin 2048 → BitVec 32)
variable (x3 : Vec Ideal S6x2048 .i32) (x5 : Vec Ideal S1x2048 .i32)
variable (h3 : ∀ t k, x3 (ix2 k t) = ids t k) (h5 : ∀ t, x5 (ix2 0 t) = sg t)
include h3 h5

/-- A sequence's field of an expert's packed counts, summed over the lanes, is the number of the sequence's tokens that picked it. -/
theorem fieldE (q : Fin 5) (e : Fin 160) (c : BitVec 32) (hc : c = BitVec.ofNat 32 (5 * q.val)) :
    ∑ l : Fin 128, (FloatOps.sitofp (F := Ideal) .f32 (IntOp.andi (IntOp.shrsi ArithUnit.vector (packE (F := Ideal) x3 x5 (ix2 e l)) c) 31#32) : EReal)
      = Spec.cast (nE ids sg q e) := by
  unfold packE
  simp only [accE_at, fieldq _ _ q c hc]
  rw [cast_sum, sum_cn _ _ q (Spec.hitE ids e) sg (fun l n => by rw [segs_at, h5]) (fun l n => by rw [hitE_at]; simp only [picks_at, h3])]
  rfl

/-- A sequence's field of a device row's packed counts, summed over the lanes, is the number of the sequence's tokens that hit it. -/
theorem fieldD (q : Fin 5) (d : Fin 16) (c : BitVec 32) (hc : c = BitVec.ofNat 32 (5 * q.val)) (p : Fin 2048 → Prop) [DecidablePred p]
    (hp : ∀ t, (d.val = 8 ∨ (d.val < 8 ∧ ∃ k : Fin 6, ∃ r : Fin 20, ids t k = BitVec.ofNat 32 (20 * d.val + r.val))) ↔ p t) :
    ∑ l : Fin 128, (FloatOps.sitofp (F := Ideal) .f32 (IntOp.andi (IntOp.shrsi ArithUnit.vector (packD (F := Ideal) x3 x5 (ix2 d l)) c) 31#32) : EReal)
      = Spec.cast (∑ t, if sg t = BitVec.ofNat 32 q.val ∧ p t then 1 else 0) := by
  unfold packD
  simp only [accD_at, fieldq _ _ q c hc]
  rw [cast_sum, sum_cn _ _ q p sg (fun l n => by rw [segs_at, h5]) (fun l n => by rw [hitD_at]; simp only [picks_at, h3, hp])]

/-- Column `q` of the expert counts. -/
theorem colE_at (q : Fin 5) (e : Fin 160) : colE (F := Ideal) (packE (F := Ideal) x3 x5) (ix2 e ⟨q.val, by omega⟩) = Spec.cast (nE ids sg q e) := by
  rw [← fieldE ids sg x3 x5 h3 h5 q e _ rfl]
  pointwise [colE, k0_pay300, k0_pay298, k0_pay296, k0_pay299, lanes160]
  fin_cases q <;> rfl

/-- The device counts in a sequence's column. -/
theorem colD_at (q : Fin 5) (d : Fin 16) (p : Fin 2048 → Prop) [DecidablePred p]
    (hp : ∀ t, (d.val = 8 ∨ (d.val < 8 ∧ ∃ k : Fin 6, ∃ r : Fin 20, ids t k = BitVec.ofNat 32 (20 * d.val + r.val))) ↔ p t) :
    colD (F := Ideal) (packD (F := Ideal) x3 x5) (ix2 d ⟨q.val, by omega⟩) = Spec.cast (∑ t, if sg t = BitVec.ofNat 32 q.val ∧ p t then 1 else 0) := by
  rw [← fieldD ids sg x3 x5 h3 h5 q d _ rfl p hp]
  pointwise [colD, k0_pay301, k0_pay302, k0_pay303, k0_pay304, k0_pay305, lanes160]
  fin_cases q <;> rfl

/-- Column `q` of the device counts: the groups, and the tokens of the sequence. -/
theorem colD_group (q : Fin 5) (d : Fin 8) : colD (F := Ideal) (packD (F := Ideal) x3 x5) (ix2 ⟨d.val, by omega⟩ ⟨q.val, by omega⟩) = Spec.cast (Spec.nD ids sg q d) :=
  colD_at ids sg x3 x5 h3 h5 q ⟨d.val, by omega⟩ (Spec.hitD ids d) (fun t => by
    have := d.isLt
    exact ⟨fun h => h.elim (fun h => absurd h (by simp; omega)) (fun h => h.2), fun h => Or.inr ⟨this, h⟩⟩)

/-- Row 8 of the device counts holds the number of tokens of each sequence. -/
theorem colD_all (q : Fin 5) : colD (F := Ideal) (packD (F := Ideal) x3 x5) (ix2 8 ⟨q.val, by omega⟩) = Spec.cast (nT sg q) := by
  refine (colD_at ids sg x3 x5 h3 h5 q 8 (fun _ => True) (fun t => by simp)).trans ?_
  simp only [and_true]; rfl

end

end Cert.KernelIdeal.Sum
-- ==== Proof.Sum.KerB.lean ====
/- The loads and the weights of the first grid point, read at an index: column `q` is sequence `q`. -/
module

public import proofs.«01_k».proof.Proof.Sum.KerA

@[expose] public section

set_option maxRecDepth 16384

noncomputable section

namespace Cert.KernelIdeal.Sum

open Idealize.ShloMosaic
open Cert.KernelIdeal Cert.KernelIdeal.Gen Cert.KernelIdeal.Val Cert.Count

/-- A select on a bit that decides a statement is an if on the statement. -/
theorem select_iff {α : Type} {c : BitVec 1} {p : Prop} [Decidable p] (h : c = 1#1 ↔ p) (a b : α) : Scalar.select c a b = if p then a else b :=
  if_congr h rfl rfl

/-- A count that fits in a word, converted to an integer, is itself. -/
theorem fptosi_cast (n : ℕ) (hn : n ≤ 2048) : Ideal.fptosi 32 (Spec.cast n) = BitVec.ofNat 32 n := by
  unfold Spec.cast Ideal.fptosi
  rw [Ideal.toIntClamped_coe, if_pos (Nat.cast_nonneg n), Int.floor_natCast]
  rw [min_eq_right (by norm_num; omega), max_eq_right (by norm_num)]
  exact BitVec.ofInt_natCast 32 n

/-- A count of tokens is at most their number. -/
theorem count_le (p : Fin 2048 → Prop) [DecidablePred p] : (∑ t : Fin 2048, if p t then 1 else 0) ≤ 2048 := by
  refine (Finset.sum_le_card_nsmul _ _ 1 fun t _ => ?_).trans (by simp)
  split <;> omega

/-- A small word as a signed integer. -/
theorem small_toInt (a : ℕ) (ha : a < 1000) : (BitVec.ofNat 32 a).toInt = a := by
  have hn : (BitVec.ofNat 32 a).toNat = a := by rw [BitVec.toNat_ofNat]; omega
  rw [BitVec.toInt_eq_toNat_of_lt (by rw [hn]; omega), hn]

/-- The sum of two words of numbers is the word of the sum. -/
theorem addi_small (a b : ℕ) : IntOp.addi (BitVec.ofNat 32 a) (BitVec.ofNat 32 b) = BitVec.ofNat 32 (a + b) := (BitVec.ofNat_add a b).symm

/-- Twenty consecutive experts of a window of 24 rows that starts at them or four rows earlier. -/
theorem win_sum (G : Fin 160 → EReal) (d c lo : ℕ) (hd : lo = 20 * d) (hd8 : d < 8) (hc : c = lo ∨ c + 4 = lo) (h24 : c + 24 ≤ 160) (I : Fin 24 → Fin 160) (hI : ∀ x, (I x).val = c + x.val)
    (cw lw uw : BitVec 32) (hcw : cw = BitVec.ofNat 32 c) (hlw : lw = BitVec.ofNat 32 lo) (huw : uw = BitVec.ofNat 32 (lo + 20)) :
    (∑ x : Fin 24, Scalar.select (IntOp.andi (IntOp.cmpi .sge (IntOp.addi (BitVec.ofNat 32 x.val) cw) lw)
        (IntOp.cmpi .slt (IntOp.addi (BitVec.ofNat 32 x.val) cw) uw)) (G (I x)) 0)
      = ∑ r : Fin 20, G ⟨20 * d + r.val, by omega⟩ := by
  subst hcw hlw huw
  have key : ∀ x : Fin 24, Scalar.select (IntOp.andi (IntOp.cmpi .sge (IntOp.addi (BitVec.ofNat 32 x.val) (BitVec.ofNat 32 c)) (BitVec.ofNat 32 lo))
        (IntOp.cmpi .slt (IntOp.addi (BitVec.ofNat 32 x.val) (BitVec.ofNat 32 c)) (BitVec.ofNat 32 (lo + 20)))) (G (I x)) 0
      = if h : lo ≤ c + x.val ∧ c + x.val < lo + 20 then G ⟨c + x.val, by omega⟩ else 0 := by
    intro x
    have := x.isLt
    have hIx : I x = ⟨c + x.val, by omega⟩ := Fin.ext (hI x)
    rw [select_iff (p := lo ≤ c + x.val ∧ c + x.val < lo + 20) (by
      rw [andi_iff, sge_iff, slt_iff, addi_small, small_toInt _ (by omega), small_toInt _ (by omega), small_toInt _ (by omega)]
      omega), hIx]
    split <;> rfl
  rw [Finset.sum_congr rfl fun x _ => key x]
  subst hd
  rcases hc with rfl | hc
  · rw [Fin.sum_univ_add (a := 20) (b := 4)]
    rw [Finset.sum_eq_zero (s := Finset.univ (α := Fin 4)), add_zero]
    · refine Finset.sum_congr rfl fun r _ => ?_
      have := r.isLt
      rw [dif_pos (by simp only [Fin.val_castAdd]; omega)]; rfl
    · intro r _
      rw [dif_neg (by simp only [Fin.val_natAdd]; omega)]
  · rw [Fin.sum_univ_add (a := 4) (b := 20)]
    rw [Finset.sum_eq_zero (s := Finset.univ (α := Fin 4)), zero_add]
    · refine Finset.sum_congr rfl fun r _ => ?_
      have := r.isLt
      rw [dif_pos (by simp only [Fin.val_natAdd]; omega)]
      exact congrArg G (Fin.ext (by simp only [Fin.val_natAdd]; omega))
    · intro r _
      have := r.isLt
      rw [dif_neg (by simp only [Fin.val_castAdd]; omega)]

/-- A select on a row number below a bound is an if on the numbers. -/
theorem selpiece (n c u : ℕ) (hn : n < 160) (hc : c < 160) (hu : u ≤ 160) (cw uw : BitVec 32) (hcw : cw = BitVec.ofNat 32 c) (huw : uw = BitVec.ofNat 32 u) (a b : EReal) :
    Scalar.select (IntOp.cmpi .slt (IntOp.addi (BitVec.ofNat 32 n) cw) uw) a b = if n + c < u then a else b := by
  subst hcw huw
  exact select_iff (by rw [slt_iff, addi_small, small_toInt _ (by omega), small_toInt _ (by omega), Nat.cast_lt]) a b

/-- An if has a value that both branches have. -/
theorem dstep {c : Prop} [Decidable c] {x y r : EReal} (h1 : c → x = r) (h2 : ¬c → y = r) : (if h : c then x else y) = r := by
  split
  exacts [h1 ‹_›, h2 ‹_›]
/-- The same, where the branches do not use the condition. -/
theorem istep {c : Prop} [Decidable c] {x y r : EReal} (h1 : c → x = r) (h2 : ¬c → y = r) : (if c then x else y) = r := by
  split
  exacts [h1 ‹_›, h2 ‹_›]

/-- The rows of the eight groups, spread over the experts: expert `e` reads its group's row. -/
theorem spread_at (g : Fin 8 → FVec Ideal S1x128 .f32) (e : Fin 160) (l : Fin 128) : spreadV (F := Ideal) g (ix2 e l) = g (Spec.grp e) (ix2 0 l) := by
  have he := e.isLt
  have hg : ∀ k : Fin 8, k.val = e.val / 20 → g k (ix2 0 l) = g (Spec.grp e) (ix2 0 l) := fun k hk => by rw [show k = Spec.grp e from Fin.ext hk]
  pointwise [spreadV]
  rw [selpiece (e.val - 8 - 8) 16 20 (by omega) (by omega) (by omega) _ _ rfl rfl,
    selpiece (e.val - 8 - 8 - 8 - 8 - 8 - 8 - 8) 56 60 (by omega) (by omega) (by omega) _ _ rfl rfl,
    selpiece (e.val - 8 - 8 - 8 - 8 - 8 - 8 - 8 - 8 - 8 - 8 - 8 - 8) 96 100 (by omega) (by omega) (by omega) _ _ rfl rfl,
    selpiece (e.val - 8 - 8 - 8 - 8 - 8 - 8 - 8 - 8 - 8 - 8 - 8 - 8 - 8 - 8 - 8 - 8 - 8) 136 140 (by omega) (by omega) (by omega) _ _ rfl rfl]
  refine dstep (fun _ => hg 0 (by show (0 : ℕ) = e.val / 20; omega)) (fun _ => ?_)
  refine dstep (fun _ => hg 0 (by show (0 : ℕ) = e.val / 20; omega)) (fun _ => ?_)
  refine dstep (fun _ => istep (fun _ => hg 0 (by show (0 : ℕ) = e.val / 20; omega)) (fun _ => hg 1 (by show (1 : ℕ) = e.val / 20; omega))) (fun _ => ?_)
  refine dstep (fun _ => hg 1 (by show (1 : ℕ) = e.val / 20; omega)) (fun _ => ?_)
  refine dstep (fun _ => hg 1 (by show (1 : ℕ) = e.val / 20; omega)) (fun _ => ?_)
  refine dstep (fun _ => hg 2 (by show (2 : ℕ) = e.val / 20; omega)) (fun _ => ?_)
  refine dstep (fun _ => hg 2 (by show (2 : ℕ) = e.val / 20; omega)) (fun _ => ?_)
  refine dstep (fun _ => istep (fun _ => hg 2 (by show (2 : ℕ) = e.val / 20; omega)) (fun _ => hg 3 (by show (3 : ℕ) = e.val / 20; omega))) (fun _ => ?_)
  refine dstep (fun _ => hg 3 (by show (3 : ℕ) = e.val / 20; omega)) (fun _ => ?_)
  refine dstep (fun _ => hg 3 (by show (3 : ℕ) = e.val / 20; omega)) (fun _ => ?_)
  refine dstep (fun _ => hg 4 (by show (4 : ℕ) = e.val / 20; omega)) (fun _ => ?_)
  refine dstep (fun _ => hg 4 (by show (4 : ℕ) = e.val / 20; omega)) (fun _ => ?_)
  refine dstep (fun _ => istep (fun _ => hg 4 (by show (4 : ℕ) = e.val / 20; omega)) (fun _ => hg 5 (by show (5 : ℕ) = e.val / 20; omega))) (fun _ => ?_)
  refine dstep (fun _ => hg 5 (by show (5 : ℕ) = e.val / 20; omega)) (fun _ => ?_)
  refine dstep (fun _ => hg 5 (by show (5 : ℕ) = e.val / 20; omega)) (fun _ => ?_)
  refine dstep (fun _ => hg 6 (by show (6 : ℕ) = e.val / 20; omega)) (fun _ => ?_)
  refine dstep (fun _ => hg 6 (by show (6 : ℕ) = e.val / 20; omega)) (fun _ => ?_)
  refine dstep (fun _ => istep (fun _ => hg 6 (by show (6 : ℕ) = e.val / 20; omega)) (fun _ => hg 7 (by show (7 : ℕ) = e.val / 20; omega))) (fun _ => ?_)
  refine dstep (fun _ => hg 7 (by show (7 : ℕ) = e.val / 20; omega)) (fun _ => ?_)
  exact hg 7 (by show (7 : ℕ) = e.val / 20; omega)

section
variable (ids : Fin 2048 → Fin 6 → BitVec 32) (sg : Fin 2048 → BitVec 32)
variable (x3 : Vec Ideal S6x2048 .i32) (x5 : Vec Ideal S1x2048 .i32)
variable (h3 : ∀ t k, x3 (ix2 k t) = ids t k) (h5 : ∀ t, x5 (ix2 0 t) = sg t)
include h3 h5

/-- The stored expert counts. -/
theorem cntV_at (q : Fin 5) (e : Fin 160) : cntV (F := Ideal) (packE (F := Ideal) x3 x5) (ix2 q e) = BitVec.ofNat 32 (Spec.nE ids sg q e) := by
  pointwise [cntV, k0_pay306]
  rw [colE_at ids sg x3 x5 h3 h5 q e]
  exact fptosi_cast _ (count_le _)

/-- The stored device counts. -/
theorem devV_at (q : Fin 5) (d : Fin 8) : devV (F := Ideal) (packD (F := Ideal) x3 x5) (ix2 q d) = BitVec.ofNat 32 (Spec.nD ids sg q d) := by
  pointwise [devV, k0_pay307]
  rw [dif_pos (by omega)]
  refine (congrArg (Ideal.fptosi 32) (colD_group ids sg x3 x5 h3 h5 q d)).trans ?_
  exact fptosi_cast _ (count_le _)

/-- The row of token counts of the sequences. -/
theorem tC_at (q : Fin 5) : tC (F := Ideal) (packE (F := Ideal) x3 x5) (packD (F := Ideal) x3 x5) (ix2 0 ⟨q.val, by omega⟩) = Spec.T sg q := by
  have h := colD_all ids sg x3 x5 h3 h5 q
  unfold colD at h
  unfold tC
  generalize k0_pay301 lanes160 = a at h ⊢
  generalize k0_pay302 (F := Ideal) lanes160 (packD (F := Ideal) x3 x5) = b at h ⊢
  generalize k0_pay303 (F := Ideal) (packD (F := Ideal) x3 x5) = c at h ⊢
  generalize k0_pay304 lanes160 = d at h ⊢
  pointwise [k0_pay308]
  rw [Spec.T, ← h]

/-- The row of token counts holds each sequence's number of tokens, one for an empty sequence. -/
theorem tV_at (q : Fin 5) : tV (F := Ideal) (packE (F := Ideal) x3 x5) (packD (F := Ideal) x3 x5) (ix2 0 ⟨q.val, by omega⟩) = Spec.T sg q := by
  rw [← tC_at ids sg x3 x5 h3 h5 q]
  pointwise [tV]

/-- The expert loads. -/
theorem fC_at (q : Fin 5) (e : Fin 160) : fC (F := Ideal) (packE (F := Ideal) x3 x5) (packD (F := Ideal) x3 x5) (ix2 e ⟨q.val, by omega⟩) = Spec.f ids sg q e := by
  rw [Spec.f, ← tC_at ids sg x3 x5 h3 h5 q, ← colE_at ids sg x3 x5 h3 h5 q e]
  pointwise [fC, k0_pay309]

/-- The table of the experts' factors. -/
theorem fV_at (q : Fin 5) (e : Fin 160) : fV (F := Ideal) (packE (F := Ideal) x3 x5) (packD (F := Ideal) x3 x5) (ix2 e ⟨q.val, by omega⟩) = Spec.f ids sg q e := by
  rw [← fC_at ids sg x3 x5 h3 h5 q e]
  pointwise [fV, k0_pay352]

/-- The device loads. -/
theorem fdR_at (q : Fin 5) (d : Fin 8) : fdR (F := Ideal) (packE (F := Ideal) x3 x5) (packD (F := Ideal) x3 x5) d (ix2 0 ⟨q.val, by omega⟩) = Spec.fdev ids sg q d := by
  have hf := fC_at ids sg x3 x5 h3 h5 q
  rw [Spec.fdev]
  simp only [← hf]
  generalize hl : (⟨q.val, by omega⟩ : Fin 128) = l
  have W := fun d c lo hd hd8 hc h24 I hI cw lw uw hcw hlw huw => win_sum (fun e => fC (F := Ideal) (packE (F := Ideal) x3 x5) (packD (F := Ideal) x3 x5) (ix2 e l)) d c lo hd hd8 hc h24 I hI cw lw uw hcw hlw huw
  fin_cases d
  · rw [← W 0 0 0 rfl (by omega) (by omega) (by omega) (fun x => ⟨x.val, by omega⟩) (fun x => (Nat.zero_add _).symm) 0#32 0#32 20#32 rfl rfl rfl]
    show fd0 (F := Ideal) (packE (F := Ideal) x3 x5) (packD (F := Ideal) x3 x5) (ix2 0 l) = _
    pointwise [fd0, k0_pay311]; rfl
  · rw [← W 1 16 20 rfl (by omega) (by omega) (by omega) (fun x => ⟨16 + x.val, by omega⟩) (fun x => rfl) 16#32 20#32 40#32 rfl rfl rfl]
    show fd1 (F := Ideal) (packE (F := Ideal) x3 x5) (packD (F := Ideal) x3 x5) (ix2 0 l) = _
    pointwise [fd1, k0_pay312]; rfl
  · rw [← W 2 40 40 rfl (by omega) (by omega) (by omega) (fun x => ⟨40 + x.val, by omega⟩) (fun x => rfl) 40#32 40#32 60#32 rfl rfl rfl]
    show fd2 (F := Ideal) (packE (F := Ideal) x3 x5) (packD (F := Ideal) x3 x5) (ix2 0 l) = _
    pointwise [fd2, k0_pay314, k0_pay313]
  · rw [← W 3 56 60 rfl (by omega) (by omega) (by omega) (fun x => ⟨56 + x.val, by omega⟩) (fun x => rfl) 56#32 60#32 80#32 rfl rfl rfl]
    show fd3 (F := Ideal) (packE (F := Ideal) x3 x5) (packD (F := Ideal) x3 x5) (ix2 0 l) = _
    pointwise [fd3, k0_pay315]
  · rw [← W 4 80 80 rfl (by omega) (by omega) (by omega) (fun x => ⟨80 + x.val, by omega⟩) (fun x => rfl) 80#32 80#32 100#32 rfl rfl rfl]
    show fd4 (F := Ideal) (packE (F := Ideal) x3 x5) (packD (F := Ideal) x3 x5) (ix2 0 l) = _
    pointwise [fd4, k0_pay316]
  · rw [← W 5 96 100 rfl (by omega) (by omega) (by omega) (fun x => ⟨96 + x.val, by omega⟩) (fun x => rfl) 96#32 100#32 120#32 rfl rfl rfl]
    show fd5 (F := Ideal) (packE (F := Ideal) x3 x5) (packD (F := Ideal) x3 x5) (ix2 0 l) = _
    pointwise [fd5, k0_pay317]
  · rw [← W 6 120 120 rfl (by omega) (by omega) (by omega) (fun x => ⟨120 + x.val, by omega⟩) (fun x => rfl) 120#32 120#32 140#32 rfl rfl rfl]
    show fd6 (F := Ideal) (packE (F := Ideal) x3 x5) (packD (F := Ideal) x3 x5) (ix2 0 l) = _
    pointwise [fd6, k0_pay318]
  · rw [← W 7 136 140 rfl (by omega) (by omega) (by omega) (fun x => ⟨136 + x.val, by omega⟩) (fun x => rfl) 136#32 140#32 160#32 rfl rfl rfl]
    show fd7 (F := Ideal) (packE (F := Ideal) x3 x5) (packD (F := Ideal) x3 x5) (ix2 0 l) = _
    pointwise [fd7, k0_pay321, k0_pay319, k0_pay320]

/-- The communication loads. -/
theorem fcR_at (q : Fin 5) (d : Fin 8) : fcR (F := Ideal) (packE (F := Ideal) x3 x5) (packD (F := Ideal) x3 x5) d (ix2 0 ⟨q.val, by omega⟩) = Spec.fcomm ids sg q d := by
  rw [Spec.fcomm, ← colD_group ids sg x3 x5 h3 h5 q d, ← tC_at ids sg x3 x5 h3 h5 q]
  fin_cases d
  · show fc0 (F := Ideal) (packE (F := Ideal) x3 x5) (packD (F := Ideal) x3 x5) _ = _
    pointwise [fc0, k0_pay322, kC, k0_pay310]
  · show fc1 (F := Ideal) (packE (F := Ideal) x3 x5) (packD (F := Ideal) x3 x5) _ = _
    pointwise [fc1, k0_pay323, kC, k0_pay310]
  · show fc2 (F := Ideal) (packE (F := Ideal) x3 x5) (packD (F := Ideal) x3 x5) _ = _
    pointwise [fc2, k0_pay324, kC, k0_pay310]
  · show fc3 (F := Ideal) (packE (F := Ideal) x3 x5) (packD (F := Ideal) x3 x5) _ = _
    pointwise [fc3, k0_pay325, kC, k0_pay310]
  · show fc4 (F := Ideal) (packE (F := Ideal) x3 x5) (packD (F := Ideal) x3 x5) _ = _
    pointwise [fc4, k0_pay326, kC, k0_pay310]
  · show fc5 (F := Ideal) (packE (F := Ideal) x3 x5) (packD (F := Ideal) x3 x5) _ = _
    pointwise [fc5, k0_pay327, kC, k0_pay310]
  · show fc6 (F := Ideal) (packE (F := Ideal) x3 x5) (packD (F := Ideal) x3 x5) _ = _
    pointwise [fc6, k0_pay328, kC, k0_pay310]
  · show fc7 (F := Ideal) (packE (F := Ideal) x3 x5) (packD (F := Ideal) x3 x5) _ = _
    pointwise [fc7, k0_pay329, kC, k0_pay310]

omit h3 h5 in
/-- The device and communication loads, weighted and added. -/
theorem mixR_at (E : IVec S160x128 32) (D : IVec S16x128 32) (l : Fin 128) (d : Fin 8) : mixR (F := Ideal) E D d (ix2 0 l)
    = Ideal.ofBits .f32 1028443341#32 * fdR (F := Ideal) E D d (ix2 0 l) + Ideal.ofBits .f32 1017370378#32 * fcR (F := Ideal) E D d (ix2 0 l) := by
  fin_cases d
  · show mix0 (F := Ideal) E D _ = Ideal.ofBits .f32 1028443341#32 * fd0 (F := Ideal) E D _ + Ideal.ofBits .f32 1017370378#32 * fc0 (F := Ideal) E D _
    unfold mix0 fc0; pointwise [k0_pay330]
  · show mix1 (F := Ideal) E D _ = Ideal.ofBits .f32 1028443341#32 * fd1 (F := Ideal) E D _ + Ideal.ofBits .f32 1017370378#32 * fc1 (F := Ideal) E D _
    unfold mix1 fc1; pointwise [k0_pay331]
  · show mix2 (F := Ideal) E D _ = Ideal.ofBits .f32 1028443341#32 * fd2 (F := Ideal) E D _ + Ideal.ofBits .f32 1017370378#32 * fc2 (F := Ideal) E D _
    unfold mix2 fc2; pointwise [k0_pay332]
  · show mix3 (F := Ideal) E D _ = Ideal.ofBits .f32 1028443341#32 * fd3 (F := Ideal) E D _ + Ideal.ofBits .f32 1017370378#32 * fc3 (F := Ideal) E D _
    unfold mix3 fc3; pointwise [k0_pay333]
  · show mix4 (F := Ideal) E D _ = Ideal.ofBits .f32 1028443341#32 * fd4 (F := Ideal) E D _ + Ideal.ofBits .f32 1017370378#32 * fc4 (F := Ideal) E D _
    unfold mix4 fc4; pointwise [k0_pay334]
  · show mix5 (F := Ideal) E D _ = Ideal.ofBits .f32 1028443341#32 * fd5 (F := Ideal) E D _ + Ideal.ofBits .f32 1017370378#32 * fc5 (F := Ideal) E D _
    unfold mix5 fc5; pointwise [k0_pay335]
  · show mix6 (F := Ideal) E D _ = Ideal.ofBits .f32 1028443341#32 * fd6 (F := Ideal) E D _ + Ideal.ofBits .f32 1017370378#32 * fc6 (F := Ideal) E D _
    unfold mix6; pointwise [k0_pay336]
  · show mix7 (F := Ideal) E D _ = Ideal.ofBits .f32 1028443341#32 * fd7 (F := Ideal) E D _ + Ideal.ofBits .f32 1017370378#32 * fc7 (F := Ideal) E D _
    unfold mix7; pointwise [k0_pay337]

/-- The table of the devices' factors, spread over the experts. -/
theorem fdevV_at (q : Fin 5) (e : Fin 160) : fdevV (F := Ideal) (packE (F := Ideal) x3 x5) (packD (F := Ideal) x3 x5) (ix2 e ⟨q.val, by omega⟩) = Spec.fdev ids sg q (Spec.grp e) := by
  rw [← fdR_at ids sg x3 x5 h3 h5, ← spread_at (fdR (F := Ideal) (packE (F := Ideal) x3 x5) (packD (F := Ideal) x3 x5))]
  pointwise [fdevV]

/-- The table of the communication factors, spread over the experts. -/
theorem fcommV_at (q : Fin 5) (e : Fin 160) : fcommV (F := Ideal) (packE (F := Ideal) x3 x5) (packD (F := Ideal) x3 x5) (ix2 e ⟨q.val, by omega⟩) = Spec.fcomm ids sg q (Spec.grp e) := by
  rw [← fcR_at ids sg x3 x5 h3 h5, ← spread_at (fcR (F := Ideal) (packE (F := Ideal) x3 x5) (packD (F := Ideal) x3 x5))]
  pointwise [fcommV]

/-- The weights of the probabilities. -/
theorem coefV_at (q : Fin 5) (e : Fin 160) : coefV (F := Ideal) (packE (F := Ideal) x3 x5) (packD (F := Ideal) x3 x5) (ix2 e ⟨q.val, by omega⟩) = Spec.coef ids sg q e := by
  rw [Spec.coef, ← fdR_at ids sg x3 x5 h3 h5, ← fcR_at ids sg x3 x5 h3 h5, ← mixR_at, ← spread_at (mixR (F := Ideal) (packE (F := Ideal) x3 x5) (packD (F := Ideal) x3 x5)), ← tC_at ids sg x3 x5 h3 h5 q, ← fC_at ids sg x3 x5 h3 h5 q e]
  pointwise [coefV, k0_pay338, lanes160]
  rw [select_iff (p := True) (by
    rw [slt_iff, small_toInt _ (by omega)]
    have := q.isLt
    have h : (5#32).toInt = 5 := by decide
    rw [h]
    exact iff_true_intro (by omega)), if_pos trivial]

end

end Cert.KernelIdeal.Sum
-- ==== Proof.Sum.KerC.lean ====
/- The softmax, the gradient, the sums of probabilities and the losses of the grid points, read at an index. -/
module

public import proofs.«01_k».proof.Proof.Sum.KerB

@[expose] public section

set_option maxRecDepth 16384

noncomputable section

namespace Cert.KernelIdeal.Sum

open Idealize.ShloMosaic
open Cert.KernelIdeal Cert.KernelIdeal.Gen Cert.KernelIdeal.Val Cert.Count

/-- Token `r` of tile `t`. -/
def tk (t : Fin 8) (r : Fin 256) : Fin 2048 := ⟨256 * t.val + r.val, by omega⟩

/-- The lane the program gathers a sequence's weights from. -/
theorem lane_of (q : Fin 5) : (Scalar.select (IntOp.cmpi .slt (Scalar.select (IntOp.cmpi .sge (BitVec.ofNat 32 q.val) 0#32) (BitVec.ofNat 32 q.val) 127#32) 0#32)
    (IntOp.addi (Scalar.select (IntOp.cmpi .sge (BitVec.ofNat 32 q.val) 0#32) (BitVec.ofNat 32 q.val) 127#32) 128#32)
    (Scalar.select (IntOp.cmpi .sge (BitVec.ofNat 32 q.val) 0#32) (BitVec.ofNat 32 q.val) 127#32)).toNat % 128 = q.val := by
  revert q; decide

/-- A sequence's number is not negative. -/
theorem sge_seq (q : Fin 5) : IntOp.cmpi .sge (BitVec.ofNat 32 q.val) 0#32 = 1#1 := by revert q; decide

section
variable (X : Fin 2048 → Fin 12288 → EReal) (sc : Fin 2048 → EReal) (W : Fin 160 → Fin 12288 → EReal) (sg : Fin 2048 → BitVec 32)
variable (x0 : Vec Ideal S256x12288 .fp8e4m3) (x1 : Vec Ideal S1x256 .f32) (x2 : Vec Ideal S160x12288 .bf16) (x4 : Vec Ideal S1x256 .i32)
variable (t : Fin 8)
variable (hx0 : ∀ r k, x0 (ix2 r k) = X (tk t r) k) (hx1 : ∀ r, x1 (ix2 0 r) = sc (tk t r)) (hx2 : ∀ e k, x2 (ix2 e k) = W e k)
variable (hx4 : ∀ r, x4 (ix2 0 r) = sg (tk t r))

section
include hx0 hx1 hx2

/-- The softmax of the tile's two halves. -/
theorem s0_at (e : Fin 160) (l : Fin 128) : s0 (F := Ideal) x0 x1 x2 (ix2 e l) = Spec.s X sc W (tk t ⟨l.val, by omega⟩) e := by
  pointwise [s0, k0_pay390, k0_pay388, sc0]
  simp only [hx0, hx1, hx2, Spec.s, Spec.z, Spec.zmax]

/-- The softmax of the second half tile is the token's softmax. -/
theorem s1_at (e : Fin 160) (l : Fin 128) : s1 (F := Ideal) x0 x1 x2 (ix2 e l) = Spec.s X sc W (tk t ⟨128 + l.val, by omega⟩) e := by
  pointwise [s1, k0_pay400, k0_pay388, sc1]
  simp only [hx0, hx1, hx2, Spec.s, Spec.z, Spec.zmax]

include hx4

/-- The gradient of a token of a sequence. -/
theorem dz0_seq (c : FVec Ideal S160x128 .f32) (q : Fin 5) (e : Fin 160) (l : Fin 128) (hq : sg (tk t ⟨l.val, by omega⟩) = BitVec.ofNat 32 q.val) :
    dz0 (F := Ideal) x0 x1 x2 x4 c (ix2 e l) = Spec.grad X sc W (tk t ⟨l.val, by omega⟩) (fun e => c (ix2 e ⟨q.val, by omega⟩)) e := by
  pointwise [dz0, k0_pay392, k0_pay391, sg0, k0_pay389, id0]
  simp only [hx4, hq, lane_of, s0_at X sc W x0 x1 x2 t hx0 hx1 hx2, Spec.grad]
  exact if_pos (sge_seq q)

/-- The gradient of a token of the second half tile that belongs to a sequence. -/
theorem dz1_seq (c : FVec Ideal S160x128 .f32) (q : Fin 5) (e : Fin 160) (l : Fin 128) (hq : sg (tk t ⟨128 + l.val, by omega⟩) = BitVec.ofNat 32 q.val) :
    dz1 (F := Ideal) x0 x1 x2 x4 c (ix2 e l) = Spec.grad X sc W (tk t ⟨128 + l.val, by omega⟩) (fun e => c (ix2 e ⟨q.val, by omega⟩)) e := by
  have hs : ∀ e, k0_pay400 (F := Ideal) (k0_pay388 (F := Ideal) x2 x0) (sc1 (F := Ideal) x1) (ix2 e l) = _ := fun e => s1_at X sc W x0 x1 x2 t hx0 hx1 hx2 e l
  unfold dz1
  generalize k0_pay388 (F := Ideal) x2 x0 = Z at hs
  pointwise [k0_pay401, sg1, k0_pay399, id1]
  simp only [hx4, hq, lane_of, hs, Spec.grad]
  exact if_pos (sge_seq q)

end

include hx4

/-- The gradient of a token of no sequence. -/
theorem dz0_none (c : FVec Ideal S160x128 .f32) (e : Fin 160) (l : Fin 128) (hq : (sg (tk t ⟨l.val, by omega⟩)).toInt < 0) :
    dz0 (F := Ideal) x0 x1 x2 x4 c (ix2 e l) = 0 := by
  pointwise [dz0, k0_pay392, k0_pay391, sg0, k0_pay389, id0]
  refine (select_iff (p := False) ?_ _ _).trans (if_neg id)
  rw [sge_iff, hx4]
  simp; omega

/-- The gradient of a padding token of the second half tile is zero. -/
theorem dz1_none (c : FVec Ideal S160x128 .f32) (e : Fin 160) (l : Fin 128) (hq : (sg (tk t ⟨128 + l.val, by omega⟩)).toInt < 0) :
    dz1 (F := Ideal) x0 x1 x2 x4 c (ix2 e l) = 0 := by
  unfold dz1
  generalize k0_pay388 (F := Ideal) x2 x0 = Z
  pointwise [k0_pay401, sg1, k0_pay399, id1]
  refine (select_iff (p := False) ?_ _ _).trans (if_neg id)
  rw [sge_iff, hx4]
  simp; omega

/-- The gradient of a padding token is zero. -/
theorem dzV_none (c : FVec Ideal S160x128 .f32) (e : Fin 160) (r : Fin 256) (hq : (sg (tk t r)).toInt < 0) :
    dzV (F := Ideal) x0 x1 x2 x4 c (ix2 e r) = 0 := by
  by_cases h : r.val < 128
  · exact (dif_pos h).trans (dz0_none sg x0 x1 x2 x4 t hx4 c e ⟨r.val, h⟩ hq)
  · have hr : (⟨128 + (r.val - 128), by omega⟩ : Fin 256) = r := Fin.ext (by show 128 + (r.val - 128) = r.val; omega)
    exact (dif_neg h).trans (dz1_none sg x0 x1 x2 x4 t hx4 c e ⟨r.val - 128, by omega⟩ (by rw [hr]; exact hq))

include hx0 hx1 hx2

/-- The gradient of a token that belongs to a sequence. -/
theorem dzV_seq (c : FVec Ideal S160x128 .f32) (q : Fin 5) (e : Fin 160) (r : Fin 256) (hq : sg (tk t r) = BitVec.ofNat 32 q.val) :
    dzV (F := Ideal) x0 x1 x2 x4 c (ix2 e r) = Spec.grad X sc W (tk t r) (fun e => c (ix2 e ⟨q.val, by omega⟩)) e := by
  by_cases h : r.val < 128
  · exact (dif_pos h).trans (dz0_seq X sc W sg x0 x1 x2 x4 t hx0 hx1 hx2 hx4 c q e ⟨r.val, h⟩ hq)
  · have hr : (⟨128 + (r.val - 128), by omega⟩ : Fin 256) = r := Fin.ext (by show 128 + (r.val - 128) = r.val; omega)
    refine (dif_neg h).trans ((dz1_seq X sc W sg x0 x1 x2 x4 t hx0 hx1 hx2 hx4 c q e ⟨r.val - 128, by omega⟩ (by rw [hr]; exact hq)).trans ?_)
    rw [hr]

/-- What token group `i` adds to lane `l` of the sums of probabilities. -/
def term (X : Fin 2048 → Fin 12288 → EReal) (sc : Fin 2048 → EReal) (W : Fin 160 → Fin 12288 → EReal) (sg : Fin 2048 → BitVec 32)
    (q : Fin 5) (e : Fin 160) (l : Fin 128) (i : ℕ) : EReal :=
  if h : i < 16 then (if Spec.inSeq sg q (tok ⟨i, h⟩ l) then Spec.s X sc W (tok ⟨i, h⟩ l) e else 0) else 0

/-- A tile adds its two groups. -/
theorem accNext_at (acc : Vec Ideal S5x160x128 .f32) (q : Fin 5) (e : Fin 160) (l : Fin 128) :
    accNext (F := Ideal) x0 x1 x2 x4 acc (ix3 q e l) = acc (ix3 q e l) + term X sc W sg q e l (2 * t.val) + term X sc W sg q e l (2 * t.val + 1) := by
  have e0 : term X sc W sg q e l (2 * t.val) = if Spec.inSeq sg q (tk t ⟨l.val, by omega⟩) then Spec.s X sc W (tk t ⟨l.val, by omega⟩) e else 0 := by
    rw [term, dif_pos (by omega)]
    have : tok ⟨2 * t.val, by omega⟩ l = tk t ⟨l.val, by omega⟩ := Fin.ext (by show 128 * (2 * t.val) + l.val = 256 * t.val + l.val; omega)
    rw [this]
  have e1 : term X sc W sg q e l (2 * t.val + 1) = if Spec.inSeq sg q (tk t ⟨128 + l.val, by omega⟩) then Spec.s X sc W (tk t ⟨128 + l.val, by omega⟩) e else 0 := by
    rw [term, dif_pos (by omega)]
    have : tok ⟨2 * t.val + 1, by omega⟩ l = tk t ⟨128 + l.val, by omega⟩ := Fin.ext (by show 128 * (2 * t.val + 1) + l.val = 256 * t.val + (128 + l.val); omega)
    rw [this]
  have g0 : sg0 (F := Ideal) x4 (ix2 0 l) = sg (tk t ⟨l.val, by omega⟩) := by
    rw [← hx4]; pointwise [sg0, k0_pay389, id0]
  have g1 : sg1 (F := Ideal) x4 (ix2 0 l) = sg (tk t ⟨128 + l.val, by omega⟩) := by
    rw [← hx4]; pointwise [sg1, k0_pay399, id1]
  rw [e0, e1, ← s0_at X sc W x0 x1 x2 t hx0 hx1 hx2, ← s1_at X sc W x0 x1 x2 t hx0 hx1 hx2]
  rw [← select_iff (c := IntOp.cmpi .eq (sg0 (F := Ideal) x4 (ix2 0 l)) (BitVec.ofNat 32 q.val)) (by rw [eq_iff, g0]),
    ← select_iff (c := IntOp.cmpi .eq (sg1 (F := Ideal) x4 (ix2 0 l)) (BitVec.ofNat 32 q.val)) (by rw [eq_iff, g1])]
  have hz : (FloatOps.ofBits (F := Ideal) .f32 0x00000000#32 : EReal) = 0 := by simp
  rw [← hz]
  rfl

end

/-- The sums of the lanes, divided by the token counts. -/
theorem pcol_at (acc : Vec Ideal S5x160x128 .f32) (t : Vec Ideal S1x128 .f32) (q : Fin 5) (e : Fin 160) :
    k0_pay382 (F := Ideal) lanes160 (sumsV (F := Ideal) acc) (k0_pay381) (View.ld acc (Rect.unit (s := S5x160x128) ![4, 0, 0] S1x160x128.size inb_S5x160x128_S1x160x128_4_0_0)) t (ix2 e ⟨q.val, by omega⟩)
      = Ideal.div (∑ l : Fin 128, acc (ix3 q e l)) (t (ix2 0 ⟨q.val, by omega⟩)) := by
  pointwise [k0_pay382, k0_pay381, sumsV, k0_pay380, lanes160]
  fin_cases q <;> rfl

/-- The stored probability: the lanes' sum over the token count. -/
theorem pV_at (acc : Vec Ideal S5x160x128 .f32) (t : Vec Ideal S1x128 .f32) (q : Fin 5) (e : Fin 160) :
    pV (F := Ideal) acc t (ix2 q e) = Ideal.div (∑ l : Fin 128, acc (ix3 q e l)) (t (ix2 0 ⟨q.val, by omega⟩)) := by
  rw [← pcol_at]
  pointwise [pV, k0_pay383]

/-- The stored expert loss of a sequence. -/
theorem leV_at (acc : Vec Ideal S5x160x128 .f32) (t : Vec Ideal S1x128 .f32) (f : Vec Ideal S160x128 .f32) (q : Fin 5) :
    leV (F := Ideal) acc t f (ix1 q) = Ideal.ofBits .f32 994352038#32 * ∑ e : Fin 160, f (ix2 e ⟨q.val, by omega⟩) * Ideal.div (∑ l : Fin 128, acc (ix3 q e l)) (t (ix2 0 ⟨q.val, by omega⟩)) := by
  simp only [← pcol_at]
  pointwise [leV, k0_pay384]

/-- The stored device loss of a sequence. -/
theorem ldV_at (acc : Vec Ideal S5x160x128 .f32) (t : Vec Ideal S1x128 .f32) (f : Vec Ideal S160x128 .f32) (q : Fin 5) :
    ldV (F := Ideal) acc t f (ix1 q) = Ideal.ofBits .f32 1028443341#32 * ∑ e : Fin 160, f (ix2 e ⟨q.val, by omega⟩) * Ideal.div (∑ l : Fin 128, acc (ix3 q e l)) (t (ix2 0 ⟨q.val, by omega⟩)) := by
  simp only [← pcol_at]
  pointwise [ldV, k0_pay385]

/-- The stored communication loss of a sequence. -/
theorem lcV_at (acc : Vec Ideal S5x160x128 .f32) (t : Vec Ideal S1x128 .f32) (f : Vec Ideal S160x128 .f32) (q : Fin 5) :
    lcV (F := Ideal) acc t f (ix1 q) = Ideal.ofBits .f32 1017370378#32 * ∑ e : Fin 160, f (ix2 e ⟨q.val, by omega⟩) * Ideal.div (∑ l : Fin 128, acc (ix3 q e l)) (t (ix2 0 ⟨q.val, by omega⟩)) := by
  simp only [← pcol_at]
  pointwise [lcV, k0_pay4, k0_pay386]

/-- The sixteen groups of the 128 lanes add up to the sum over the sequence's tokens. -/
theorem sum_terms (X : Fin 2048 → Fin 12288 → EReal) (sc : Fin 2048 → EReal) (W : Fin 160 → Fin 12288 → EReal) (sg : Fin 2048 → BitVec 32) (q : Fin 5) (e : Fin 160) :
    ∑ l : Fin 128, ∑ i ∈ Finset.range 16, term X sc W sg q e l i = ∑ t : Fin 2048, if Spec.inSeq sg q t then Spec.s X sc W t e else 0 := by
  rw [sum_tok]
  refine Finset.sum_congr rfl fun l _ => ?_
  rw [Finset.sum_range]
  refine Finset.sum_congr rfl fun n _ => ?_
  rw [term, dif_pos n.isLt]

end Cert.KernelIdeal.Sum
-- ==== Proof.KRun.Value.lean ====
/- The seven result arrays after the run of the kernel, each as a closed form of the arrays the kernel was given. -/
module

public import proofs.«01_k».proof.Proof.KRun.Frame
public import Idealize.ShloMosaic.Lib.Pipeline.Value

@[expose] public section

set_option maxRecDepth 16384

noncomputable section

namespace Cert.KernelIdeal.Run

open Cert.KernelIdeal Cert.KernelIdeal.Gen Cert.KernelIdeal.Val
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The logit gradient after the run: column `256 t + l` is column `l` of what point `t` stored. -/
def fin6 (c : Dev nD) : Buf (Elt F) ((c : Thread nD τ).loc main_v5_0) := fun (i : S160x2048.Idx) =>
  dzV (iblk m c 0 (tt ((i 1).val / 256))) (iblk m c 1 (tt ((i 1).val / 256))) (iblk m c 2 (tt ((i 1).val / 256))) (iblk m c 4 (tt ((i 1).val / 256)))
    (coefV (pE m c) (pD m c)) (ix2 ⟨(i 0).val, (i 0).isLt⟩ ⟨(i 1).val % 256, Nat.mod_lt _ (by decide)⟩)

/-- Which block of its array result window 6 (gradient) stands at, at each point. -/
theorem idx_facts6 : ∀ t : Fin cfg0.N, win0_6.index t (0 : Fin 2) = 0 ∧ win0_6.index t (1 : Fin 2) = t.val :=
  (by decide +kernel : ∀ t : Fin grid0.N, _)

/-- The gradient's window is written back at every point. -/
theorem flush6_all : ∀ t : Fin cfg0.N, (cfg0.win 6).flush t = true :=
  (by decide +kernel : ∀ t : Fin grid0.N, win0_6.flush t = true)

/-- What point `t` writes back to the logit gradient is block `t` of `fin6`. -/
theorem flushed6_eq (c : Dev nD) (t : Fin cfg0.N) :
    (dats m 0 c).flushed 6 t = ((cfg0.win 6).blk t).view.read (Elt F) (fin6 m c) := by
  show (cfg0.win 6).cut (grid0.coords t) ((dats m 0 c).after 6 t) = _
  rw [after0_6]
  obtain ⟨e0, e1⟩ := idx_facts6 t
  funext y
  have hy0 : (y 0).val < 160 := (y 0).isLt
  have hy1 : (y 1).val < 256 := (y 1).isLt
  have hb0 : (((cfg0.win 6).blk t).view.emb y 0).val = win0_6.index t (0 : Fin 2) * 160 + 1 * (y 0).val := rfl
  have hb1 : (((cfg0.win 6).blk t).view.emb y 1).val = win0_6.index t (1 : Fin 2) * 256 + 1 * (y 1).val := rfl
  have ht : tt ((((cfg0.win 6).blk t).view.emb y 1).val / 256) = t := by
    rw [hb1, e1, show (t.val * 256 + 1 * (y 1).val) / 256 = t.val from by omega, tt_val]
  have hl : (ix2 ⟨(((cfg0.win 6).blk t).view.emb y 0).val, (((cfg0.win 6).blk t).view.emb y 0).isLt⟩
      ⟨(((cfg0.win 6).blk t).view.emb y 1).val % 256, Nat.mod_lt _ (by decide)⟩ : S160x256.Idx) = (cfg0.win 6).xinj (grid0.coords t) y := by
    funext a; apply Fin.ext
    match a with
    | ⟨0, _⟩ => show (((cfg0.win 6).blk t).view.emb y 0).val = (y 0).val; rw [hb0]; omega
    | ⟨1, _⟩ => show (((cfg0.win 6).blk t).view.emb y 1).val % 256 = (y 1).val; rw [hb1]; omega
  show dzV (iblk m c 0 t) (iblk m c 1 t) (iblk m c 2 t) (iblk m c 4 t) (coefV (pE m c) (pD m c)) ((cfg0.win 6).xinj (grid0.coords t) y) = fin6 m c (((cfg0.win 6).blk t).view.emb y)
  unfold fin6
  rw [hl, ht]

/-- Every element of result 6 (gradient) lies in a block that is written back. -/
theorem cover6 (i : S160x2048.Idx) : ∃ t : Fin cfg0.N, (cfg0.win 6).flush t = true ∧ i ∈ ((cfg0.win 6).blk t).view.set := by
  have hi0 : (i 0).val < 160 := (i 0).isLt
  have hi1 : (i 1).val < 2048 := (i 1).isLt
  have hv : (tt ((i 1).val / 256)).val = (i 1).val / 256 := Nat.mod_eq_of_lt (by omega)
  generalize tt ((i 1).val / 256) = t at hv
  obtain ⟨e0, e1⟩ := idx_facts6 t
  refine ⟨t, flush6_all t, ?_⟩
  show i ∈ ((View.whole main_v5_0).slice (win0_6.rect t)).set
  rw [View.set_slice_whole, Rect.mem_set_unit]
  intro a
  match a with
  | ⟨0, _⟩ => show win0_6.index t (0 : Fin 2) * 160 ≤ (i 0).val ∧ (i 0).val < win0_6.index t (0 : Fin 2) * 160 + 160; omega
  | ⟨1, _⟩ => show win0_6.index t (1 : Fin 2) * 256 ≤ (i 1).val ∧ (i 1).val < win0_6.index t (1 : Fin 2) * 256 + 256; omega

/-- After the whole grid the array of result window 6 (gradient) holds its closed form. -/
theorem final6 (c : Dev nD) : (dats m 0 c).arrAt 6 cfg0.N = fin6 m c :=
  (dats m 0 c).arrAt_eq_of_cover 6 _ (fun t _ => flushed6_eq m c t) cover6

/-- The result the expert loss after the run. -/
def fin7 (c : Dev nD) : Buf (Elt F) ((c : Thread nD τ).loc main_v5_1) := leV (accAt m c 8) (tV (pE m c) (pD m c)) (fV (pE m c) (pD m c))

/-- Which block of its array result window 7 (expert loss) stands at, at each point. -/
theorem idx_facts7 : ∀ t : Fin cfg0.N, win0_7.index t (0 : Fin 1) = 0 :=
  (by decide +kernel : ∀ t : Fin grid0.N, _)

/-- The expert loss is written back at the last point only. -/
theorem last_of_flush7 : ∀ t : Fin cfg0.N, (cfg0.win 7).flush t = true → t.val = 7 :=
  (by decide +kernel : ∀ t : Fin grid0.N, win0_7.flush t = true → t.val = 7)

/-- Result window 7 (expert loss) is written back at the last point. -/
theorem flush7_last : (cfg0.win 7).flush (tt 7) = true :=
  (by decide +kernel : win0_7.flush (⟨7, by decide⟩ : Fin grid0.N) = true)

/-- What is written back from result window 7 (expert loss) is the closed form's block. -/
theorem flushed7_eq (c : Dev nD) (t : Fin cfg0.N) (hf : (cfg0.win 7).flush t = true) :
    (dats m 0 c).flushed 7 t = ((cfg0.win 7).blk t).view.read (Elt F) (fin7 m c) := by
  show (cfg0.win 7).cut (grid0.coords t) ((dats m 0 c).after 7 t) = _
  rw [after0_7]
  have ht : t.val = 7 := last_of_flush7 t hf
  rw [show t.val + 1 = 8 from by omega]
  have e0 := idx_facts7 t
  funext y
  have hl : ((cfg0.win 7).blk t).view.emb y = (cfg0.win 7).xinj (grid0.coords t) y := by
    funext a; apply Fin.ext
    match a with
    | ⟨0, _⟩ => show win0_7.index t (0 : Fin 1) * 5 + 1 * (y 0).val = (y 0).val; omega
  show (leV (accAt m c 8) (tV (pE m c) (pD m c)) (fV (pE m c) (pD m c))) ((cfg0.win 7).xinj (grid0.coords t) y) = fin7 m c (((cfg0.win 7).blk t).view.emb y)
  rw [hl]; rfl

/-- Every element of result 7 (expert loss) lies in a block that is written back. -/
theorem cover7 (i : S5.Idx) : ∃ t : Fin cfg0.N, (cfg0.win 7).flush t = true ∧ i ∈ ((cfg0.win 7).blk t).view.set := by
  have e0 := idx_facts7 (tt 7)
  refine ⟨tt 7, flush7_last, ?_⟩
  show i ∈ ((View.whole main_v5_1).slice (win0_7.rect (tt 7))).set
  rw [View.set_slice_whole, Rect.mem_set_unit]
  intro a
  match a with
  | ⟨0, _⟩ => show win0_7.index (tt 7) (0 : Fin 1) * 5 ≤ (i 0).val ∧ (i 0).val < win0_7.index (tt 7) (0 : Fin 1) * 5 + 5; have h : (i 0).val < 5 := (i 0).isLt; omega

/-- After the whole grid the array of result window 7 (expert loss) holds its closed form. -/
theorem final7 (c : Dev nD) : (dats m 0 c).arrAt 7 cfg0.N = fin7 m c :=
  (dats m 0 c).arrAt_eq_of_cover 7 _ (fun t hf => flushed7_eq m c t hf) cover7

/-- The result the device loss after the run. -/
def fin8 (c : Dev nD) : Buf (Elt F) ((c : Thread nD τ).loc main_v5_2) := ldV (accAt m c 8) (tV (pE m c) (pD m c)) (fdevV (pE m c) (pD m c))

/-- Which block of its array result window 8 (device loss) stands at, at each point. -/
theorem idx_facts8 : ∀ t : Fin cfg0.N, win0_8.index t (0 : Fin 1) = 0 :=
  (by decide +kernel : ∀ t : Fin grid0.N, _)

/-- The device loss is written back at the last point only. -/
theorem last_of_flush8 : ∀ t : Fin cfg0.N, (cfg0.win 8).flush t = true → t.val = 7 :=
  (by decide +kernel : ∀ t : Fin grid0.N, win0_8.flush t = true → t.val = 7)

/-- Result window 8 (device loss) is written back at the last point. -/
theorem flush8_last : (cfg0.win 8).flush (tt 7) = true :=
  (by decide +kernel : win0_8.flush (⟨7, by decide⟩ : Fin grid0.N) = true)

/-- What is written back from result window 8 (device loss) is the closed form's block. -/
theorem flushed8_eq (c : Dev nD) (t : Fin cfg0.N) (hf : (cfg0.win 8).flush t = true) :
    (dats m 0 c).flushed 8 t = ((cfg0.win 8).blk t).view.read (Elt F) (fin8 m c) := by
  show (cfg0.win 8).cut (grid0.coords t) ((dats m 0 c).after 8 t) = _
  rw [after0_8]
  have ht : t.val = 7 := last_of_flush8 t hf
  rw [show t.val + 1 = 8 from by omega]
  have e0 := idx_facts8 t
  funext y
  have hl : ((cfg0.win 8).blk t).view.emb y = (cfg0.win 8).xinj (grid0.coords t) y := by
    funext a; apply Fin.ext
    match a with
    | ⟨0, _⟩ => show win0_8.index t (0 : Fin 1) * 5 + 1 * (y 0).val = (y 0).val; omega
  show (ldV (accAt m c 8) (tV (pE m c) (pD m c)) (fdevV (pE m c) (pD m c))) ((cfg0.win 8).xinj (grid0.coords t) y) = fin8 m c (((cfg0.win 8).blk t).view.emb y)
  rw [hl]; rfl

/-- Every element of result 8 (device loss) lies in a block that is written back. -/
theorem cover8 (i : S5.Idx) : ∃ t : Fin cfg0.N, (cfg0.win 8).flush t = true ∧ i ∈ ((cfg0.win 8).blk t).view.set := by
  have e0 := idx_facts8 (tt 7)
  refine ⟨tt 7, flush8_last, ?_⟩
  show i ∈ ((View.whole main_v5_2).slice (win0_8.rect (tt 7))).set
  rw [View.set_slice_whole, Rect.mem_set_unit]
  intro a
  match a with
  | ⟨0, _⟩ => show win0_8.index (tt 7) (0 : Fin 1) * 5 ≤ (i 0).val ∧ (i 0).val < win0_8.index (tt 7) (0 : Fin 1) * 5 + 5; have h : (i 0).val < 5 := (i 0).isLt; omega

/-- After the whole grid the array of result window 8 (device loss) holds its closed form. -/
theorem final8 (c : Dev nD) : (dats m 0 c).arrAt 8 cfg0.N = fin8 m c :=
  (dats m 0 c).arrAt_eq_of_cover 8 _ (fun t hf => flushed8_eq m c t hf) cover8

/-- The result the communication loss after the run. -/
def fin9 (c : Dev nD) : Buf (Elt F) ((c : Thread nD τ).loc main_v5_3) := lcV (accAt m c 8) (tV (pE m c) (pD m c)) (fcommV (pE m c) (pD m c))

/-- Which block of its array result window 9 (communication loss) stands at, at each point. -/
theorem idx_facts9 : ∀ t : Fin cfg0.N, win0_9.index t (0 : Fin 1) = 0 :=
  (by decide +kernel : ∀ t : Fin grid0.N, _)

/-- The communication loss is written back at the last point only. -/
theorem last_of_flush9 : ∀ t : Fin cfg0.N, (cfg0.win 9).flush t = true → t.val = 7 :=
  (by decide +kernel : ∀ t : Fin grid0.N, win0_9.flush t = true → t.val = 7)

/-- Result window 9 (communication loss) is written back at the last point. -/
theorem flush9_last : (cfg0.win 9).flush (tt 7) = true :=
  (by decide +kernel : win0_9.flush (⟨7, by decide⟩ : Fin grid0.N) = true)

/-- What is written back from result window 9 (communication loss) is the closed form's block. -/
theorem flushed9_eq (c : Dev nD) (t : Fin cfg0.N) (hf : (cfg0.win 9).flush t = true) :
    (dats m 0 c).flushed 9 t = ((cfg0.win 9).blk t).view.read (Elt F) (fin9 m c) := by
  show (cfg0.win 9).cut (grid0.coords t) ((dats m 0 c).after 9 t) = _
  rw [after0_9]
  have ht : t.val = 7 := last_of_flush9 t hf
  rw [show t.val + 1 = 8 from by omega]
  have e0 := idx_facts9 t
  funext y
  have hl : ((cfg0.win 9).blk t).view.emb y = (cfg0.win 9).xinj (grid0.coords t) y := by
    funext a; apply Fin.ext
    match a with
    | ⟨0, _⟩ => show win0_9.index t (0 : Fin 1) * 5 + 1 * (y 0).val = (y 0).val; omega
  show (lcV (accAt m c 8) (tV (pE m c) (pD m c)) (fcommV (pE m c) (pD m c))) ((cfg0.win 9).xinj (grid0.coords t) y) = fin9 m c (((cfg0.win 9).blk t).view.emb y)
  rw [hl]; rfl

/-- Every element of result 9 (communication loss) lies in a block that is written back. -/
theorem cover9 (i : S5.Idx) : ∃ t : Fin cfg0.N, (cfg0.win 9).flush t = true ∧ i ∈ ((cfg0.win 9).blk t).view.set := by
  have e0 := idx_facts9 (tt 7)
  refine ⟨tt 7, flush9_last, ?_⟩
  show i ∈ ((View.whole main_v5_3).slice (win0_9.rect (tt 7))).set
  rw [View.set_slice_whole, Rect.mem_set_unit]
  intro a
  match a with
  | ⟨0, _⟩ => show win0_9.index (tt 7) (0 : Fin 1) * 5 ≤ (i 0).val ∧ (i 0).val < win0_9.index (tt 7) (0 : Fin 1) * 5 + 5; have h : (i 0).val < 5 := (i 0).isLt; omega

/-- After the whole grid the array of result window 9 (communication loss) holds its closed form. -/
theorem final9 (c : Dev nD) : (dats m 0 c).arrAt 9 cfg0.N = fin9 m c :=
  (dats m 0 c).arrAt_eq_of_cover 9 _ (fun t hf => flushed9_eq m c t hf) cover9

/-- The result the mean probabilities after the run. -/
def fin10 (c : Dev nD) : Buf (Elt F) ((c : Thread nD τ).loc main_v5_4) := pV (accAt m c 8) (tV (pE m c) (pD m c))

/-- Which block of its array result window 10 (probabilities) stands at, at each point. -/
theorem idx_facts10 : ∀ t : Fin cfg0.N, win0_10.index t (0 : Fin 2) = 0 ∧ win0_10.index t (1 : Fin 2) = 0 :=
  (by decide +kernel : ∀ t : Fin grid0.N, _)

/-- The probabilities are written back at the last point only. -/
theorem last_of_flush10 : ∀ t : Fin cfg0.N, (cfg0.win 10).flush t = true → t.val = 7 :=
  (by decide +kernel : ∀ t : Fin grid0.N, win0_10.flush t = true → t.val = 7)

/-- Result window 10 (probabilities) is written back at the last point. -/
theorem flush10_last : (cfg0.win 10).flush (tt 7) = true :=
  (by decide +kernel : win0_10.flush (⟨7, by decide⟩ : Fin grid0.N) = true)

/-- What is written back from result window 10 (probabilities) is the closed form's block. -/
theorem flushed10_eq (c : Dev nD) (t : Fin cfg0.N) (hf : (cfg0.win 10).flush t = true) :
    (dats m 0 c).flushed 10 t = ((cfg0.win 10).blk t).view.read (Elt F) (fin10 m c) := by
  show (cfg0.win 10).cut (grid0.coords t) ((dats m 0 c).after 10 t) = _
  rw [after0_10]
  have ht : t.val = 7 := last_of_flush10 t hf
  rw [show t.val + 1 = 8 from by omega]
  obtain ⟨e0, e1⟩ := idx_facts10 t
  funext y
  have hl : ((cfg0.win 10).blk t).view.emb y = (cfg0.win 10).xinj (grid0.coords t) y := by
    funext a; apply Fin.ext
    match a with
    | ⟨0, _⟩ => show win0_10.index t (0 : Fin 2) * 5 + 1 * (y 0).val = (y 0).val; omega
    | ⟨1, _⟩ => show win0_10.index t (1 : Fin 2) * 160 + 1 * (y 1).val = (y 1).val; omega
  show (pV (accAt m c 8) (tV (pE m c) (pD m c))) ((cfg0.win 10).xinj (grid0.coords t) y) = fin10 m c (((cfg0.win 10).blk t).view.emb y)
  rw [hl]; rfl

/-- Every element of result 10 (probabilities) lies in a block that is written back. -/
theorem cover10 (i : S5x160.Idx) : ∃ t : Fin cfg0.N, (cfg0.win 10).flush t = true ∧ i ∈ ((cfg0.win 10).blk t).view.set := by
  obtain ⟨e0, e1⟩ := idx_facts10 (tt 7)
  refine ⟨tt 7, flush10_last, ?_⟩
  show i ∈ ((View.whole main_v5_4).slice (win0_10.rect (tt 7))).set
  rw [View.set_slice_whole, Rect.mem_set_unit]
  intro a
  match a with
  | ⟨0, _⟩ => show win0_10.index (tt 7) (0 : Fin 2) * 5 ≤ (i 0).val ∧ (i 0).val < win0_10.index (tt 7) (0 : Fin 2) * 5 + 5; have h : (i 0).val < 5 := (i 0).isLt; omega
  | ⟨1, _⟩ => show win0_10.index (tt 7) (1 : Fin 2) * 160 ≤ (i 1).val ∧ (i 1).val < win0_10.index (tt 7) (1 : Fin 2) * 160 + 160; have h : (i 1).val < 160 := (i 1).isLt; omega

/-- After the whole grid the array of result window 10 (probabilities) holds its closed form. -/
theorem final10 (c : Dev nD) : (dats m 0 c).arrAt 10 cfg0.N = fin10 m c :=
  (dats m 0 c).arrAt_eq_of_cover 10 _ (fun t hf => flushed10_eq m c t hf) cover10

/-- The result the expert counts after the run. -/
def fin11 (c : Dev nD) : Buf (Elt F) ((c : Thread nD τ).loc main_v5_5) := cntV (pE m c)

/-- Which block of its array result window 11 (expert counts) stands at, at each point. -/
theorem idx_facts11 : ∀ t : Fin cfg0.N, win0_11.index t (0 : Fin 2) = 0 ∧ win0_11.index t (1 : Fin 2) = 0 :=
  (by decide +kernel : ∀ t : Fin grid0.N, _)

/-- The expert counts are written back at the last point only. -/
theorem last_of_flush11 : ∀ t : Fin cfg0.N, (cfg0.win 11).flush t = true → t.val = 7 :=
  (by decide +kernel : ∀ t : Fin grid0.N, win0_11.flush t = true → t.val = 7)

/-- Result window 11 (expert counts) is written back at the last point. -/
theorem flush11_last : (cfg0.win 11).flush (tt 7) = true :=
  (by decide +kernel : win0_11.flush (⟨7, by decide⟩ : Fin grid0.N) = true)

/-- What is written back from result window 11 (expert counts) is the closed form's block. -/
theorem flushed11_eq (c : Dev nD) (t : Fin cfg0.N) (hf : (cfg0.win 11).flush t = true) :
    (dats m 0 c).flushed 11 t = ((cfg0.win 11).blk t).view.read (Elt F) (fin11 m c) := by
  show (cfg0.win 11).cut (grid0.coords t) ((dats m 0 c).after 11 t) = _
  rw [after0_11]
  obtain ⟨e0, e1⟩ := idx_facts11 t
  funext y
  have hl : ((cfg0.win 11).blk t).view.emb y = (cfg0.win 11).xinj (grid0.coords t) y := by
    funext a; apply Fin.ext
    match a with
    | ⟨0, _⟩ => show win0_11.index t (0 : Fin 2) * 5 + 1 * (y 0).val = (y 0).val; omega
    | ⟨1, _⟩ => show win0_11.index t (1 : Fin 2) * 160 + 1 * (y 1).val = (y 1).val; omega
  show (cntV (pE m c)) ((cfg0.win 11).xinj (grid0.coords t) y) = fin11 m c (((cfg0.win 11).blk t).view.emb y)
  rw [hl]; rfl

/-- Every element of result 11 (expert counts) lies in a block that is written back. -/
theorem cover11 (i : S5x160.Idx) : ∃ t : Fin cfg0.N, (cfg0.win 11).flush t = true ∧ i ∈ ((cfg0.win 11).blk t).view.set := by
  obtain ⟨e0, e1⟩ := idx_facts11 (tt 7)
  refine ⟨tt 7, flush11_last, ?_⟩
  show i ∈ ((View.whole main_v5_5).slice (win0_11.rect (tt 7))).set
  rw [View.set_slice_whole, Rect.mem_set_unit]
  intro a
  match a with
  | ⟨0, _⟩ => show win0_11.index (tt 7) (0 : Fin 2) * 5 ≤ (i 0).val ∧ (i 0).val < win0_11.index (tt 7) (0 : Fin 2) * 5 + 5; have h : (i 0).val < 5 := (i 0).isLt; omega
  | ⟨1, _⟩ => show win0_11.index (tt 7) (1 : Fin 2) * 160 ≤ (i 1).val ∧ (i 1).val < win0_11.index (tt 7) (1 : Fin 2) * 160 + 160; have h : (i 1).val < 160 := (i 1).isLt; omega

/-- After the whole grid the array of result window 11 (expert counts) holds its closed form. -/
theorem final11 (c : Dev nD) : (dats m 0 c).arrAt 11 cfg0.N = fin11 m c :=
  (dats m 0 c).arrAt_eq_of_cover 11 _ (fun t hf => flushed11_eq m c t hf) cover11

/-- The result the device counts after the run. -/
def fin12 (c : Dev nD) : Buf (Elt F) ((c : Thread nD τ).loc main_v5_6) := devV (pD m c)

/-- Which block of its array result window 12 (device counts) stands at, at each point. -/
theorem idx_facts12 : ∀ t : Fin cfg0.N, win0_12.index t (0 : Fin 2) = 0 ∧ win0_12.index t (1 : Fin 2) = 0 :=
  (by decide +kernel : ∀ t : Fin grid0.N, _)

/-- The device counts are written back at the last point only. -/
theorem last_of_flush12 : ∀ t : Fin cfg0.N, (cfg0.win 12).flush t = true → t.val = 7 :=
  (by decide +kernel : ∀ t : Fin grid0.N, win0_12.flush t = true → t.val = 7)

/-- Result window 12 (device counts) is written back at the last point. -/
theorem flush12_last : (cfg0.win 12).flush (tt 7) = true :=
  (by decide +kernel : win0_12.flush (⟨7, by decide⟩ : Fin grid0.N) = true)

/-- What is written back from result window 12 (device counts) is the closed form's block. -/
theorem flushed12_eq (c : Dev nD) (t : Fin cfg0.N) (hf : (cfg0.win 12).flush t = true) :
    (dats m 0 c).flushed 12 t = ((cfg0.win 12).blk t).view.read (Elt F) (fin12 m c) := by
  show (cfg0.win 12).cut (grid0.coords t) ((dats m 0 c).after 12 t) = _
  rw [after0_12]
  obtain ⟨e0, e1⟩ := idx_facts12 t
  funext y
  have hl : ((cfg0.win 12).blk t).view.emb y = (cfg0.win 12).xinj (grid0.coords t) y := by
    funext a; apply Fin.ext
    match a with
    | ⟨0, _⟩ => show win0_12.index t (0 : Fin 2) * 5 + 1 * (y 0).val = (y 0).val; omega
    | ⟨1, _⟩ => show win0_12.index t (1 : Fin 2) * 8 + 1 * (y 1).val = (y 1).val; omega
  show (devV (pD m c)) ((cfg0.win 12).xinj (grid0.coords t) y) = fin12 m c (((cfg0.win 12).blk t).view.emb y)
  rw [hl]; rfl

/-- Every element of result 12 (device counts) lies in a block that is written back. -/
theorem cover12 (i : S5x8.Idx) : ∃ t : Fin cfg0.N, (cfg0.win 12).flush t = true ∧ i ∈ ((cfg0.win 12).blk t).view.set := by
  obtain ⟨e0, e1⟩ := idx_facts12 (tt 7)
  refine ⟨tt 7, flush12_last, ?_⟩
  show i ∈ ((View.whole main_v5_6).slice (win0_12.rect (tt 7))).set
  rw [View.set_slice_whole, Rect.mem_set_unit]
  intro a
  match a with
  | ⟨0, _⟩ => show win0_12.index (tt 7) (0 : Fin 2) * 5 ≤ (i 0).val ∧ (i 0).val < win0_12.index (tt 7) (0 : Fin 2) * 5 + 5; have h : (i 0).val < 5 := (i 0).isLt; omega
  | ⟨1, _⟩ => show win0_12.index (tt 7) (1 : Fin 2) * 8 ≤ (i 1).val ∧ (i 1).val < win0_12.index (tt 7) (1 : Fin 2) * 8 + 8; have h : (i 1).val < 8 := (i 1).isLt; omega

/-- After the whole grid the array of result window 12 (device counts) holds its closed form. -/
theorem final12 (c : Dev nD) : (dats m 0 c).arrAt 12 cfg0.N = fin12 m c :=
  (dats m 0 c).arrAt_eq_of_cover 12 _ (fun t hf => flushed12_eq m c t hf) cover12

/-- The run of the kernel with its seven results named. -/
theorem run : θ_run defs (onTc (τ := τ) (main (F := F))) ⟨m, fun _ => 0, ρ⟩ fun r => ∀ c : Dev nD,
      r.2.mem ((c : Thread nD τ).loc main_v5_0) = fin6 m c
      ∧ r.2.mem ((c : Thread nD τ).loc main_v5_1) = fin7 m c
      ∧ r.2.mem ((c : Thread nD τ).loc main_v5_2) = fin8 m c
      ∧ r.2.mem ((c : Thread nD τ).loc main_v5_3) = fin9 m c
      ∧ r.2.mem ((c : Thread nD τ).loc main_v5_4) = fin10 m c
      ∧ r.2.mem ((c : Thread nD τ).loc main_v5_5) = fin11 m c
      ∧ r.2.mem ((c : Thread nD τ).loc main_v5_6) = fin12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 6).trans (final6 m c),
      ((h c).1 7).trans (final7 m c),
      ((h c).1 8).trans (final8 m c),
      ((h c).1 9).trans (final9 m c),
      ((h c).1 10).trans (final10 m c),
      ((h c).1 11).trans (final11 m c),
      ((h c).1 12).trans (final12 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Run
-- ==== Proof.Sum.KerD.lean ====
/- The kernel's seven results, read at an index, as the mathematics of its arguments. -/
module

public import proofs.«01_k».proof.Proof.Sum.KerC
public import proofs.«01_k».proof.Proof.KRun.Value

@[expose] public section

set_option maxRecDepth 16384

noncomputable section

namespace Cert.KernelIdeal.Sum

open Idealize.ShloMosaic Idealize.ShloMosaic.TcCoe
open Cert.KernelIdeal Cert.KernelIdeal.Gen Cert.KernelIdeal.Val Cert.KernelIdeal.Run

variable (m : (ℓ : Loc nD τ sig) → Buf (Elt Ideal) ℓ) (c : Dev nD)

/-- The five argument arrays of core `c`, as plain functions. -/
def aX (t : Fin 2048) (k : Fin 12288) : EReal := (m ((c : Thread nD τ).loc main_arg0) : Vec Ideal S2048x12288 .fp8e4m3) (ix2 t k)
/-- The scale of token `t`. -/
def aSc (t : Fin 2048) : EReal := (m ((c : Thread nD τ).loc main_arg1) : Vec Ideal S2048 .f32) (ix1 t)
/-- The weight of expert `e` at coordinate `k`. -/
def aW (e : Fin 160) (k : Fin 12288) : EReal := (m ((c : Thread nD τ).loc main_arg2) : Vec Ideal S12288x160 .bf16) (ix2 k e)
/-- The `k`th expert id of token `t`. -/
def aIds (t : Fin 2048) (k : Fin 6) : BitVec 32 := (m ((c : Thread nD τ).loc main_arg3) : Vec Ideal S2048x6 .i32) (ix2 t k)
/-- The sequence id of token `t`. -/
def aSg (t : Fin 2048) : BitVec 32 := (m ((c : Thread nD τ).loc main_arg4) : Vec Ideal S2048 .i32) (ix1 t)

/-- Operand 1 of the call, as the host made it from an argument. -/
theorem V_v0 : V m c main_v0 = shapeCast S1x2048 (m ((c : Thread nD τ).loc main_arg1)) shapeCasts_S2048_S1x2048 := by rfl
/-- Operand 2 of the call, as the host made it from an argument. -/
theorem V_v1 : V m c main_v1 = transpose S160x12288 [1, 0] (m ((c : Thread nD τ).loc main_arg2)) transposes_S12288x160_S160x12288_1_0 := by rfl
/-- Operand 3 of the call, as the host made it from an argument. -/
theorem V_v2 : V m c main_v2 = transpose S6x2048 [1, 0] (m ((c : Thread nD τ).loc main_arg3)) transposes_S2048x6_S6x2048_1_0 := by rfl
/-- Operand 4 of the call, as the host made it from an argument. -/
theorem V_v3 : V m c main_v3 = shapeCast S1x2048 (m ((c : Thread nD τ).loc main_arg4)) shapeCasts_S2048_S1x2048 := by rfl
/-- Operand 5 of the call, as the host made it from an argument. -/
theorem V_v4 : V m c main_v4 = shapeCast S1x2048 (m ((c : Thread nD τ).loc main_arg4)) shapeCasts_S2048_S1x2048 := by rfl

/-- The scales that the call is given. -/
theorem v0_at (t : Fin 2048) : (V m c main_v0 : Vec Ideal S1x2048 .f32) (ix2 0 t) = aSc m c t := by
  rw [V_v0]; unfold aSc; generalize m ((c : Thread nD τ).loc main_arg1) = a; pointwise
/-- The weights that the call is given. -/
theorem v1_at (e : Fin 160) (k : Fin 12288) : (V m c main_v1 : Vec Ideal S160x12288 .bf16) (ix2 e k) = aW m c e k := by
  rw [V_v1]; unfold aW; generalize m ((c : Thread nD τ).loc main_arg2) = a; pointwise
/-- The expert ids that the call is given. -/
theorem v2_at (k : Fin 6) (t : Fin 2048) : (V m c main_v2 : Vec Ideal S6x2048 .i32) (ix2 k t) = aIds m c t k := by
  rw [V_v2]; unfold aIds; generalize m ((c : Thread nD τ).loc main_arg3) = a; pointwise
/-- The row of sequence ids that the call is given tile by tile. -/
theorem v3_at (t : Fin 2048) : (V m c main_v3 : Vec Ideal S1x2048 .i32) (ix2 0 t) = aSg m c t := by
  rw [V_v3]; unfold aSg; generalize m ((c : Thread nD τ).loc main_arg4) = a; pointwise
/-- The row of sequence ids that the call is given whole. -/
theorem v4_at (t : Fin 2048) : (V m c main_v4 : Vec Ideal S1x2048 .i32) (ix2 0 t) = aSg m c t := by
  rw [V_v4]; unfold aSg; generalize m ((c : Thread nD τ).loc main_arg4) = a; pointwise

/-- Which block of the codes the window stands at, at each point. -/
theorem wfacts0 : ∀ t : Fin cfg0.N, win0_0.index t (0 : Fin 2) = t.val ∧ win0_0.index t (1 : Fin 2) = 0 := (by decide +kernel : ∀ t : Fin grid0.N, _)
/-- Which block of the scales the window stands at, at each point. -/
theorem wfacts1 : ∀ t : Fin cfg0.N, win0_1.index t (0 : Fin 2) = 0 ∧ win0_1.index t (1 : Fin 2) = t.val := (by decide +kernel : ∀ t : Fin grid0.N, _)
/-- Which block of the weights the window stands at, at each point. -/
theorem wfacts2 : ∀ t : Fin cfg0.N, win0_2.index t (0 : Fin 2) = 0 ∧ win0_2.index t (1 : Fin 2) = 0 := (by decide +kernel : ∀ t : Fin grid0.N, _)
/-- Which block of the expert ids the window stands at, at each point. -/
theorem wfacts3 : ∀ t : Fin cfg0.N, win0_3.index t (0 : Fin 2) = 0 ∧ win0_3.index t (1 : Fin 2) = 0 := (by decide +kernel : ∀ t : Fin grid0.N, _)
/-- Which block of the sequence ids the window stands at, at each point. -/
theorem wfacts4 : ∀ t : Fin cfg0.N, win0_4.index t (0 : Fin 2) = 0 ∧ win0_4.index t (1 : Fin 2) = t.val := (by decide +kernel : ∀ t : Fin grid0.N, _)
/-- Which block of the whole row of sequence ids the window stands at, at each point. -/
theorem wfacts5 : ∀ t : Fin cfg0.N, win0_5.index t (0 : Fin 2) = 0 ∧ win0_5.index t (1 : Fin 2) = 0 := (by decide +kernel : ∀ t : Fin grid0.N, _)

/-- The point of a tile's number. -/
theorem tt_fin (t : Fin 8) : (tt t.val).val = t.val := Nat.mod_eq_of_lt t.isLt

/-- The blocks of the inputs at point `t`. -/
theorem iblk0_at (t : Fin 8) (r : Fin 256) (k : Fin 12288) : (iblk m c 0 (tt t.val) : Vec Ideal S256x12288 .fp8e4m3) (ix2 r k) = aX m c (tk t r) k := by
  have hv := tt_fin t
  generalize tt t.val = u at hv
  obtain ⟨e0, e1⟩ := wfacts0 u
  refine (show _ = (V m c main_arg0 : Vec Ideal S2048x12288 .fp8e4m3) (((cfg0.win 0).blk u).view.emb (ix2 r k)) from rfl).trans ?_
  rw [V_main_arg0]
  refine congrArg (m ((c : Thread nD τ).loc main_arg0)) ?_
  funext a; apply Fin.ext
  match a with
  | ⟨0, _⟩ => show win0_0.index u (0 : Fin 2) * 256 + 1 * r.val = 256 * t.val + r.val; omega
  | ⟨1, _⟩ => show win0_0.index u (1 : Fin 2) * 12288 + 1 * k.val = k.val; omega

/-- The block of the scales that a point finds. -/
theorem iblk1_at (t : Fin 8) (r : Fin 256) : (iblk m c 1 (tt t.val) : Vec Ideal S1x256 .f32) (ix2 0 r) = aSc m c (tk t r) := by
  have hv := tt_fin t
  generalize tt t.val = u at hv
  obtain ⟨e0, e1⟩ := wfacts1 u
  refine (show _ = (V m c main_v0 : Vec Ideal S1x2048 .f32) (((cfg0.win 1).blk u).view.emb (ix2 0 r)) from rfl).trans ?_
  rw [← v0_at]
  refine congrArg (V m c main_v0) ?_
  funext a; apply Fin.ext
  match a with
  | ⟨0, _⟩ => show win0_1.index u (0 : Fin 2) * 1 + 1 * 0 = 0; omega
  | ⟨1, _⟩ => show win0_1.index u (1 : Fin 2) * 256 + 1 * r.val = 256 * t.val + r.val; omega

/-- The block of the weights that a point finds. -/
theorem iblk2_at (t : Fin 8) (e : Fin 160) (k : Fin 12288) : (iblk m c 2 (tt t.val) : Vec Ideal S160x12288 .bf16) (ix2 e k) = aW m c e k := by
  generalize tt t.val = u
  obtain ⟨e0, e1⟩ := wfacts2 u
  refine (show _ = (V m c main_v1 : Vec Ideal S160x12288 .bf16) (((cfg0.win 2).blk u).view.emb (ix2 e k)) from rfl).trans ?_
  rw [← v1_at]
  refine congrArg (V m c main_v1) ?_
  funext a; apply Fin.ext
  match a with
  | ⟨0, _⟩ => show win0_2.index u (0 : Fin 2) * 160 + 1 * e.val = e.val; omega
  | ⟨1, _⟩ => show win0_2.index u (1 : Fin 2) * 12288 + 1 * k.val = k.val; omega

/-- The block of the expert ids that a point finds. -/
theorem iblk3_at (t : ℕ) (j : Fin 2048) (k : Fin 6) : (iblk m c 3 (tt t) : Vec Ideal S6x2048 .i32) (ix2 k j) = aIds m c j k := by
  generalize tt t = u
  obtain ⟨e0, e1⟩ := wfacts3 u
  refine (show _ = (V m c main_v2 : Vec Ideal S6x2048 .i32) (((cfg0.win 3).blk u).view.emb (ix2 k j)) from rfl).trans ?_
  rw [← v2_at]
  refine congrArg (V m c main_v2) ?_
  funext a; apply Fin.ext
  match a with
  | ⟨0, _⟩ => show win0_3.index u (0 : Fin 2) * 6 + 1 * k.val = k.val; omega
  | ⟨1, _⟩ => show win0_3.index u (1 : Fin 2) * 2048 + 1 * j.val = j.val; omega

/-- The block of the tile of sequence ids that a point finds. -/
theorem iblk4_at (t : Fin 8) (r : Fin 256) : (iblk m c 4 (tt t.val) : Vec Ideal S1x256 .i32) (ix2 0 r) = aSg m c (tk t r) := by
  have hv := tt_fin t
  generalize tt t.val = u at hv
  obtain ⟨e0, e1⟩ := wfacts4 u
  refine (show _ = (V m c main_v3 : Vec Ideal S1x2048 .i32) (((cfg0.win 4).blk u).view.emb (ix2 0 r)) from rfl).trans ?_
  rw [← v3_at]
  refine congrArg (V m c main_v3) ?_
  funext a; apply Fin.ext
  match a with
  | ⟨0, _⟩ => show win0_4.index u (0 : Fin 2) * 1 + 1 * 0 = 0; omega
  | ⟨1, _⟩ => show win0_4.index u (1 : Fin 2) * 256 + 1 * r.val = 256 * t.val + r.val; omega

/-- The block of the whole row of sequence ids that a point finds. -/
theorem iblk5_at (t : ℕ) (j : Fin 2048) : (iblk m c 5 (tt t) : Vec Ideal S1x2048 .i32) (ix2 0 j) = aSg m c j := by
  generalize tt t = u
  obtain ⟨e0, e1⟩ := wfacts5 u
  refine (show _ = (V m c main_v4 : Vec Ideal S1x2048 .i32) (((cfg0.win 5).blk u).view.emb (ix2 0 j)) from rfl).trans ?_
  rw [← v4_at]
  refine congrArg (V m c main_v4) ?_
  funext a; apply Fin.ext
  match a with
  | ⟨0, _⟩ => show win0_5.index u (0 : Fin 2) * 1 + 1 * 0 = 0; omega
  | ⟨1, _⟩ => show win0_5.index u (1 : Fin 2) * 2048 + 1 * j.val = j.val; omega

/-- The sums of probabilities after `n` points. -/
theorem accAt_at (n : ℕ) (hn : n ≤ 8) (q : Fin 5) (e : Fin 160) (l : Fin 128) :
    (accAt m c n : Vec Ideal S5x160x128 .f32) (ix3 q e l) = ∑ i ∈ Finset.range (2 * n), term (aX m c) (aSc m c) (aW m c) (aSg m c) q e l i := by
  induction n with
  | zero => simp only [Nat.mul_zero, Finset.range_zero, Finset.sum_empty]; unfold accAt; pointwise [k0_pay387]
  | succ n ih =>
    have h := accNext_at (aX m c) (aSc m c) (aW m c) (aSg m c) _ _ _ _ ⟨n, by omega⟩ (iblk0_at m c ⟨n, by omega⟩) (iblk1_at m c ⟨n, by omega⟩)
      (iblk2_at m c ⟨n, by omega⟩) (iblk4_at m c ⟨n, by omega⟩) (accAt m c n) q e l
    refine (show (accAt m c (n + 1) : Vec Ideal S5x160x128 .f32) (ix3 q e l) = _ from h).trans ?_
    rw [ih (by omega), show 2 * (n + 1) = 2 * n + 1 + 1 by omega, Finset.sum_range_succ, Finset.sum_range_succ]

/-- The sums after all tiles, added over the lanes: the probabilities of the sequence's tokens. -/
theorem accAt_sum (q : Fin 5) (e : Fin 160) : ∑ l : Fin 128, (accAt m c 8 : Vec Ideal S5x160x128 .f32) (ix3 q e l)
    = ∑ t : Fin 2048, if Spec.inSeq (aSg m c) q t then Spec.s (aX m c) (aSc m c) (aW m c) t e else 0 := by
  rw [← sum_terms]
  exact Finset.sum_congr rfl fun l _ => accAt_at m c 8 (le_refl _) q e l

/-- The mean probabilities. -/
theorem fin10_at (q : Fin 5) (e : Fin 160) : (fin10 m c : Vec Ideal S5x160 .f32) (ix2 q e) = Spec.P (aX m c) (aSc m c) (aW m c) (aSg m c) q e := by
  unfold fin10 pE pD
  rw [pV_at, accAt_sum, tV_at (aIds m c) (aSg m c) _ _ (iblk3_at m c 0) (iblk5_at m c 0), Spec.P]

/-- The three losses. -/
theorem fin7_at (q : Fin 5) : (fin7 m c : Vec Ideal S5 .f32) (ix1 q) = Spec.le (aX m c) (aSc m c) (aW m c) (aIds m c) (aSg m c) q := by
  unfold fin7 pE pD
  have h3 := iblk3_at m c 0
  have h5 := iblk5_at m c 0
  have ha := accAt_sum m c q
  generalize (iblk m c 3 (tt 0) : Vec Ideal S6x2048 .i32) = x3 at h3 ⊢
  generalize (iblk m c 5 (tt 0) : Vec Ideal S1x2048 .i32) = x5 at h5 ⊢
  generalize (accAt m c 8 : Vec Ideal S5x160x128 .f32) = A at ha ⊢
  refine (leV_at A _ _ q).trans (congrArg (_ * ·) (Finset.sum_congr rfl fun e _ => ?_))
  rw [tV_at (aIds m c) (aSg m c) x3 x5 h3 h5, fV_at (aIds m c) (aSg m c) x3 x5 h3 h5, ha]
  rfl

/-- The kernel's device losses. -/
theorem fin8_at (q : Fin 5) : (fin8 m c : Vec Ideal S5 .f32) (ix1 q) = Spec.ld (aX m c) (aSc m c) (aW m c) (aIds m c) (aSg m c) q := by
  unfold fin8 pE pD
  have h3 := iblk3_at m c 0
  have h5 := iblk5_at m c 0
  have ha := accAt_sum m c q
  generalize (iblk m c 3 (tt 0) : Vec Ideal S6x2048 .i32) = x3 at h3 ⊢
  generalize (iblk m c 5 (tt 0) : Vec Ideal S1x2048 .i32) = x5 at h5 ⊢
  generalize (accAt m c 8 : Vec Ideal S5x160x128 .f32) = A at ha ⊢
  refine (ldV_at A _ _ q).trans (congrArg (_ * ·) (Finset.sum_congr rfl fun e _ => ?_))
  rw [tV_at (aIds m c) (aSg m c) x3 x5 h3 h5, fdevV_at (aIds m c) (aSg m c) x3 x5 h3 h5, ha]
  rfl

/-- The kernel's communication losses. -/
theorem fin9_at (q : Fin 5) : (fin9 m c : Vec Ideal S5 .f32) (ix1 q) = Spec.lc (aX m c) (aSc m c) (aW m c) (aIds m c) (aSg m c) q := by
  unfold fin9 pE pD
  have h3 := iblk3_at m c 0
  have h5 := iblk5_at m c 0
  have ha := accAt_sum m c q
  generalize (iblk m c 3 (tt 0) : Vec Ideal S6x2048 .i32) = x3 at h3 ⊢
  generalize (iblk m c 5 (tt 0) : Vec Ideal S1x2048 .i32) = x5 at h5 ⊢
  generalize (accAt m c 8 : Vec Ideal S5x160x128 .f32) = A at ha ⊢
  refine (lcV_at A _ _ q).trans (congrArg (_ * ·) (Finset.sum_congr rfl fun e _ => ?_))
  rw [tV_at (aIds m c) (aSg m c) x3 x5 h3 h5, fcommV_at (aIds m c) (aSg m c) x3 x5 h3 h5, ha]
  rfl

/-- The counts. -/
theorem fin11_at (q : Fin 5) (e : Fin 160) : (fin11 m c : Vec Ideal S5x160 .i32) (ix2 q e) = BitVec.ofNat 32 (Spec.nE (aIds m c) (aSg m c) q e) :=
  cntV_at (aIds m c) (aSg m c) _ _ (iblk3_at m c 0) (iblk5_at m c 0) q e

/-- The kernel's device counts. -/
theorem fin12_at (q : Fin 5) (d : Fin 8) : (fin12 m c : Vec Ideal S5x8 .i32) (ix2 q d) = BitVec.ofNat 32 (Spec.nD (aIds m c) (aSg m c) q d) :=
  devV_at (aIds m c) (aSg m c) _ _ (iblk3_at m c 0) (iblk5_at m c 0) q d

/-- The kernel's gradient at a token is the gradient its tile computes. -/
theorem fin6_eq (e : Fin 160) (t : Fin 2048) : ∃ (u : Fin 8) (r : Fin 256), tk u r = t ∧ (fin6 m c : Vec Ideal S160x2048 .f32) (ix2 e t)
    = dzV (F := Ideal) (iblk m c 0 (tt u.val)) (iblk m c 1 (tt u.val)) (iblk m c 2 (tt u.val)) (iblk m c 4 (tt u.val)) (coefV (pE m c) (pD m c)) (ix2 e r) :=
  ⟨⟨t.val / 256, by omega⟩, ⟨t.val % 256, by omega⟩, Fin.ext (by show 256 * (t.val / 256) + t.val % 256 = t.val; omega), rfl⟩

/-- The gradient of a token of a sequence, and of a token of none. -/
theorem fin6_seq (q : Fin 5) (e : Fin 160) (t : Fin 2048) (hq : aSg m c t = BitVec.ofNat 32 q.val) : (fin6 m c : Vec Ideal S160x2048 .f32) (ix2 e t)
    = Spec.grad (aX m c) (aSc m c) (aW m c) t (Spec.coef (aIds m c) (aSg m c) q) e := by
  obtain ⟨u, r, rfl, h⟩ := fin6_eq m c e t
  rw [h, dzV_seq (aX m c) (aSc m c) (aW m c) (aSg m c) _ _ _ _ u (iblk0_at m c u) (iblk1_at m c u) (iblk2_at m c u) (iblk4_at m c u) _ q e r hq]
  unfold pE pD
  simp only [coefV_at (aIds m c) (aSg m c) _ _ (iblk3_at m c 0) (iblk5_at m c 0)]

/-- The kernel's gradient of a padding token is zero. -/
theorem fin6_none (e : Fin 160) (t : Fin 2048) (hq : (aSg m c t).toInt < 0) : (fin6 m c : Vec Ideal S160x2048 .f32) (ix2 e t) = (0 : EReal) := by
  obtain ⟨u, r, rfl, h⟩ := fin6_eq m c e t
  rw [h, dzV_none (aSg m c) _ _ _ _ u (iblk4_at m c u) _ e r hq]

end Cert.KernelIdeal.Sum
-- ==== Proof.Sum.RefA.lean ====
/- Where the reference's scatters land, and the counts and sums they leave. -/
module

public import proofs.«01_k».proof.Proof.Gen.ReferenceIdeal
public import proofs.«01_k».proof.Proof.Gen.ReferenceIdeal.Read
public import proofs.«01_k».proof.Proof.Sum.Spec
public import Idealize.ShloMosaic.Lib.Routing.OpsPair

@[expose] public section

set_option maxRecDepth 16384

noncomputable section

namespace Cert.ReferenceIdeal.Sum

open Idealize.ShloMosaic
open Cert.ReferenceIdeal Cert.ReferenceIdeal.Gen Cert.ReferenceIdeal.Read

/-- The scalar update of token `t` lands at sequence `q` exactly when the token's word, read signed, is `q`. -/
theorem lands5 (idx : IVec S2048x1 32) (t : Fin 2048) (q : Fin 5) :
    scatter_S5_S2048x1_S2048_n_0_0_1.resultIdx? (ix1 t) idx = some (ix1 q) ↔ (idx (ix2 t 0)).toInt = q.val := by
  have h0 : scatter_S5_S2048x1_S2048_n_0_0_1.start (ix1 t) idx 0 = (idx (ix2 t 0)).toInt := by
    unfold ScatterDims.start
    rw [dif_pos (by decide)]
    congr 2
    funext b
    apply Fin.ext
    fin_cases b <;> rfl
  have h1 : scatter_S5_S2048x1_S2048_n_0_0_1.window (ix1 t) 0 = 0 := rfl
  refine (Routing.resultIdx?_ix1 _ _ _ _).trans ?_
  rw [h0, h1]
  simp

/-- Entry `e` of the row of token `t` lands at `(q, e')` exactly when the token's word, read signed, is `q` and `e = e'`. -/
theorem lands160 (idx : IVec S2048x1 32) (t : Fin 2048) (e : Fin 160) (q : Fin 5) (e' : Fin 160) :
    scatter_S5x160_S2048x1_S2048x160_1_0_0_1.resultIdx? (ix2 t e) idx = some (ix2 q e') ↔ (idx (ix2 t 0)).toInt = q.val ∧ e = e' := by
  have h0 : scatter_S5x160_S2048x1_S2048x160_1_0_0_1.start (ix2 t e) idx 0 = (idx (ix2 t 0)).toInt := by
    unfold ScatterDims.start
    rw [dif_pos (by decide)]
    congr 2
    funext b
    apply Fin.ext
    fin_cases b <;> rfl
  have h1 : scatter_S5x160_S2048x1_S2048x160_1_0_0_1.window (ix2 t e) 0 = 0 := rfl
  have h2 : scatter_S5x160_S2048x1_S2048x160_1_0_0_1.start (ix2 t e) idx 1 = 0 := rfl
  have h3 : scatter_S5x160_S2048x1_S2048x160_1_0_0_1.window (ix2 t e) 1 = e.val := rfl
  refine (Routing.resultIdx?_ix2 _ _ _ _ _).trans ?_
  rw [h0, h1, h2, h3, Fin.ext_iff]
  simp

/-- The same over the eight device groups. -/
theorem lands8 (idx : IVec S2048x1 32) (t : Fin 2048) (e : Fin 8) (q : Fin 5) (e' : Fin 8) :
    scatter_S5x8_S2048x1_S2048x8_1_0_0_1.resultIdx? (ix2 t e) idx = some (ix2 q e') ↔ (idx (ix2 t 0)).toInt = q.val ∧ e = e' := by
  have h0 : scatter_S5x8_S2048x1_S2048x8_1_0_0_1.start (ix2 t e) idx 0 = (idx (ix2 t 0)).toInt := by
    unfold ScatterDims.start
    rw [dif_pos (by decide)]
    congr 2
    funext b
    apply Fin.ext
    fin_cases b <;> rfl
  have h1 : scatter_S5x8_S2048x1_S2048x8_1_0_0_1.window (ix2 t e) 0 = 0 := rfl
  have h2 : scatter_S5x8_S2048x1_S2048x8_1_0_0_1.start (ix2 t e) idx 1 = 0 := rfl
  have h3 : scatter_S5x8_S2048x1_S2048x8_1_0_0_1.window (ix2 t e) 1 = e.val := rfl
  refine (Routing.resultIdx?_ix2 _ _ _ _ _).trans ?_
  rw [h0, h1, h2, h3, Fin.ext_iff]
  simp

/-- Adding the words of numbers one after the other gives the word of their sum. -/
theorem foldl_count {N : ℕ} (p : Fin N → Prop) [DecidablePred p] (g : Fin N → ℕ) (l : List (Fin N)) : ∀ n0 : ℕ,
    l.foldl (fun a n => if p n then IntOp.addi a (BitVec.ofNat 32 (g n)) else a) (BitVec.ofNat 32 n0)
      = BitVec.ofNat 32 (n0 + (l.map fun n => if p n then g n else 0).sum) := by
  induction l with
  | nil => intro n0; simp
  | cons n l ih =>
    intro n0
    rw [List.foldl_cons, List.map_cons, List.sum_cons, ← add_assoc, ← ih]
    congr 1
    by_cases h1 : p n <;> simp [h1, IntOp.addi, BitVec.ofNat_add]

/-- An adding scatter of words into zeros leaves the word of the sum of what lands. -/
theorem scatter_count {s si u : Shape} (d : ScatterDims s si u) (x0 : IVec s 32) (idx : IVec si 32) (upd : IVec u 32) (g : u.Idx → ℕ)
    (hu : ∀ j, upd j = BitVec.ofNat 32 (g j)) (ι : s.Idx) (hx : x0 ι = 0#32) :
    Host.scatter d IntOp.addi x0 idx upd ι = BitVec.ofNat 32 (∑ j : u.Idx, if d.resultIdx? j idx = some ι then g j else 0) := by
  rw [Routing.scatter_at, hx]
  simp only [hu]
  refine (foldl_count (fun n => d.resultIdx? (u.rowMajor.symm n) idx = some ι) (fun n => g (u.rowMajor.symm n)) _ 0).trans ?_
  rw [zero_add, ← Fin.sum_univ_def]
  congr 1
  exact Equiv.sum_comp u.rowMajor.symm (fun j => if d.resultIdx? j idx = some ι then g j else 0)

/-- Of a row of summands only the one whose index is `e'` counts. -/
theorem sum_one {M : Type*} [AddCommMonoid M] {n : ℕ} (p : Prop) [Decidable p] (e' : Fin n) (g : Fin n → M) :
    (∑ e : Fin n, if p ∧ e = e' then g e else 0) = if p then g e' else 0 := by
  by_cases h : p
  · simp [h]
  · simp [h]

/-- What a scatter of one word per token leaves at sequence `q`. -/
theorem count5 (x0 : IVec S5 32) (idx : IVec S2048x1 32) (upd : IVec S2048 32) (g : Fin 2048 → ℕ)
    (hu : ∀ t, upd (ix1 t) = BitVec.ofNat 32 (g t)) (q : Fin 5) (hx : x0 (ix1 q) = 0#32) :
    Host.scatter scatter_S5_S2048x1_S2048_n_0_0_1 IntOp.addi x0 idx upd (ix1 q)
      = BitVec.ofNat 32 (∑ t : Fin 2048, if (idx (ix2 t 0)).toInt = q.val then g t else 0) := by
  rw [scatter_count _ x0 idx upd (fun j => g (j 0)) (fun j => (congrArg upd (funext fun b => by fin_cases b; rfl)).trans (hu (j 0))) _ hx]
  refine congrArg (BitVec.ofNat 32) ?_
  rw [sum_idx1]
  refine Finset.sum_congr rfl fun t _ => ?_
  exact if_congr (lands5 idx t q) rfl rfl

/-- What a scatter of one row of words per token leaves at sequence `q` and expert `e`. -/
theorem count160 (x0 : IVec S5x160 32) (idx : IVec S2048x1 32) (upd : IVec S2048x160 32) (g : Fin 2048 → Fin 160 → ℕ)
    (hu : ∀ t e, upd (ix2 t e) = BitVec.ofNat 32 (g t e)) (q : Fin 5) (e : Fin 160) (hx : x0 (ix2 q e) = 0#32) :
    Host.scatter scatter_S5x160_S2048x1_S2048x160_1_0_0_1 IntOp.addi x0 idx upd (ix2 q e)
      = BitVec.ofNat 32 (∑ t : Fin 2048, if (idx (ix2 t 0)).toInt = q.val then g t e else 0) := by
  rw [scatter_count _ x0 idx upd (fun j => g (j 0) (j 1))
    (fun j => (congrArg upd (funext fun b => by fin_cases b <;> rfl)).trans (hu (j 0) (j 1))) _ hx]
  refine congrArg (BitVec.ofNat 32) ?_
  rw [sum_idx2]
  refine Finset.sum_congr rfl fun t _ => ?_
  rw [← sum_one ((idx (ix2 t 0)).toInt = q.val) e (fun e' => g t e')]
  refine Finset.sum_congr rfl fun e' _ => ?_
  exact if_congr (lands160 idx t e' q e) rfl rfl

/-- The same over the eight device groups. -/
theorem count8 (x0 : IVec S5x8 32) (idx : IVec S2048x1 32) (upd : IVec S2048x8 32) (g : Fin 2048 → Fin 8 → ℕ)
    (hu : ∀ t e, upd (ix2 t e) = BitVec.ofNat 32 (g t e)) (q : Fin 5) (e : Fin 8) (hx : x0 (ix2 q e) = 0#32) :
    Host.scatter scatter_S5x8_S2048x1_S2048x8_1_0_0_1 IntOp.addi x0 idx upd (ix2 q e)
      = BitVec.ofNat 32 (∑ t : Fin 2048, if (idx (ix2 t 0)).toInt = q.val then g t e else 0) := by
  rw [scatter_count _ x0 idx upd (fun j => g (j 0) (j 1))
    (fun j => (congrArg upd (funext fun b => by fin_cases b <;> rfl)).trans (hu (j 0) (j 1))) _ hx]
  refine congrArg (BitVec.ofNat 32) ?_
  rw [sum_idx2]
  refine Finset.sum_congr rfl fun t _ => ?_
  rw [← sum_one ((idx (ix2 t 0)).toInt = q.val) e (fun e' => g t e')]
  refine Finset.sum_congr rfl fun e' _ => ?_
  exact if_congr (lands8 idx t e' q e) rfl rfl

/-- The scatter of rows of numbers sums, per entry, the rows of the tokens whose word is the sequence. -/
theorem add160 (x0 : Vec Ideal S5x160 .f32) (idx : IVec S2048x1 32) (upd : Vec Ideal S2048x160 .f32) (q : Fin 5) (e : Fin 160) :
    Host.scatterAdd (F := Ideal) (φ := .f32) scatter_S5x160_S2048x1_S2048x160_1_0_0_1 x0 idx upd (ix2 q e)
      = (x0 (ix2 q e) + ∑ t : Fin 2048, if (idx (ix2 t 0)).toInt = q.val then upd (ix2 t e) else 0 : EReal) := by
  show Ideal.hostScatterAdd scatter_S5x160_S2048x1_S2048x160_1_0_0_1 x0 idx upd (ix2 q e) = _
  unfold Ideal.hostScatterAdd
  congr 1
  rw [Finset.sum_filter, sum_idx2]
  refine Finset.sum_congr rfl fun t _ => ?_
  rw [← sum_one ((idx (ix2 t 0)).toInt = q.val) e (fun e' => (upd (ix2 t e') : EReal))]
  refine Finset.sum_congr rfl fun e' _ => ?_
  exact if_congr (lands160 idx t e' q e) rfl rfl

end Cert.ReferenceIdeal.Sum
-- ==== Proof.Sum.RefB.lean ====
/- The reference's stages read at an index: counts, loads, probabilities and the weights of the gradient. -/
module

public import proofs.«01_k».proof.Proof.Sum.RefA
public import proofs.«01_k».proof.Proof.Sum.KerB
public import Idealize.ShloMosaic.Lib.Routing.Ops

@[expose] public section

set_option maxRecDepth 16384

noncomputable section

namespace Cert.ReferenceIdeal.Sum

open Idealize.ShloMosaic
open Cert.ReferenceIdeal Cert.ReferenceIdeal.Gen Cert.ReferenceIdeal.Read
open Cert.KernelIdeal.Sum (select_iff sge_iff slt_iff eq_iff andi_iff ori_iff ofBool_iff count_le)

/-- The or of a family of bits is set exactly when one of them is. -/
theorem fold_ori {n : ℕ} (g : Fin n → BitVec 1) : Finset.fold IntOp.ori 0#1 g Finset.univ = 1#1 ↔ ∃ x, g x = 1#1 := by
  have h : ∀ S : Finset (Fin n), Finset.fold IntOp.ori 0#1 g S = 1#1 ↔ ∃ x ∈ S, g x = 1#1 := by
    intro S
    induction S using Finset.induction_on with
    | empty => simp
    | insert a S ha ih => rw [Finset.fold_insert ha, ori_iff, ih]; simp
  rw [h]
  simp

/-- A bit widened to a word is the word of `0` or `1`. -/
theorem widen_iff {c : BitVec 1} {p : Prop} [Decidable p] (h : c = 1#1 ↔ p) : BitVec.setWidth 32 c = BitVec.ofNat 32 (if p then 1 else 0) := by
  by_cases hp : p
  · rw [if_pos hp, h.2 hp]; rfl
  · rw [if_neg hp]
    have h01 : ∀ c : BitVec 1, ¬c = 1#1 → c = 0#1 := by decide
    rw [h01 c (mt h.1 hp)]; rfl

/-- A nonnegative word is `q` exactly when it is the word of `q`. -/
theorem word_seq (w : BitVec 32) (q : Fin 5) : ((if 0 ≤ w.toInt then w else 0#32).toInt = q.val ∧ 0 ≤ w.toInt) ↔ w = BitVec.ofNat 32 q.val := by
  have hq : (BitVec.ofNat 32 q.val).toInt = q.val := Cert.KernelIdeal.Sum.small_toInt _ (by omega)
  constructor
  · rintro ⟨h1, h2⟩
    rw [if_pos h2] at h1
    exact BitVec.eq_of_toInt_eq (h1.trans hq.symm)
  · rintro rfl
    have h0 : (0 : ℤ) ≤ (BitVec.ofNat 32 q.val).toInt := by rw [hq]; omega
    rw [if_pos h0]
    exact ⟨hq, h0⟩

variable (X : Fin 2048 → Fin 12288 → EReal) (sc : Fin 2048 → EReal) (W : Fin 160 → Fin 12288 → EReal)
variable (ids : Fin 2048 → Fin 6 → BitVec 32) (sg : Fin 2048 → BitVec 32)
variable (x1 : Vec Ideal S2048 .f32) (x2 : Vec Ideal S12288x160 .bf16) (x3 : Vec Ideal S2048x6 .i32) (x4 : Vec Ideal S2048 .i32)
  (r0 : Vec Ideal S2048x12288 .bf16)
variable (h0 : ∀ t k, r0 (ix2 t k) = X t k) (h1 : ∀ t, x1 (ix1 t) = sc t) (h2 : ∀ e k, x2 (ix2 k e) = W e k)
  (h3 : ∀ t k, x3 (ix2 t k) = ids t k) (h4 : ∀ t, x4 (ix1 t) = sg t)

include h4 in
/-- The sequence word a token scatters with: its own, and `0` where that is negative. -/
theorem v18_at (t : Fin 2048) : val_main_v18 (F := Ideal) x4 (ix1 t) = if 0 ≤ (sg t).toInt then sg t else 0#32 := by
  pointwise [val_main_v18, val_main_v17, val_main_v16, val_main_c, val_main_call0_v1, val_main_call0_v0, val_main_c_2]
  rw [h4]
  exact select_iff (sge_iff _ _) _ _

include h4 in
/-- The index a token is scattered to: its sequence id, and zero for padding. -/
theorem v21_at (t : Fin 2048) : val_main_v21 (F := Ideal) x4 (ix2 t 0) = if 0 ≤ (sg t).toInt then sg t else 0#32 := by
  rw [← v18_at sg x4 h4]
  pointwise [val_main_v21]

include h4 in
/-- The index a token is scattered to: its sequence id, and zero for padding. -/
theorem v30_at (t : Fin 2048) : val_main_v30 (F := Ideal) x4 (ix2 t 0) = if 0 ≤ (sg t).toInt then sg t else 0#32 := by
  rw [← v18_at sg x4 h4]
  pointwise [val_main_v30]

include h4 in
/-- The index a token is scattered to: its sequence id, and zero for padding. -/
theorem v49_at (t : Fin 2048) : val_main_v49 (F := Ideal) x4 (ix2 t 0) = if 0 ≤ (sg t).toInt then sg t else 0#32 := by
  rw [← v18_at sg x4 h4]
  pointwise [val_main_v49]

include h4 in
/-- The index a token is scattered to: its sequence id, and zero for padding. -/
theorem v56_at (t : Fin 2048) : val_main_v56 (F := Ideal) x4 (ix2 t 0) = if 0 ≤ (sg t).toInt then sg t else 0#32 := by
  rw [← v18_at sg x4 h4]
  pointwise [val_main_v56]

include h3 in
/-- Whether token `t` picked expert `e`. -/
theorem v41_iff (t : Fin 2048) (e : Fin 160) : val_main_v41 (F := Ideal) x3 (ix2 t e) = 1#1 ↔ Spec.hitE ids e t := by
  pointwise [val_main_v41, val_main_v40, val_main_v39, val_main_v38, val_main_v37, val_main_v36, val_main_v35, val_main_c_8]
  rw [fold_ori]
  simp only [eq_iff, h3]

include h3 in
/-- Whether token `t` picked an expert of group `d`. -/
theorem v43_iff (t : Fin 2048) (d : Fin 8) : val_main_v43 (F := Ideal) x3 (ix2 t d) = 1#1 ↔ Spec.hitD ids d t := by
  pointwise [val_main_v43, val_main_v42, val_main_c_9]
  rw [fold_ori]
  simp only [v41_iff ids x3 h3, Spec.hitE, Spec.hitD]
  rw [exists_comm]
  simp only [Nat.mul_comm d.val 20]

/-- A sum over the tokens whose scattered word is `q`, of ones at the valid tokens, counts sequence `q`. -/
theorem seq_sum (q : Fin 5) (p : Fin 2048 → Prop) [DecidablePred p] :
    (∑ t : Fin 2048, if (if 0 ≤ (sg t).toInt then sg t else 0#32).toInt = q.val then (if p t ∧ 0 ≤ (sg t).toInt then 1 else 0) else 0)
      = ∑ t : Fin 2048, if Spec.inSeq sg q t ∧ p t then 1 else 0 := by
  refine Finset.sum_congr rfl fun t _ => ?_
  rw [← ite_and]
  refine if_congr ?_ rfl rfl
  rw [Spec.inSeq, ← word_seq]
  tauto

include h4 in
/-- The number of tokens of sequence `q`. -/
theorem v22_at (q : Fin 5) : val_main_v22 (F := Ideal) x4 (ix1 q) = BitVec.ofNat 32 (Spec.nT sg q) := by
  rw [val_main_v22, count5 (g := fun t => if True ∧ 0 ≤ (sg t).toInt then 1 else 0)]
  · simp only [v21_at sg x4 h4]
    rw [seq_sum sg q (fun _ => True)]
    simp only [and_true, Spec.nT]
  · intro t
    pointwise [val_main_v19, val_main_v17, val_main_v16, val_main_c]
    refine widen_iff ?_
    rw [sge_iff, h4]
    simp
  · pointwise [val_main_v20, val_main_c_3]

include h3 h4 in
/-- The number of tokens of sequence `q` that picked expert `e`. -/
theorem v50_at (q : Fin 5) (e : Fin 160) : val_main_v50 (F := Ideal) x3 x4 (ix2 q e) = BitVec.ofNat 32 (Spec.nE ids sg q e) := by
  rw [val_main_v50, count160 (g := fun t e => if Spec.hitE ids e t ∧ 0 ≤ (sg t).toInt then 1 else 0)]
  · simp only [v49_at sg x4 h4]
    rw [seq_sum sg q (fun t => Spec.hitE ids e t)]
    rfl
  · intro t e
    pointwise [val_main_v47, val_main_v46, val_main_v45, val_main_v44, val_main_v17, val_main_v16, val_main_c]
    refine widen_iff ?_
    rw [andi_iff, sge_iff, h4, v41_iff ids x3 h3]
    rfl
  · pointwise [val_main_v48, val_main_c_10]

include h3 h4 in
/-- The number of tokens of sequence `q` that picked an expert of group `d`. -/
theorem v57_at (q : Fin 5) (d : Fin 8) : val_main_v57 (F := Ideal) x3 x4 (ix2 q d) = BitVec.ofNat 32 (Spec.nD ids sg q d) := by
  rw [val_main_v57, count8 (g := fun t d => if Spec.hitD ids d t ∧ 0 ≤ (sg t).toInt then 1 else 0)]
  · simp only [v56_at sg x4 h4]
    rw [seq_sum sg q (fun t => Spec.hitD ids d t)]
    rfl
  · intro t d
    pointwise [val_main_v54, val_main_v53, val_main_v52, val_main_v51, val_main_v17, val_main_v16, val_main_c]
    refine widen_iff ?_
    rw [andi_iff, sge_iff, h4, v43_iff ids x3 h3]
    rfl
  · pointwise [val_main_v55, val_main_c_11]

/-- The word of a small count, made a number, is the count. -/
theorem sitofp_count (n : ℕ) (hn : n ≤ 2048) : (FloatOps.sitofp (F := Ideal) .f32 (BitVec.ofNat 32 n) : EReal) = Spec.cast n := by
  have h : (BitVec.ofNat 32 n).toInt = n := by
    have hn' : (BitVec.ofNat 32 n).toNat = n := by rw [BitVec.toNat_ofNat]; omega
    rw [BitVec.toInt_eq_toNat_of_lt (by rw [hn']; omega), hn']
  show (((BitVec.ofNat 32 n).toInt : ℝ) : EReal) = _
  rw [h]
  simp [Spec.cast]

/-- A count is at most the number of tokens. -/
theorem nT_le (q : Fin 5) : Spec.nT sg q ≤ 2048 := count_le _
/-- A count is at most the number of tokens. -/
theorem nE_le (q : Fin 5) (e : Fin 160) : Spec.nE ids sg q e ≤ 2048 := count_le _
/-- A count is at most the number of tokens. -/
theorem nD_le (q : Fin 5) (d : Fin 8) : Spec.nD ids sg q d ≤ 2048 := count_le _

/-- A count's word is positive exactly if the count is. -/
theorem sgt_iff (n : ℕ) (hn : n ≤ 2048) : IntOp.cmpi .sgt (BitVec.ofNat 32 n) 0#32 = 1#1 ↔ 0 < Spec.cast n := by
  have h : (BitVec.ofNat 32 n).toInt = n := by
    have hn' : (BitVec.ofNat 32 n).toNat = n := by rw [BitVec.toNat_ofNat]; omega
    rw [BitVec.toInt_eq_toNat_of_lt (by rw [hn']; omega), hn']
  have h1 : IntOp.cmpi .sgt (BitVec.ofNat 32 n) 0#32 = 1#1 ↔ (0#32).toInt < (BitVec.ofNat 32 n).toInt := by
    simp [IntOp.cmpi, ofBool_iff, BitVec.slt_iff_toInt_lt]
  rw [h1, h]
  simp [Spec.cast]

include h4 in
/-- The number of tokens of sequence `q`, `1` for an empty one. -/
theorem v26_at (q : Fin 5) : val_main_v26 (F := Ideal) x4 (ix1 q) = Spec.T sg q := by
  pointwise [val_main_v26, val_main_v25, val_main_v24, val_main_v23, val_main_c_4, val_main_call1_v1, val_main_call1_v0, val_main_cst_5]
  rw [v22_at sg x4 h4]
  refine (select_iff (sgt_iff _ (nT_le sg q)) _ _).trans ?_
  rw [Spec.T]
  refine if_congr Iff.rfl (sitofp_count _ (nT_le sg q)) ?_
  show Ideal.ofBits .f32 1065353216#32 = 1
  simp

include h0 h1 h2 in
/-- The reference's logits. -/
theorem v4_at (t : Fin 2048) (e : Fin 160) : val_main_v4 (F := Ideal) x1 x2 r0 (ix2 t e) = Spec.z X sc W t e := by
  pointwise [val_main_v4, val_main_v1, val_main_v3, val_main_v2]
  simp only [h0, h1, h2, Spec.z, mul_comm (X _ _)]

include h0 h1 h2 in
/-- The reference's largest logit of a token. -/
theorem v5_at (t : Fin 2048) : val_main_v5 (F := Ideal) x1 x2 r0 (ix1 t) = Spec.zmax X sc W t := by
  pointwise [val_main_v5, val_main_cst]
  simp only [v4_at X sc W x1 x2 r0 h0 h1 h2, Spec.zmax]

include h0 h1 h2 in
/-- The softmax probability. -/
theorem v15_at (t : Fin 2048) (e : Fin 160) : val_main_v15 (F := Ideal) x1 x2 r0 (ix2 t e) = Spec.s X sc W t e := by
  have hm : max (Ideal.ofBits .f32 4286578688#32) (Spec.zmax X sc W t) = Spec.zmax X sc W t :=
    max_eq_right ((Finset.le_fold_max _).2 (Or.inl le_rfl))
  pointwise [val_main_v15, val_main_v14, val_main_v13, val_main_v12, val_main_v11, val_main_v10, val_main_v9, val_main_v8, val_main_v7, val_main_v6, val_main_cst_0, val_main_cst_1]
  simp only [v4_at X sc W x1 x2 r0 h0 h1 h2, v5_at X sc W x1 x2 r0 h0 h1 h2, hm, Spec.s]

include h0 h1 h2 h4 in
/-- The mean probabilities. -/
theorem v34_at (q : Fin 5) (e : Fin 160) : val_main_v34 (F := Ideal) x1 x2 x4 r0 (ix2 q e) = Spec.P X sc W sg q e := by
  have h28 : ∀ t, val_main_v28 (F := Ideal) x1 x2 x4 r0 (ix2 t e) = if 0 ≤ (sg t).toInt then Spec.s X sc W t e else 0 := by
    intro t
    pointwise [val_main_v28, val_main_v27, val_main_v17, val_main_v16, val_main_c, val_main_call2_v2, val_main_call2_v1, val_main_call2_v0, val_main_cst_6]
    rw [v15_at X sc W x1 x2 r0 h0 h1 h2, h4]
    refine (select_iff (sge_iff _ _) _ _).trans (if_congr Iff.rfl rfl ?_)
    show Ideal.ofBits .f32 0#32 = 0
    simp
  have h31 : val_main_v31 (F := Ideal) x1 x2 x4 r0 (ix2 q e) = ∑ t : Fin 2048, if Spec.inSeq sg q t then Spec.s X sc W t e else 0 := by
    rw [val_main_v31, add160]
    have hz : val_main_v29 (F := Ideal) (ix2 q e) = (0 : EReal) := by
      pointwise [val_main_v29, val_main_cst_7]
    rw [hz, zero_add]
    refine Finset.sum_congr rfl fun t _ => ?_
    rw [h28, v30_at sg x4 h4, ← ite_and]
    exact if_congr (word_seq _ _) rfl rfl
  pointwise [val_main_v34, val_main_v33, val_main_v32]
  rw [h31, v26_at sg x4 h4, Spec.P]

include h3 h4 in
/-- The expert loads. -/
theorem v65_at (q : Fin 5) (e : Fin 160) : val_main_v65 (F := Ideal) x3 x4 (ix2 q e) = Spec.f ids sg q e := by
  pointwise [val_main_v65, val_main_v64, val_main_v63, val_main_v62, val_main_v61, val_main_v60, val_main_v59, val_main_v58, val_main_cst_12, val_main_cst_13]
  rw [v50_at ids sg x3 x4 h3 h4, v26_at sg x4 h4, sitofp_count _ (nE_le ids sg q e), Spec.f]

include h3 h4 in
/-- The device loads. -/
theorem v69_at (q : Fin 5) (d : Fin 8) : val_main_v69 (F := Ideal) x3 x4 (ix2 q d) = Spec.fdev ids sg q d := by
  pointwise [val_main_v69, val_main_v68, val_main_v67, val_main_v66, val_main_cst_14, val_main_cst_15]
  simp only [v65_at ids sg x3 x4 h3 h4, Spec.fdev, Nat.mul_comm d.val 20]

include h3 h4 in
/-- The communication loads. -/
theorem v79_at (q : Fin 5) (d : Fin 8) : val_main_v79 (F := Ideal) x3 x4 (ix2 q d) = Spec.fcomm ids sg q d := by
  pointwise [val_main_v79, val_main_v78, val_main_v77, val_main_v76, val_main_v75, val_main_v74, val_main_v73, val_main_v72, val_main_cst_17, val_main_cst_18]
  rw [v57_at ids sg x3 x4 h3 h4, v26_at sg x4 h4, sitofp_count _ (nD_le ids sg q d), Spec.fcomm]

include h3 h4 in
/-- The weights of the gradient. -/
theorem v107_at (q : Fin 5) (e : Fin 160) : val_main_v107 (F := Ideal) x3 x4 (ix2 q e) = Spec.coef ids sg q e := by
  pointwise [val_main_v107, val_main_v106, val_main_v105, val_main_v104, val_main_v103, val_main_v102, val_main_v101, val_main_v100, val_main_v99, val_main_v98, val_main_v97, val_main_v96, val_main_v95, val_main_v94, val_main_v93, val_main_v92, val_main_v66, val_main_cst_25, val_main_cst_26, val_main_cst_27, val_main_cst_28]
  rw [v65_at ids sg x3 x4 h3 h4, v69_at ids sg x3 x4 h3 h4, v79_at ids sg x3 x4 h3 h4, v26_at sg x4 h4, Spec.coef]
  rfl

end Cert.ReferenceIdeal.Sum
-- ==== Proof.Sum.RefC.lean ====
/- The reference's losses and gradient read at an index. -/
module

public import proofs.«01_k».proof.Proof.Sum.RefB

@[expose] public section

set_option maxRecDepth 16384

noncomputable section

namespace Cert.ReferenceIdeal.Sum

open Idealize.ShloMosaic
open Cert.ReferenceIdeal Cert.ReferenceIdeal.Gen Cert.ReferenceIdeal.Read
open Cert.KernelIdeal.Sum (select_iff sge_iff slt_iff)

/-- A nonnegative real number. -/
def NR (x : EReal) : Prop := ∃ r : ℝ, 0 ≤ r ∧ x = (r : EReal)

/-- A product of non-negative reals is one. -/
theorem NR.mul {x y : EReal} (hx : NR x) (hy : NR y) : NR (x * y) := by
  obtain ⟨a, ha, rfl⟩ := hx
  obtain ⟨b, hb, rfl⟩ := hy
  exact ⟨a * b, mul_nonneg ha hb, (EReal.coe_mul a b).symm⟩

/-- A sum of non-negative reals is one. -/
theorem NR.sum {n : ℕ} {g : Fin n → EReal} (hg : ∀ i, NR (g i)) : NR (∑ i, g i) := by
  choose r h0 h1 using hg
  refine ⟨∑ i, r i, Finset.sum_nonneg fun i _ => h0 i, ?_⟩
  simp only [h1]
  induction (Finset.univ : Finset (Fin n)) using Finset.induction_on with
  | empty => simp
  | insert a S ha ih => rw [Finset.sum_insert ha, Finset.sum_insert ha, ih, EReal.coe_add]

/-- A non-negative real over a positive one is a non-negative real. -/
theorem NR.div {x y : EReal} (hx : NR x) (hy : ∃ r : ℝ, 0 < r ∧ y = (r : EReal)) : NR (Ideal.div x y) := by
  obtain ⟨a, ha, rfl⟩ := hx
  obtain ⟨b, hb, rfl⟩ := hy
  refine ⟨a * b⁻¹, mul_nonneg ha (inv_nonneg.2 hb.le), ?_⟩
  have hb0 : ¬((b : ℝ) : EReal) = 0 := fun h => hb.ne' (by exact_mod_cast h)
  simp only [Ideal.div, if_neg hb0, EReal.coe_mul, EReal.coe_inv]

/-- A nonnegative real factor goes into a sum. -/
theorem NR.mul_sum {n : ℕ} {x : EReal} (hx : NR x) (g : Fin n → EReal) : x * ∑ i, g i = ∑ i, x * g i := by
  obtain ⟨a, ha, rfl⟩ := hx
  induction (Finset.univ : Finset (Fin n)) using Finset.induction_on with
  | empty => simp
  | insert i S hi ih =>
    rw [Finset.sum_insert hi, Finset.sum_insert hi,
      EReal.left_distrib_of_nonneg_of_ne_top (by exact_mod_cast ha) (EReal.coe_ne_top a), ih]

/-- A count is a non-negative real. -/
theorem NR.cast (n : ℕ) : NR (Spec.cast n) := ⟨n, Nat.cast_nonneg n, rfl⟩

/-- The constant 160 is a positive real. -/
theorem c160 : ∃ r : ℝ, 0 < r ∧ Ideal.ofBits .f32 1126170624#32 = (r : EReal) := by
  refine ⟨160, by norm_num, ?_⟩
  simp [Ideal.ofBits, Ideal.ieee, -EReal.coe_mul]; norm_num
/-- The constant 6 is a positive real. -/
theorem c6 : ∃ r : ℝ, 0 < r ∧ Ideal.ofBits .f32 1086324736#32 = (r : EReal) := by
  refine ⟨6, by norm_num, ?_⟩
  simp [Ideal.ofBits, Ideal.ieee, -EReal.coe_mul]; norm_num
/-- The constant 8 is a positive real. -/
theorem c8 : ∃ r : ℝ, 0 < r ∧ Ideal.ofBits .f32 1090519040#32 = (r : EReal) := by
  refine ⟨8, by norm_num, ?_⟩
  simp [Ideal.ofBits, Ideal.ieee, -EReal.coe_mul]; norm_num
/-- The constant 3 is a positive real. -/
theorem c3 : ∃ r : ℝ, 0 < r ∧ Ideal.ofBits .f32 1077936128#32 = (r : EReal) := by
  refine ⟨3, by norm_num, ?_⟩
  simp [Ideal.ofBits, Ideal.ieee, -EReal.coe_mul]; norm_num
/-- The constant one twentieth is a positive real. -/
theorem c20 : ∃ r : ℝ, 0 < r ∧ Ideal.ofBits .f32 1028443341#32 = (r : EReal) := by
  refine ⟨13421773 / 268435456, by norm_num, ?_⟩
  simp [Ideal.ofBits, Ideal.ieee, -EReal.coe_mul]; norm_num

/-- A positive real is a non-negative one. -/
theorem NR.of_pos {x : EReal} (h : ∃ r : ℝ, 0 < r ∧ x = (r : EReal)) : NR x := by
  obtain ⟨r, h, e⟩ := h
  exact ⟨r, h.le, e⟩

variable (X : Fin 2048 → Fin 12288 → EReal) (sc : Fin 2048 → EReal) (W : Fin 160 → Fin 12288 → EReal)
variable (ids : Fin 2048 → Fin 6 → BitVec 32) (sg : Fin 2048 → BitVec 32)

/-- The number of tokens, `1` for an empty sequence, is a positive real number. -/
theorem T_pos (q : Fin 5) : ∃ r : ℝ, 0 < r ∧ Spec.T sg q = (r : EReal) := by
  rw [Spec.T]
  generalize Spec.nT sg q = n
  by_cases h : 0 < Spec.cast n
  · rw [if_pos h]
    exact ⟨(n : ℝ), EReal.coe_pos.1 h, rfl⟩
  · rw [if_neg h]
    exact ⟨1, one_pos, rfl⟩

/-- A product of positive reals is one. -/
theorem pos_mul {x y : EReal} (hx : ∃ r : ℝ, 0 < r ∧ x = (r : EReal)) (hy : ∃ r : ℝ, 0 < r ∧ y = (r : EReal)) :
    ∃ r : ℝ, 0 < r ∧ x * y = (r : EReal) := by
  obtain ⟨a, ha, rfl⟩ := hx
  obtain ⟨b, hb, rfl⟩ := hy
  exact ⟨a * b, mul_pos ha hb, (EReal.coe_mul a b).symm⟩

/-- The experts' factors are non-negative reals. -/
theorem f_NR (q : Fin 5) (e : Fin 160) : NR (Spec.f ids sg q e) :=
  (NR.div (.of_pos c160) (pos_mul c6 (T_pos sg q))).mul (.cast _)
/-- The devices' factors are non-negative reals. -/
theorem fdev_NR (q : Fin 5) (d : Fin 8) : NR (Spec.fdev ids sg q d) := (NR.sum fun _ => f_NR ids sg q _).mul (.of_pos c20)
/-- The communication factors are non-negative reals. -/
theorem fcomm_NR (q : Fin 5) (d : Fin 8) : NR (Spec.fcomm ids sg q d) :=
  (NR.div (.of_pos c8) (pos_mul c3 (T_pos sg q))).mul (.cast _)

/-- A weighted sum over the groups of the groups' sums is the sum over the experts with their group's weight. -/
theorem group_sum (w : Fin 8 → EReal) (hw : ∀ d, NR (w d)) (g : Fin 160 → EReal) (I : Fin 8 → Fin 20 → Fin 160)
    (hI : ∀ d r, (I d r).val = d.val * 20 + r.val) : ∑ d, w d * ∑ r, g (I d r) = ∑ e, w (Spec.grp e) * g e := by
  rw [Fin.sum_univ_tiles 8 20 rfl fun e => w (Spec.grp e) * g e]
  refine Finset.sum_congr rfl fun d _ => ?_
  rw [(hw d).mul_sum]
  refine Finset.sum_congr rfl fun r _ => ?_
  have hd : d = Spec.grp (I d r) := Fin.ext (by simp only [Spec.grp, hI]; omega)
  have he : ∀ e : Fin 160, e.val = d.val * 20 + r.val → w d * g (I d r) = w (Spec.grp e) * g e := fun e he => by
    rw [show e = I d r from Fin.ext (he.trans (hI d r).symm), ← hd]
  refine he _ ?_
  simp only

variable (x1 : Vec Ideal S2048 .f32) (x2 : Vec Ideal S12288x160 .bf16) (x3 : Vec Ideal S2048x6 .i32) (x4 : Vec Ideal S2048 .i32)
  (r0 : Vec Ideal S2048x12288 .bf16)
variable (h0 : ∀ t k, r0 (ix2 t k) = X t k) (h1 : ∀ t, x1 (ix1 t) = sc t) (h2 : ∀ e k, x2 (ix2 k e) = W e k)
  (h3 : ∀ t k, x3 (ix2 t k) = ids t k) (h4 : ∀ t, x4 (ix1 t) = sg t)

include h0 h1 h2 h3 h4

/-- The expert loss. -/
theorem v83_at (q : Fin 5) : val_main_v83 (F := Ideal) x1 x2 x3 x4 r0 (ix1 q) = Spec.le X sc W ids sg q := by
  pointwise [val_main_v83, val_main_v82, val_main_v81, val_main_v80, val_main_cst_19, val_main_cst_20]
  simp only [v65_at ids sg x3 x4 h3 h4, v34_at X sc W sg x1 x2 x4 r0 h0 h1 h2 h4, Spec.le]

/-- The reference's probability of a device: the sum over its experts. -/
theorem v71_at (q : Fin 5) (d : Fin 8) : val_main_v71 (F := Ideal) x1 x2 x4 r0 (ix2 q d)
    = ∑ r : Fin 20, Spec.P X sc W sg q ⟨d.val * 20 + r.val, by omega⟩ := by
  pointwise [val_main_v71, val_main_v70, val_main_cst_16]
  simp only [v34_at X sc W sg x1 x2 x4 r0 h0 h1 h2 h4]

/-- The device loss. -/
theorem v87_at (q : Fin 5) : val_main_v87 (F := Ideal) x1 x2 x3 x4 r0 (ix1 q) = Spec.ld X sc W ids sg q := by
  pointwise [val_main_v87, val_main_v86, val_main_v85, val_main_v84, val_main_cst_21, val_main_cst_22]
  simp only [v69_at ids sg x3 x4 h3 h4, v71_at X sc W ids sg x1 x2 x3 x4 r0 h0 h1 h2 h3 h4]
  rw [group_sum _ (fdev_NR ids sg q) (Spec.P X sc W sg q) _ (fun _ _ => rfl), Spec.ld]

/-- The communication loss. -/
theorem v91_at (q : Fin 5) : val_main_v91 (F := Ideal) x1 x2 x3 x4 r0 (ix1 q) = Spec.lc X sc W ids sg q := by
  pointwise [val_main_v91, val_main_v90, val_main_v89, val_main_v88, val_main_cst_23, val_main_cst_24]
  simp only [v79_at ids sg x3 x4 h3 h4, v71_at X sc W ids sg x1 x2 x3 x4 r0 h0 h1 h2 h3 h4]
  rw [group_sum _ (fcomm_NR ids sg q) (Spec.P X sc W sg q) _ (fun _ _ => rfl), Spec.lc]

/-- The gradient at a token of sequence `q`. -/
theorem v123_seq (t : Fin 2048) (e : Fin 160) (q : Fin 5) (hq : sg t = BitVec.ofNat 32 q.val) :
    val_main_v123 (F := Ideal) x1 x2 x3 x4 r0 (ix2 e t) = Spec.grad X sc W t (Spec.coef ids sg q) e := by
  have hs : (sg t).toInt = q.val := by rw [hq]; exact Cert.KernelIdeal.Sum.small_toInt _ (by omega)
  have hge : (0 : ℤ) ≤ (sg t).toInt := by rw [hs]; omega
  have h113 : val_main_v113 (F := Ideal) x4 (ix2 t 0) = BitVec.ofNat 32 q.val := by
    pointwise [val_main_v113, val_main_v112, val_main_v111, val_main_v110, val_main_v109, val_main_v108, val_main_c_29, val_main_c_30]
    rw [v18_at sg x4 h4, if_pos hge]
    refine (select_iff (slt_iff _ _) _ _).trans ((if_neg ?_).trans hq)
    rw [hs]
    simp
  have h114 : ∀ e, val_main_v114 (F := Ideal) x3 x4 (ix2 t e) = Spec.coef ids sg q e := by
    intro e
    rw [val_main_v114, ← v107_at ids sg x3 x4 h3 h4]
    exact Routing.gather_row gather_S5x160_S2048x1_S2048x160_1_0_n_n_0_1_1160 rfl rfl rfl rfl rfl _ _ t e q h113 (by norm_num)
  pointwise [val_main_v123, val_main_v122, val_main_v121, val_main_v120, val_main_v119, val_main_v118, val_main_v117, val_main_v116, val_main_v115, val_main_cst_31, val_main_call3_v1, val_main_call3_v2, val_main_call3_v0, val_main_cst_32, val_main_v17, val_main_v16, val_main_c, val_main_v115]
  simp only [h114, v15_at X sc W x1 x2 r0 h0 h1 h2]
  refine (select_iff (sge_iff _ _) _ _).trans ((if_pos ?_).trans rfl)
  rw [h4]
  exact hge

/-- The gradient is zero at a token that belongs to no sequence. -/
theorem v123_none (t : Fin 2048) (e : Fin 160) (hq : (sg t).toInt < 0) :
    val_main_v123 (F := Ideal) x1 x2 x3 x4 r0 (ix2 e t) = (0 : EReal) := by
  pointwise [val_main_v123, val_main_v122, val_main_v121, val_main_v120, val_main_v119, val_main_v118, val_main_v117, val_main_v116, val_main_v115, val_main_cst_31, val_main_call3_v1, val_main_call3_v2, val_main_call3_v0, val_main_cst_32, val_main_v17, val_main_v16, val_main_c, val_main_v115]
  refine (select_iff (sge_iff _ _) _ _).trans ((if_neg ?_).trans ?_)
  · rw [h4]
    simpa using hq
  · show Ideal.ofBits .f32 0#32 = 0
    simp

end Cert.ReferenceIdeal.Sum
-- ==== Proof.Sum.RefD.lean ====
/- The run of the reference: each result at its stage read from the five arguments. -/
module

public import proofs.«01_k».proof.Proof.Sum.RefC
public import proofs.«01_k».proof.Proof.Gen.ReferenceIdeal.Run
public import Idealize.ShloMosaic.Lib.Pipeline.Value
public import Idealize.ShloMosaic.Lib.Pipeline.ValueKit.Basic

@[expose] public section

set_option maxRecDepth 16384

noncomputable section

namespace Cert.ReferenceIdeal.Sum

open Cert.ReferenceIdeal Cert.ReferenceIdeal.Gen Cert.ReferenceIdeal.Read Cert.ReferenceIdeal.Value
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The codes as numbers: the array the first step leaves. -/
def wide (c : Dev nD) : Buf (Elt Ideal) ((c.tc : Thread nD τ).loc main_v0) := fun (i : S2048x12288.Idx) =>
  (m ((c.tc : Thread nD τ).loc main_arg0) : Vec Ideal S2048x12288 .fp8e4m3) i

/-- What the first step's body stores is its block, unchanged as numbers. -/
theorem out_at (x0 : Vec Ideal S2048x12288 .fp8e4m3) : out0_1 (F := Ideal) x0 = (x0 : S2048x12288.Idx → EReal) := by
  unfold out0_1
  rw [View.canon_cons_unit_lit _ _ _ (by decide), View.ld_unit_lit _ _ (by decide)]
  rfl

/-- The widened codes are written back. -/
theorem flush1_all : ∀ t : Fin cfg0.N, (cfg0.win 1).flush t = true :=
  (by decide +kernel : ∀ t : Fin grid0.N, win0_1.flush t = true)

/-- The window is the whole array. -/
theorem emb0 (t : Fin cfg0.N) (y : S2048x12288.Idx) : ((cfg0.win 0).blk t).view.emb y = (y : S2048x12288.Idx) := by
  funext a; apply Fin.ext
  match a with
  | ⟨0, _⟩ => show 0 * 2048 + 1 * (y 0).val = (y 0).val; omega
  | ⟨1, _⟩ => show 0 * 12288 + 1 * (y 1).val = (y 1).val; omega

/-- The window is the whole array. -/
theorem emb1 (t : Fin cfg0.N) (y : S2048x12288.Idx) : ((cfg0.win 1).blk t).view.emb y = (y : S2048x12288.Idx) := by
  funext a; apply Fin.ext
  match a with
  | ⟨0, _⟩ => show 0 * 2048 + 1 * (y 0).val = (y 0).val; omega
  | ⟨1, _⟩ => show 0 * 12288 + 1 * (y 1).val = (y 1).val; omega

/-- What is written back is the codes as numbers. -/
theorem flushed1_eq (c : Dev nD) (t : Fin cfg0.N) :
    (dats m 0 c).flushed 1 t = ((cfg0.win 1).blk t).view.read (Elt Ideal) (wide m c) := by
  show (cfg0.win 1).cut (grid0.coords t) ((dats m 0 c).after 1 t) = _
  rw [after0_1, out_at]
  funext y
  show (m ((c.tc : Thread nD τ).loc main_arg0) : Vec Ideal S2048x12288 .fp8e4m3) (((cfg0.win 0).blk t).view.emb ((cfg0.win 1).xinj (grid0.coords t) y)) = wide m c (((cfg0.win 1).blk t).view.emb y)
  unfold wide
  rw [emb0, emb1]

/-- Every element of the widened codes lies in a block that is written back. -/
theorem cover1 (i : S2048x12288.Idx) : ∃ t : Fin cfg0.N, (cfg0.win 1).flush t = true ∧ i ∈ ((cfg0.win 1).blk t).view.set := by
  have t : Fin cfg0.N := (⟨0, by decide⟩ : Fin grid0.N)
  refine ⟨t, flush1_all t, ?_⟩
  show i ∈ ((View.whole main_v0).slice (win0_1.rect t)).set
  rw [View.set_slice_whole, Rect.mem_set_unit]
  intro a
  match a with
  | ⟨0, _⟩ => show 0 * 2048 ≤ (i 0).val ∧ (i 0).val < 0 * 2048 + 2048; have h : (i 0).val < 2048 := (i 0).isLt; omega
  | ⟨1, _⟩ => show 0 * 12288 ≤ (i 1).val ∧ (i 1).val < 0 * 12288 + 12288; have h : (i 1).val < 12288 := (i 1).isLt; omega

/-- The first step leaves the codes as numbers. -/
theorem wide_eq (c : Dev nD) : reg_main_v0 m c = wide m c :=
  (dats m 0 c).arrAt_eq_of_cover 1 _ (fun t _ => flushed1_eq m c t) cover1

/-- The seven stages the results are, read from the arguments. -/
theorem run_at : θ_run defs (onTc (τ := τ) (main (F := Ideal))) ⟨m, fun _ => 0, ρ⟩ fun r => ∀ c : Dev nD,
      r.2.mem ((c.tc : Thread nD τ).loc main_v123) = val_main_v123 (F := Ideal) (m ((c.tc : Thread nD τ).loc main_arg1)) (m ((c.tc : Thread nD τ).loc main_arg2)) (m ((c.tc : Thread nD τ).loc main_arg3)) (m ((c.tc : Thread nD τ).loc main_arg4)) (wide m c)
      ∧ r.2.mem ((c.tc : Thread nD τ).loc main_v83) = val_main_v83 (F := Ideal) (m ((c.tc : Thread nD τ).loc main_arg1)) (m ((c.tc : Thread nD τ).loc main_arg2)) (m ((c.tc : Thread nD τ).loc main_arg3)) (m ((c.tc : Thread nD τ).loc main_arg4)) (wide m c)
      ∧ r.2.mem ((c.tc : Thread nD τ).loc main_v87) = val_main_v87 (F := Ideal) (m ((c.tc : Thread nD τ).loc main_arg1)) (m ((c.tc : Thread nD τ).loc main_arg2)) (m ((c.tc : Thread nD τ).loc main_arg3)) (m ((c.tc : Thread nD τ).loc main_arg4)) (wide m c)
      ∧ r.2.mem ((c.tc : Thread nD τ).loc main_v91) = val_main_v91 (F := Ideal) (m ((c.tc : Thread nD τ).loc main_arg1)) (m ((c.tc : Thread nD τ).loc main_arg2)) (m ((c.tc : Thread nD τ).loc main_arg3)) (m ((c.tc : Thread nD τ).loc main_arg4)) (wide m c)
      ∧ r.2.mem ((c.tc : Thread nD τ).loc main_v34) = val_main_v34 (F := Ideal) (m ((c.tc : Thread nD τ).loc main_arg1)) (m ((c.tc : Thread nD τ).loc main_arg2)) (m ((c.tc : Thread nD τ).loc main_arg4)) (wide m c)
      ∧ r.2.mem ((c.tc : Thread nD τ).loc main_v50) = val_main_v50 (F := Ideal) (m ((c.tc : Thread nD τ).loc main_arg3)) (m ((c.tc : Thread nD τ).loc main_arg4))
      ∧ r.2.mem ((c.tc : Thread nD τ).loc main_v57) = val_main_v57 (F := Ideal) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.ReferenceIdeal.Value.run m ρ)
  obtain ⟨h0, h1, h2, h3, h4, h5, h6, ha⟩ := h c
  have hv := (exit_main_v0 m c).trans (wide_eq m c)
  refine ⟨h0.trans ((val_main_v123_eq (exitV m c)).trans ?_), h1.trans ((val_main_v83_eq (exitV m c)).trans ?_), h2.trans ((val_main_v87_eq (exitV m c)).trans ?_),
    h3.trans ((val_main_v91_eq (exitV m c)).trans ?_), h4.trans ((val_main_v34_eq (exitV m c)).trans ?_), h5.trans ((val_main_v50_eq (exitV m c)).trans ?_),
    h6.trans ((val_main_v57_eq (exitV m c)).trans ?_), ha⟩ <;> clear h0 h1 h2 h3 h4 h5 h6 ha
  · rw [hv, exit_main_arg1, exit_main_arg2, exit_main_arg3, exit_main_arg4]
  · rw [hv, exit_main_arg1, exit_main_arg2, exit_main_arg3, exit_main_arg4]
  · rw [hv, exit_main_arg1, exit_main_arg2, exit_main_arg3, exit_main_arg4]
  · rw [hv, exit_main_arg1, exit_main_arg2, exit_main_arg3, exit_main_arg4]
  · rw [hv, exit_main_arg1, exit_main_arg2, exit_main_arg4]
  · rw [exit_main_arg3, exit_main_arg4]
  · rw [exit_main_arg3, exit_main_arg4]

end Cert.ReferenceIdeal.Sum
-- ==== Proof.Sum.Final.lean ====
/- The seven results of the kernel and of the reference are equal, on equal arguments whose sequence words are below five. -/
module

public import proofs.«01_k».proof.Pre_pre
public import proofs.«01_k».proof.Proof.Sum.KerD
public import proofs.«01_k».proof.Proof.Sum.RefD

@[expose] public section

set_option maxRecDepth 16384

noncomputable section

namespace Cert.Final

open Idealize.ShloMosaic
open Cert.KernelIdeal (S2048x12288 S2048 S12288x160 S2048x6 S5 S5x160 S5x8 S160x2048)
open Cert.KernelIdeal.Sum (aX aSc aW aIds aSg)
open Cert.ReferenceIdeal.Read

/-- Two arrays equal at every index built from its coordinates are equal. -/
theorem ext1 {α : Type} {a : ℕ} {f g : (⟨1, ![a]⟩ : Shape).Idx → α} (h : ∀ i : Fin a, f (ix1 i) = g (ix1 i)) : f = g := by
  funext j
  have hj : j = ix1 (j 0) := by funext b; fin_cases b; rfl
  rw [hj]
  exact h _
/-- Two arrays of two dimensions are equal if they are equal at every pair. -/
theorem ext2 {α : Type} {a b : ℕ} {f g : (⟨2, ![a, b]⟩ : Shape).Idx → α} (h : ∀ (i : Fin a) (k : Fin b), f (ix2 i k) = g (ix2 i k)) : f = g := by
  funext j
  have hj : j = ix2 (j 0) (j 1) := by funext b; fin_cases b <;> rfl
  rw [hj]
  exact h _ _

/-- The stated precondition's shape fact. -/
theorem pre_facts : Cert.Pre_pre.Facts := ⟨Cert.ReferenceIdeal.Gen.facts.bcast_S_S2048⟩

/-- The precondition says that every sequence word, read signed, is below five. -/
theorem pre_lt [Cert.Pre_pre.Facts] (a0 : Vec Ideal S2048x12288 .fp8e4m3) (a1 : Vec Ideal S2048 .f32) (a2 : Vec Ideal S12288x160 .bf16) (a3 : Vec Ideal S2048x6 .i32)
    (a4 : Vec Ideal S2048 .i32) (h : Cert.Pre_pre.fn (F := Ideal) a0 a1 a2 a3 a4 = fun _ => 1#1) (t : Fin 2048) : (a4 (ix1 t)).toInt < 5 := by
  have ht := congrFun h (ix1 t)
  unfold Cert.Pre_pre.fn at ht
  exact (Cert.KernelIdeal.Sum.slt_iff (a4 (ix1 t)) 5#32).1 ht

/-- A word below five is negative or the word of a sequence. -/
theorem word_cases (w : BitVec 32) (h : w.toInt < 5) : w.toInt < 0 ∨ ∃ q : Fin 5, w = BitVec.ofNat 32 q.val := by
  by_cases h0 : w.toInt < 0
  · exact Or.inl h0
  · have hn : w.toInt.toNat < 5 := by omega
    refine Or.inr ⟨⟨w.toInt.toNat, hn⟩, BitVec.eq_of_toInt_eq ?_⟩
    rw [Cert.KernelIdeal.Sum.small_toInt _ (by show w.toInt.toNat < 1000; omega)]
    show w.toInt = (w.toInt.toNat : ℤ)
    omega

variable (m : (ℓ : Loc Cert.KernelIdeal.nD Cert.KernelIdeal.τ Cert.KernelIdeal.sig) → Buf (Elt Ideal) ℓ) (c : Dev Cert.KernelIdeal.nD)
variable (x0 : Vec Ideal S2048x12288 .bf16) (x1 : Vec Ideal S2048 .f32) (x2 : Vec Ideal S12288x160 .bf16) (x3 : Vec Ideal S2048x6 .i32) (x4 : Vec Ideal S2048 .i32)
variable (h0 : ∀ t k, x0 (ix2 t k) = aX m c t k) (h1 : ∀ t, x1 (ix1 t) = aSc m c t) (h2 : ∀ e k, x2 (ix2 k e) = aW m c e k)
  (h3 : ∀ t k, x3 (ix2 t k) = aIds m c t k) (h4 : ∀ t, x4 (ix1 t) = aSg m c t)

include h0 h1 h2 h3 h4 in
/-- The expert losses agree. -/
theorem eq_le : val_main_v83 (F := Ideal) x1 x2 x3 x4 x0 = Cert.KernelIdeal.Run.fin7 m c :=
  ext1 fun q => (Cert.ReferenceIdeal.Sum.v83_at _ _ _ _ _ x1 x2 x3 x4 x0 h0 h1 h2 h3 h4 q).trans (Cert.KernelIdeal.Sum.fin7_at m c q).symm

include h0 h1 h2 h3 h4 in
/-- The device losses agree. -/
theorem eq_ld : val_main_v87 (F := Ideal) x1 x2 x3 x4 x0 = Cert.KernelIdeal.Run.fin8 m c :=
  ext1 fun q => (Cert.ReferenceIdeal.Sum.v87_at _ _ _ _ _ x1 x2 x3 x4 x0 h0 h1 h2 h3 h4 q).trans (Cert.KernelIdeal.Sum.fin8_at m c q).symm

include h0 h1 h2 h3 h4 in
/-- The communication losses agree. -/
theorem eq_lc : val_main_v91 (F := Ideal) x1 x2 x3 x4 x0 = Cert.KernelIdeal.Run.fin9 m c :=
  ext1 fun q => (Cert.ReferenceIdeal.Sum.v91_at _ _ _ _ _ x1 x2 x3 x4 x0 h0 h1 h2 h3 h4 q).trans (Cert.KernelIdeal.Sum.fin9_at m c q).symm

include h0 h1 h2 h4 in
/-- The mean probabilities agree. -/
theorem eq_P : val_main_v34 (F := Ideal) x1 x2 x4 x0 = Cert.KernelIdeal.Run.fin10 m c :=
  ext2 fun q e => (Cert.ReferenceIdeal.Sum.v34_at _ _ _ _ x1 x2 x4 x0 h0 h1 h2 h4 q e).trans (Cert.KernelIdeal.Sum.fin10_at m c q e).symm

include h3 h4 in
/-- The expert counts agree. -/
theorem eq_cnt : val_main_v50 (F := Ideal) x3 x4 = Cert.KernelIdeal.Run.fin11 m c :=
  ext2 fun q e => (Cert.ReferenceIdeal.Sum.v50_at _ _ x3 x4 h3 h4 q e).trans (Cert.KernelIdeal.Sum.fin11_at m c q e).symm

include h3 h4 in
/-- The device counts agree. -/
theorem eq_dev : val_main_v57 (F := Ideal) x3 x4 = Cert.KernelIdeal.Run.fin12 m c :=
  ext2 fun q d => (Cert.ReferenceIdeal.Sum.v57_at _ _ x3 x4 h3 h4 q d).trans (Cert.KernelIdeal.Sum.fin12_at m c q d).symm

include h0 h1 h2 h3 h4 in
/-- The gradients agree where every sequence word is below five. -/
theorem eq_dz (hp : ∀ t, (aSg m c t).toInt < 5) : val_main_v123 (F := Ideal) x1 x2 x3 x4 x0 = Cert.KernelIdeal.Run.fin6 m c :=
  ext2 fun e t => by
    rcases word_cases _ (hp t) with hq | ⟨q, hq⟩
    · exact (Cert.ReferenceIdeal.Sum.v123_none _ _ _ _ _ x1 x2 x3 x4 x0 h0 h1 h2 h3 h4 t e hq).trans (Cert.KernelIdeal.Sum.fin6_none m c e t hq).symm
    · exact (Cert.ReferenceIdeal.Sum.v123_seq _ _ _ _ _ x1 x2 x3 x4 x0 h0 h1 h2 h3 h4 t e q hq).trans (Cert.KernelIdeal.Sum.fin6_seq m c q e t hq).symm

end Cert.Final
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal.Frame
public import proofs.«01_k».proof.Proof.KRun.Frame
public import proofs.«01_k».proof.Proof.Sum.Final
public import Idealize.ShloMosaic.Adequacy
public import Idealize.ShloMosaic.Init

@[expose] public section

noncomputable section

namespace Cert.Proof

open Idealize.ShloMosaic Idealize.SL.Sem

set_option maxRecDepth 100000 in
set_option smartUnfolding false in
/-- The body table of the two readings of the kernel is one and the same: both are printed from one program. -/
theorem defs₀_eq [h1 : Cert.Kernel.Facts] [h2 : Cert.KernelIdeal.Facts] :
    Cert.Kernel.defs₀ (F := Bits) = Cert.KernelIdeal.defs₀ (F := Bits) := rfl

set_option maxRecDepth 100000 in
set_option smartUnfolding false in
/-- The run of the kernel at machine floats: the run proved for every reading of the floats, read at machine floats. -/
theorem kernel_frame : quiescent_Kernel (hKernel := Cert.Kernel.Gen.facts) :=
  fun m g _ => Cert.KernelIdeal.Run.frame (F := Bits) m g

/-- Kernel and reference, on equal arguments whose sequence words are below five, end with the same seven results. -/
theorem algebraic : algebraic_KernelIdeal_ReferenceIdeal_pre_pre (hKernelIdeal := Cert.KernelIdeal.Gen.facts)
    (hReferenceIdeal := Cert.ReferenceIdeal.Gen.facts) (hPre_pre := Cert.Final.pre_facts) := by
  intro m g m' g' hpre hargs
  haveI := Cert.Final.pre_facts
  refine ⟨fun c => Cert.KernelIdeal.Run.fin6 m c, fun c => Cert.KernelIdeal.Run.fin7 m c, fun c => Cert.KernelIdeal.Run.fin8 m c,
    fun c => Cert.KernelIdeal.Run.fin9 m c, fun c => Cert.KernelIdeal.Run.fin10 m c, fun c => Cert.KernelIdeal.Run.fin11 m c,
    fun c => Cert.KernelIdeal.Run.fin12 m c, Cert.KernelIdeal.Run.run m g, ?_⟩
  refine (θ_run _ _ _).mono (fun r h c => ?_) (Cert.ReferenceIdeal.Sum.run_at m' g')
  obtain ⟨r0, r1, r2, r3, r4, r5, r6, ra⟩ := h c
  obtain ⟨e0, e1, e2, e3, e4⟩ := hargs c
  have h0 : ∀ t k, (Cert.ReferenceIdeal.Sum.wide m' c : Vec Ideal Cert.KernelIdeal.S2048x12288 .bf16) (ix2 t k) = Cert.KernelIdeal.Sum.aX m c t k :=
    fun t k => congrFun e0 (ix2 t k)
  have h1 : ∀ t, (m' ((c.tc : Thread Cert.ReferenceIdeal.nD Cert.ReferenceIdeal.τ).loc Cert.ReferenceIdeal.main_arg1) : Vec Ideal Cert.KernelIdeal.S2048 .f32) (ix1 t)
      = Cert.KernelIdeal.Sum.aSc m c t := fun t => congrFun e1 (ix1 t)
  have h2 : ∀ e k, (m' ((c.tc : Thread Cert.ReferenceIdeal.nD Cert.ReferenceIdeal.τ).loc Cert.ReferenceIdeal.main_arg2) : Vec Ideal Cert.KernelIdeal.S12288x160 .bf16) (ix2 k e)
      = Cert.KernelIdeal.Sum.aW m c e k := fun e k => congrFun e2 (ix2 k e)
  have h3 : ∀ t k, (m' ((c.tc : Thread Cert.ReferenceIdeal.nD Cert.ReferenceIdeal.τ).loc Cert.ReferenceIdeal.main_arg3) : Vec Ideal Cert.KernelIdeal.S2048x6 .i32) (ix2 t k)
      = Cert.KernelIdeal.Sum.aIds m c t k := fun t k => congrFun e3 (ix2 t k)
  have h4 : ∀ t, (m' ((c.tc : Thread Cert.ReferenceIdeal.nD Cert.ReferenceIdeal.τ).loc Cert.ReferenceIdeal.main_arg4) : Vec Ideal Cert.KernelIdeal.S2048 .i32) (ix1 t)
      = Cert.KernelIdeal.Sum.aSg m c t := fun t => congrFun e4 (ix1 t)
  have hp : ∀ t, (Cert.KernelIdeal.Sum.aSg m c t).toInt < 5 := fun t => Cert.Final.pre_lt _ _ _ _ _ (hpre c) t
  exact ⟨r0.trans (Cert.Final.eq_dz m c _ _ _ _ _ h0 h1 h2 h3 h4 hp), r1.trans (Cert.Final.eq_le m c _ _ _ _ _ h0 h1 h2 h3 h4),
    r2.trans (Cert.Final.eq_ld m c _ _ _ _ _ h0 h1 h2 h3 h4), r3.trans (Cert.Final.eq_lc m c _ _ _ _ _ h0 h1 h2 h3 h4),
    r4.trans (Cert.Final.eq_P m c _ _ _ _ h0 h1 h2 h4), r5.trans (Cert.Final.eq_cnt m c _ _ h3 h4),
    r6.trans (Cert.Final.eq_dev m c _ _ h3 h4), ra⟩

/-- The whole certificate: the runs of the three programs, the kernel read at ideal floats, and the equality of the results. -/
theorem claim : Cert.Claim :=
  ⟨Cert.Kernel.Gen.facts, Cert.KernelIdeal.Gen.facts, Cert.ReferenceIdeal.Gen.facts, Cert.Final.pre_facts,
    kernel_frame, fun m g _ => Cert.KernelIdeal.Run.frame m g, fun m g _ => Cert.KernelIdeal.Run.frame m g,
    fun m g _ => Cert.ReferenceIdeal.Gen.frame m g, fun m g _ => Cert.ReferenceIdeal.Gen.frame m g, trivial, algebraic⟩

end Cert.Proof

end
